-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_LastSample (m : (ℓ : Loc Cert.LastSample.nD Cert.LastSample.τ Cert.LastSample.sig) → Buf (Elt Bits) ℓ) : Prop :=
  True

def Pre_LastSampleIdeal (m : (ℓ : Loc Cert.LastSampleIdeal.nD Cert.LastSampleIdeal.τ Cert.LastSampleIdeal.sig) → Buf (Elt Ideal) ℓ) : Prop :=
  True

def Pre_LastSampleReferenceIdeal (m : (ℓ : Loc Cert.LastSampleReferenceIdeal.nD Cert.LastSampleReferenceIdeal.τ Cert.LastSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_LastSample [hLastSample : Cert.LastSample.Facts] : Prop :=
  ∀ (m : (ℓ : Loc Cert.LastSample.nD Cert.LastSample.τ Cert.LastSample.sig) → Buf (Elt Bits) ℓ) (g : Dev Cert.LastSample.nD → PrngReg), Pre_LastSample m →
    θ_run (Cert.LastSample.defs (F := Bits)) (onTc (τ := Cert.LastSample.τ) (Cert.LastSample.main (F := Bits))) ⟨m, fun _ => 0, g⟩ (fun r => (∀ c : Dev Cert.LastSample.nD,
      r.2.mem ((c.tc : Thread Cert.LastSample.nD Cert.LastSample.τ).loc Cert.LastSample.main_arg0) = m ((c.tc : Thread Cert.LastSample.nD Cert.LastSample.τ).loc Cert.LastSample.main_arg0)
      ∧ r.2.mem ((c.tc : Thread Cert.LastSample.nD Cert.LastSample.τ).loc Cert.LastSample.main_arg1) = m ((c.tc : Thread Cert.LastSample.nD Cert.LastSample.τ).loc Cert.LastSample.main_arg1)
      ∧ r.2.mem ((c.tc : Thread Cert.LastSample.nD Cert.LastSample.τ).loc Cert.LastSample.main_arg2) = m ((c.tc : Thread Cert.LastSample.nD Cert.LastSample.τ).loc Cert.LastSample.main_arg2)
      ∧ r.2.mem ((c.tc : Thread Cert.LastSample.nD Cert.LastSample.τ).loc Cert.LastSample.main_arg3) = m ((c.tc : Thread Cert.LastSample.nD Cert.LastSample.τ).loc Cert.LastSample.main_arg3)
      ∧ r.2.mem ((c.tc : Thread Cert.LastSample.nD Cert.LastSample.τ).loc Cert.LastSample.main_arg4) = m ((c.tc : Thread Cert.LastSample.nD Cert.LastSample.τ).loc Cert.LastSample.main_arg4))
      ∧ r.2.sem = fun _ => 0)

def quiescent_LastSampleIdeal [hLastSampleIdeal : Cert.LastSampleIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg), Pre_LastSampleIdeal m →
    θ_run (Cert.LastSampleIdeal.defs (F := Ideal)) (onTc (τ := Cert.LastSampleIdeal.τ) (Cert.LastSampleIdeal.main (F := Ideal))) ⟨m, fun _ => 0, g⟩ (fun r => (∀ c : Dev Cert.LastSampleIdeal.nD,
      r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
      ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
      ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
      ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
      ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4))
      ∧ r.2.sem = fun _ => 0)

def quiescent_LastSampleReferenceIdeal [hLastSampleReferenceIdeal : Cert.LastSampleReferenceIdeal.Facts] : Prop :=
  ∀ (m : (ℓ : Loc Cert.LastSampleReferenceIdeal.nD Cert.LastSampleReferenceIdeal.τ Cert.LastSampleReferenceIdeal.sig) → Buf (Elt Ideal) ℓ) (g : Dev Cert.LastSampleReferenceIdeal.nD → PrngReg), Pre_LastSampleReferenceIdeal m →
    θ_run (Cert.LastSampleReferenceIdeal.defs (F := Ideal)) (onTc (τ := Cert.LastSampleReferenceIdeal.τ) (Cert.LastSampleReferenceIdeal.main (F := Ideal))) ⟨m, fun _ => 0, g⟩ (fun r => (∀ c : Dev Cert.LastSampleReferenceIdeal.nD,
      r.2.mem ((c.tc : Thread Cert.LastSampleReferenceIdeal.nD Cert.LastSampleReferenceIdeal.τ).loc Cert.LastSampleReferenceIdeal.main_arg0) = m ((c.tc : Thread Cert.LastSampleReferenceIdeal.nD Cert.LastSampleReferenceIdeal.τ).loc Cert.LastSampleReferenceIdeal.main_arg0)
      ∧ r.2.mem ((c.tc : Thread Cert.LastSampleReferenceIdeal.nD Cert.LastSampleReferenceIdeal.τ).loc Cert.LastSampleReferenceIdeal.main_arg1) = m ((c.tc : Thread Cert.LastSampleReferenceIdeal.nD Cert.LastSampleReferenceIdeal.τ).loc Cert.LastSampleReferenceIdeal.main_arg1)
      ∧ r.2.mem ((c.tc : Thread Cert.LastSampleReferenceIdeal.nD Cert.LastSampleReferenceIdeal.τ).loc Cert.LastSampleReferenceIdeal.main_arg2) = m ((c.tc : Thread Cert.LastSampleReferenceIdeal.nD Cert.LastSampleReferenceIdeal.τ).loc Cert.LastSampleReferenceIdeal.main_arg2)
      ∧ r.2.mem ((c.tc : Thread Cert.LastSampleReferenceIdeal.nD Cert.LastSampleReferenceIdeal.τ).loc Cert.LastSampleReferenceIdeal.main_arg3) = m ((c.tc : Thread Cert.LastSampleReferenceIdeal.nD Cert.LastSampleReferenceIdeal.τ).loc Cert.LastSampleReferenceIdeal.main_arg3)
      ∧ r.2.mem ((c.tc : Thread Cert.LastSampleReferenceIdeal.nD Cert.LastSampleReferenceIdeal.τ).loc Cert.LastSampleReferenceIdeal.main_arg4) = m ((c.tc : Thread Cert.LastSampleReferenceIdeal.nD Cert.LastSampleReferenceIdeal.τ).loc Cert.LastSampleReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v3)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v3) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v22) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def preserves_InProj_InProjIdeal : Prop :=
  IdealRules.named_const.Statement Cert.InProjIdeal.κ "q_scale" .f32 0x3E38AA3B#32 (((8 * (Real.log 2))⁻¹ : ℝ) : EReal)

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v25) = v0 c
          ∧ r.2.mem ((c.tc : Thread Cert.InProjReferenceIdeal.nD Cert.InProjReferenceIdeal.τ).loc Cert.InProjReferenceIdeal.main_v33) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_v17) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_LastSample_LastSampleIdeal : Prop :=
  True

def algebraic_LastSampleIdeal_LastSampleReferenceIdeal [hLastSampleIdeal : Cert.LastSampleIdeal.Facts] [hLastSampleReferenceIdeal : Cert.LastSampleReferenceIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg)
    (m' : (ℓ : Loc Cert.LastSampleReferenceIdeal.nD Cert.LastSampleReferenceIdeal.τ Cert.LastSampleReferenceIdeal.sig) → Buf (Elt Ideal) ℓ) (g' : Dev Cert.LastSampleReferenceIdeal.nD → PrngReg), Pre_LastSampleIdeal m →
    (∀ c : Dev Cert.LastSampleIdeal.nD,
      m' ((c.tc : Thread Cert.LastSampleReferenceIdeal.nD Cert.LastSampleReferenceIdeal.τ).loc Cert.LastSampleReferenceIdeal.main_arg0) = m ((c.tc : Thread Cert.LastSampleIdeal.nD Cert.LastSampleIdeal.τ).loc Cert.LastSampleIdeal.main_arg0)
      ∧ m' ((c.tc : Thread Cert.LastSampleReferenceIdeal.nD Cert.LastSampleReferenceIdeal.τ).loc Cert.LastSampleReferenceIdeal.main_arg1) = m ((c.tc : Thread Cert.LastSampleIdeal.nD Cert.LastSampleIdeal.τ).loc Cert.LastSampleIdeal.main_arg1)
      ∧ m' ((c.tc : Thread Cert.LastSampleReferenceIdeal.nD Cert.LastSampleReferenceIdeal.τ).loc Cert.LastSampleReferenceIdeal.main_arg2) = m ((c.tc : Thread Cert.LastSampleIdeal.nD Cert.LastSampleIdeal.τ).loc Cert.LastSampleIdeal.main_arg2)
      ∧ m' ((c.tc : Thread Cert.LastSampleReferenceIdeal.nD Cert.LastSampleReferenceIdeal.τ).loc Cert.LastSampleReferenceIdeal.main_arg3) = m ((c.tc : Thread Cert.LastSampleIdeal.nD Cert.LastSampleIdeal.τ).loc Cert.LastSampleIdeal.main_arg3)
      ∧ m' ((c.tc : Thread Cert.LastSampleReferenceIdeal.nD Cert.LastSampleReferenceIdeal.τ).loc Cert.LastSampleReferenceIdeal.main_arg4) = m ((c.tc : Thread Cert.LastSampleIdeal.nD Cert.LastSampleIdeal.τ).loc Cert.LastSampleIdeal.main_arg4)) →
    ∃ (v0 : (c : Dev Cert.LastSampleIdeal.nD) → Buf (Elt Ideal) ((c.tc : Thread Cert.LastSampleIdeal.nD Cert.LastSampleIdeal.τ).loc Cert.LastSampleIdeal.main_v3)),
      θ_run (Cert.LastSampleIdeal.defs (F := Ideal)) (onTc (τ := Cert.LastSampleIdeal.τ) (Cert.LastSampleIdeal.main (F := Ideal))) ⟨m, fun _ => 0, g⟩ (fun r => ∀ c : Dev Cert.LastSampleIdeal.nD,
          r.2.mem ((c.tc : Thread Cert.LastSampleIdeal.nD Cert.LastSampleIdeal.τ).loc Cert.LastSampleIdeal.main_v3) = v0 c
          ∧ r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
          ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
          ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
          ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
          ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4))
      ∧ θ_run (Cert.LastSampleReferenceIdeal.defs (F := Ideal)) (onTc (τ := Cert.LastSampleReferenceIdeal.τ) (Cert.LastSampleReferenceIdeal.main (F := Ideal))) ⟨m', fun _ => 0, g'⟩ (fun r => ∀ c : Dev Cert.LastSampleReferenceIdeal.nD,
          r.2.mem ((c.tc : Thread Cert.LastSampleReferenceIdeal.nD Cert.LastSampleReferenceIdeal.τ).loc Cert.LastSampleReferenceIdeal.main_v22) = v0 c
          ∧ r.2.mem ((c.tc : Thread Cert.LastSampleReferenceIdeal.nD Cert.LastSampleReferenceIdeal.τ).loc Cert.LastSampleReferenceIdeal.main_arg0) = m' ((c.tc : Thread Cert.LastSampleReferenceIdeal.nD Cert.LastSampleReferenceIdeal.τ).loc Cert.LastSampleReferenceIdeal.main_arg0)
          ∧ r.2.mem ((c.tc : Thread Cert.LastSampleReferenceIdeal.nD Cert.LastSampleReferenceIdeal.τ).loc Cert.LastSampleReferenceIdeal.main_arg1) = m' ((c.tc : Thread Cert.LastSampleReferenceIdeal.nD Cert.LastSampleReferenceIdeal.τ).loc Cert.LastSampleReferenceIdeal.main_arg1)
          ∧ r.2.mem ((c.tc : Thread Cert.LastSampleReferenceIdeal.nD Cert.LastSampleReferenceIdeal.τ).loc Cert.LastSampleReferenceIdeal.main_arg2) = m' ((c.tc : Thread Cert.LastSampleReferenceIdeal.nD Cert.LastSampleReferenceIdeal.τ).loc Cert.LastSampleReferenceIdeal.main_arg2)
          ∧ r.2.mem ((c.tc : Thread Cert.LastSampleReferenceIdeal.nD Cert.LastSampleReferenceIdeal.τ).loc Cert.LastSampleReferenceIdeal.main_arg3) = m' ((c.tc : Thread Cert.LastSampleReferenceIdeal.nD Cert.LastSampleReferenceIdeal.τ).loc Cert.LastSampleReferenceIdeal.main_arg3)
          ∧ r.2.mem ((c.tc : Thread Cert.LastSampleReferenceIdeal.nD Cert.LastSampleReferenceIdeal.τ).loc Cert.LastSampleReferenceIdeal.main_arg4) = m' ((c.tc : Thread Cert.LastSampleReferenceIdeal.nD Cert.LastSampleReferenceIdeal.τ).loc Cert.LastSampleReferenceIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hLast : Cert.Last.Facts) (hLastIdeal : Cert.LastIdeal.Facts) (hLastReferenceIdeal : Cert.LastReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hLastSample : Cert.LastSample.Facts) (hLastSampleIdeal : Cert.LastSampleIdeal.Facts) (hLastSampleReferenceIdeal : Cert.LastSampleReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Last (hLast := hLast)
    ∧ quiescent_LastIdeal (hLastIdeal := hLastIdeal)
    ∧ quiescent_LastReferenceIdeal (hLastReferenceIdeal := hLastReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_LastSample (hLastSample := hLastSample)
    ∧ quiescent_LastSampleIdeal (hLastSampleIdeal := hLastSampleIdeal)
    ∧ quiescent_LastSampleReferenceIdeal (hLastSampleReferenceIdeal := hLastSampleReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Last_LastIdeal
    ∧ algebraic_LastIdeal_LastReferenceIdeal (hLastIdeal := hLastIdeal) (hLastReferenceIdeal := hLastReferenceIdeal)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_LastSample_LastSampleIdeal
    ∧ algebraic_LastSampleIdeal_LastSampleReferenceIdeal (hLastSampleIdeal := hLastSampleIdeal) (hLastSampleReferenceIdeal := hLastSampleReferenceIdeal)
-- ==== Pre_finite.lean ====
abbrev S8x4096x3072 : Shape := ⟨3, ![8, 4096, 3072]⟩
abbrev S32x8 : Shape := ⟨2, ![32, 8]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S8x4096x3072 : S_.BroadcastsInDim S8x4096x3072 (![] : Fin 0 → Fin S8x4096x3072.rank)
  bcast_S_S32x8 : S_.BroadcastsInDim S32x8 (![] : Fin 0 → Fin S32x8.rank)
  bcast_S_S64 : S_.BroadcastsInDim S64 (![] : Fin 0 → Fin S64.rank)

variable [Facts]

def fn_part1 {F : FTy → Type} [FloatOps F] (main_v3 : IVec S8x4096x3072 1) (main_v6 : IVec S32x8 1) (main_v9 : IVec S64 1) (main_v12 : IVec S64 1) (main_v15 : IVec S64 1) (main_v16 : FVec F S64 .f32) (main_v17 : FVec F S64 .f32) : IVec S8x4096x3072 1 × IVec S32x8 1 × IVec S64 1 × IVec S64 1 × IVec S64 1 × IVec S64 1 :=
  let main_v18 : IVec S64 1 := cmpf .olt main_v16 main_v17
  (main_v3, main_v6, main_v9, main_v12, main_v15, main_v18)

def fn {F : FTy → Type} [FloatOps F] (main_arg0 : FVec F S8x4096x3072 .bf16) (main_arg1 : FVec F S32x8 .f32) (main_arg2 : FVec F S64 .f32) (main_arg3 : FVec F S64 .f32) (main_arg4 : FVec F S64 .f32) (main_arg5 : FVec F S64 .f32) (main_arg6 : FVec F S128 .f32) : IVec S8x4096x3072 1 × IVec S32x8 1 × IVec S64 1 × IVec S64 1 × IVec S64 1 × IVec S64 1 :=
  let main_v0 : FVec F S8x4096x3072 .f32 := (extf .f32 · bitsLt_bf16_f32) main_arg0
  let main_v1 : FVec F S8x4096x3072 .f32 := Host.absf main_v0
  let main_cst : FVec F S_ .f32 := constant S_ .f32 0x7F800000#32
  let main_v2 : FVec F S8x4096x3072 .f32 := broadcastInDim S8x4096x3072 ![] bcast_S_S8x4096x3072 main_cst
  let main_v3 : IVec S8x4096x3072 1 := cmpf .olt main_v1 main_v2
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_v7 : FVec F S64 .f32 := Host.absf main_arg2
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : FVec F S64 .f32 := Host.absf main_arg3
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_v13 : FVec F S64 .f32 := Host.absf main_arg4
  let main_cst_3 : FVec F S_ .f32 := constant S_ .f32 0x7F800000#32
  let main_v14 : FVec F S64 .f32 := broadcastInDim S64 ![] bcast_S_S64 main_cst_3
  let main_v15 : IVec S64 1 := cmpf .olt main_v13 main_v14
  let main_v16 : FVec F S64 .f32 := Host.absf main_arg5
  let main_cst_4 : FVec F S_ .f32 := constant S_ .f32 0x7F800000#32
  let main_v17 : FVec F S64 .f32 := broadcastInDim S64 ![] bcast_S_S64 main_cst_4
  fn_part1 (F := F) main_v3 main_v6 main_v9 main_v12 main_v15 main_v16 main_v17
-- ==== Kernel.lean ====
abbrev S8x4096x3072 : Shape := ⟨3, ![8, 4096, 3072]⟩
abbrev S32x8 : Shape := ⟨2, ![32, 8]⟩
abbrev S64 : Shape := ⟨1, ![64]⟩
abbrev S128 : Shape := ⟨1, ![128]⟩
abbrev S3072 : Shape := ⟨1, ![3072]⟩
abbrev S_ : Shape := ⟨0, ![]⟩
abbrev S3072x1 : Shape := ⟨2, ![3072, 1]⟩
abbrev S3072x8 : Shape := ⟨2, ![3072, 8]⟩
abbrev S8x3072 : Shape := ⟨2, ![8, 3072]⟩
abbrev S8x1 : Shape := ⟨2, ![8, 1]⟩
abbrev S8x1x1 : Shape := ⟨3, ![8, 1, 1]⟩
abbrev S8x2x1 : Shape := ⟨3, ![8, 2, 1]⟩
abbrev S8x2x1x1 : Shape := ⟨4, ![8, 2, 1, 1]⟩
abbrev S8x2x1x128 : Shape := ⟨4, ![8, 2, 1, 128]⟩
abbrev S8x512 : Shape := ⟨2, ![8, 512]⟩
abbrev S8x1024 : Shape := ⟨2, ![8, 1024]⟩
abbrev S1x8x1x1024 : Shape := ⟨4, ![1, 8, 1, 1024]⟩
abbrev S1x8x512x1024 : Shape := ⟨4, ![1, 8, 512, 1024]⟩
abbrev S8x524288 : Shape := ⟨2, ![8, 524288]⟩
abbrev S8x523776 : Shape := ⟨2, ![8, 523776]⟩
abbrev S8x512x1023 : Shape := ⟨3, ![8, 512, 1023]⟩
abbrev S8x512x512 : Shape := ⟨3, ![8, 512, 512]⟩
abbrev S8x1x512x512 : Shape := ⟨4, ![8, 1, 512, 512]⟩
abbrev S8x5x512x512 : Shape := ⟨4, ![8, 5, 512, 512]⟩
abbrev S1x64 : Shape := ⟨2, ![1, 64]⟩
abbrev S1x128 : Shape := ⟨2, ![1, 128]⟩
abbrev S8x4096x1024 : Shape := ⟨3, ![8, 4096, 1024]⟩
abbrev S1x512x128 : Shape := ⟨3, ![1, 512, 128]⟩
abbrev S1x4096x128 : Shape := ⟨3, ![1, 4096, 128]⟩
abbrev S1x5x512x512 : Shape := ⟨4, ![1, 5, 512, 512]⟩
abbrev S1x2x1x128 : Shape := ⟨4, ![1, 2, 1, 128]⟩
abbrev S1024x128 : Shape := ⟨2, ![1024, 128]⟩
abbrev S1024x256 : Shape := ⟨2, ![1024, 256]⟩
abbrev S2x1024x1024 : Shape := ⟨3, ![2, 1024, 1024]⟩
abbrev S2x1024x128 : Shape := ⟨3, ![2, 1024, 128]⟩
abbrev S512x128 : Shape := ⟨2, ![512, 128]⟩
abbrev S1x1024x128 : Shape := ⟨3, ![1, 1024, 128]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩
abbrev S1x1x1x128 : Shape := ⟨4, ![1, 1, 1, 128]⟩
abbrev S1024x512 : Shape := ⟨2, ![1024, 512]⟩
abbrev S1x1x512x512 : Shape := ⟨4, ![1, 1, 512, 512]⟩
abbrev S512x512 : Shape := ⟨2, ![512, 512]⟩
abbrev S1x1024x512 : Shape := ⟨3, ![1, 1024, 512]⟩
abbrev S512x256 : Shape := ⟨2, ![512, 256]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 119
  | .vmem => 24
  | .smem => 0
  | _ => 0

abbrev bufTy : (tb : Table) → Fin (tcTables nBuf tb) → BufTy
  | .hbm, ⟨0, _⟩ => ⟨S8x4096x3072, .bf16⟩
  | .hbm, ⟨1, _⟩ => ⟨S32x8, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S3072, .i32⟩
  | .hbm, ⟨8, _⟩ => ⟨S_, .i32⟩
  | .hbm, ⟨9, _⟩ => ⟨S3072, .i32⟩
  | .hbm, ⟨10, _⟩ => ⟨S3072, .i32⟩
  | .hbm, ⟨11, _⟩ => ⟨S_, .i32⟩
  | .hbm, ⟨12, _⟩ => ⟨S3072, .i32⟩
  | .hbm, ⟨13, _⟩ => ⟨S3072, .i1⟩
  | .hbm, ⟨14, _⟩ => ⟨S3072, .i32⟩
  | .hbm, ⟨15, _⟩ => ⟨S_, .i32⟩
  | .hbm, ⟨16, _⟩ => ⟨S3072, .i32⟩
  | .hbm, ⟨17, _⟩ => ⟨S3072, .i32⟩
  | .hbm, ⟨18, _⟩ => ⟨S3072, .i32⟩
  | .hbm, ⟨19, _⟩ => ⟨S_, .i32⟩
  | .hbm, ⟨20, _⟩ => ⟨S3072, .i32⟩
  | .hbm, ⟨21, _⟩ => ⟨S3072, .i32⟩
  | .hbm, ⟨22, _⟩ => ⟨S3072, .f32⟩
  | .hbm, ⟨23, _⟩ => ⟨S_, .f32⟩
  | .hbm, ⟨24, _⟩ => ⟨S3072, .f32⟩
  | .hbm, ⟨25, _⟩ => ⟨S3072, .f32⟩
  | .hbm, ⟨26, _⟩ => ⟨S3072, .f32⟩
  | .hbm, ⟨27, _⟩ => ⟨S_, .f32⟩
  | .hbm, ⟨28, _⟩ => ⟨S3072, .f32⟩
  | .hbm, ⟨29, _⟩ => ⟨S3072, .f32⟩
  | .hbm, ⟨30, _⟩ => ⟨S_, .f32⟩
  | .hbm, ⟨31, _⟩ => ⟨S3072, .f32⟩
  | .hbm, ⟨32, _⟩ => ⟨S3072, .f32⟩
  | .hbm, ⟨33, _⟩ => ⟨S3072, .i32⟩
  | .hbm, ⟨34, _⟩ => ⟨S_, .i32⟩
  | .hbm, ⟨35, _⟩ => ⟨S3072, .i32⟩
  | .hbm, ⟨36, _⟩ => ⟨S3072, .i32⟩
  | .hbm, ⟨37, _⟩ => ⟨S_, .i32⟩
  | .hbm, ⟨38, _⟩ => ⟨S3072, .i32⟩
  | .hbm, ⟨39, _⟩ => ⟨S3072, .i32⟩
  | .hbm, ⟨40, _⟩ => ⟨S_, .i32⟩
  | .hbm, ⟨41, _⟩ => ⟨S3072, .i32⟩
  | .hbm, ⟨42, _⟩ => ⟨S3072, .i1⟩
  | .hbm, ⟨43, _⟩ => ⟨S3072, .i32⟩
  | .hbm, ⟨44, _⟩ => ⟨S3072, .i32⟩
  | .hbm, ⟨45, _⟩ => ⟨S_, .i32⟩
  | .hbm, ⟨46, _⟩ => ⟨S3072, .i32⟩
  | .hbm, ⟨47, _⟩ => ⟨S3072, .i1⟩
  | .hbm, ⟨48, _⟩ => ⟨S_, .i32⟩
  | .hbm, ⟨49, _⟩ => ⟨S3072, .i32⟩
  | .hbm, ⟨50, _⟩ => ⟨S3072, .i32⟩
  | .hbm, ⟨51, _⟩ => ⟨S3072, .i32⟩
  | .hbm, ⟨52, _⟩ => ⟨S3072x1, .i32⟩
  | .hbm, ⟨53, _⟩ => ⟨S3072x8, .f32⟩
  | .hbm, ⟨54, _⟩ => ⟨S8x3072, .f32⟩
  | .hbm, ⟨55, _⟩ => ⟨S8x1, .f32⟩
  | .hbm, ⟨56, _⟩ => ⟨S8x1, .f32⟩
  | .hbm, ⟨57, _⟩ => ⟨S8x1x1, .f32⟩
  | .hbm, ⟨58, _⟩ => ⟨S8x1x1, .f32⟩
  | .hbm, ⟨59, _⟩ => ⟨S8x2x1, .f32⟩
  | .hbm, ⟨60, _⟩ => ⟨S8x2x1x1, .f32⟩
  | .hbm, ⟨61, _⟩ => ⟨S8x2x1x128, .f32⟩
  | .hbm, ⟨62, _⟩ => ⟨S8x512, .f32⟩
  | .hbm, ⟨63, _⟩ => ⟨S8x512, .f32⟩
  | .hbm, ⟨64, _⟩ => ⟨S8x1024, .f32⟩
  | .hbm, ⟨65, _⟩ => ⟨S1x8x1x1024, .f32⟩
  | .hbm, ⟨66, _⟩ => ⟨S1x8x512x1024, .f32⟩
  | .hbm, ⟨67, _⟩ => ⟨S8x524288, .f32⟩
  | .hbm, ⟨68, _⟩ => ⟨S8x523776, .f32⟩
  | .hbm, ⟨69, _⟩ => ⟨S8x512x1023, .f32⟩
  | .hbm, ⟨70, _⟩ => ⟨S8x512x512, .f32⟩
  | .hbm, ⟨71, _⟩ => ⟨S8x512, .f32⟩
  | .hbm, ⟨72, _⟩ => ⟨S8x512, .f32⟩
  | .hbm, ⟨73, _⟩ => ⟨S8x1024, .f32⟩
  | .hbm, ⟨74, _⟩ => ⟨S1x8x1x1024, .f32⟩
  | .hbm, ⟨75, _⟩ => ⟨S1x8x512x1024, .f32⟩
  | .hbm, ⟨76, _⟩ => ⟨S8x524288, .f32⟩
  | .hbm, ⟨77, _⟩ => ⟨S8x523776, .f32⟩
  | .hbm, ⟨78, _⟩ => ⟨S8x512x1023, .f32⟩
  | .hbm, ⟨79, _⟩ => ⟨S8x512x512, .f32⟩
  | .hbm, ⟨80, _⟩ => ⟨S8x512, .f32⟩
  | .hbm, ⟨81, _⟩ => ⟨S8x512, .f32⟩
  | .hbm, ⟨82, _⟩ => ⟨S8x1024, .f32⟩
  | .hbm, ⟨83, _⟩ => ⟨S1x8x1x1024, .f32⟩
  | .hbm, ⟨84, _⟩ => ⟨S1x8x512x1024, .f32⟩
  | .hbm, ⟨85, _⟩ => ⟨S8x524288, .f32⟩
  | .hbm, ⟨86, _⟩ => ⟨S8x523776, .f32⟩
  | .hbm, ⟨87, _⟩ => ⟨S8x512x1023, .f32⟩
  | .hbm, ⟨88, _⟩ => ⟨S8x512x512, .f32⟩
  | .hbm, ⟨89, _⟩ => ⟨S8x512, .f32⟩
  | .hbm, ⟨90, _⟩ => ⟨S8x512, .f32⟩
  | .hbm, ⟨91, _⟩ => ⟨S8x1024, .f32⟩
  | .hbm, ⟨92, _⟩ => ⟨S1x8x1x1024, .f32⟩
  | .hbm, ⟨93, _⟩ => ⟨S1x8x512x1024, .f32⟩
  | .hbm, ⟨94, _⟩ => ⟨S8x524288, .f32⟩
  | .hbm, ⟨95, _⟩ => ⟨S8x523776, .f32⟩
  | .hbm, ⟨96, _⟩ => ⟨S8x512x1023, .f32⟩
  | .hbm, ⟨97, _⟩ => ⟨S8x512x512, .f32⟩
  | .hbm, ⟨98, _⟩ => ⟨S8x512, .f32⟩
  | .hbm, ⟨99, _⟩ => ⟨S8x512, .f32⟩
  | .hbm, ⟨100, _⟩ => ⟨S8x1024, .f32⟩
  | .hbm, ⟨101, _⟩ => ⟨S1x8x1x1024, .f32⟩
  | .hbm, ⟨102, _⟩ => ⟨S1x8x512x1024, .f32⟩
  | .hbm, ⟨103, _⟩ => ⟨S8x524288, .f32⟩
  | .hbm, ⟨104, _⟩ => ⟨S8x523776, .f32⟩
  | .hbm, ⟨105, _⟩ => ⟨S8x512x1023, .f32⟩
  | .hbm, ⟨106, _⟩ => ⟨S8x512x512, .f32⟩
  | .hbm, ⟨107, _⟩ => ⟨S8x1x512x512, .f32⟩
  | .hbm, ⟨108, _⟩ => ⟨S8x1x512x512, .f32⟩
  | .hbm, ⟨109, _⟩ => ⟨S8x1x512x512, .f32⟩
  | .hbm, ⟨110, _⟩ => ⟨S8x1x512x512, .f32⟩
  | .hbm, ⟨111, _⟩ => ⟨S8x1x512x512, .f32⟩
  | .hbm, ⟨112, _⟩ => ⟨S8x5x512x512, .f32⟩
  | .hbm, ⟨113, _⟩ => ⟨S1x64, .f32⟩
  | .hbm, ⟨114, _⟩ => ⟨S1x64, .f32⟩
  | .hbm, ⟨115, _⟩ => ⟨S1x64, .f32⟩
  | .hbm, ⟨116, _⟩ => ⟨S1x64, .f32⟩
  | .hbm, ⟨117, _⟩ => ⟨S1x128, .f32⟩
  | .hbm, ⟨118, _⟩ => ⟨S8x4096x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x5x512x512, .f32⟩
  | .local _ .vmem, ⟨7, _⟩ => ⟨S1x5x512x512, .f32⟩
  | .local _ .vmem, ⟨8, _⟩ => ⟨S1x2x1x128, .f32⟩
  | .local _ .vmem, ⟨9, _⟩ => ⟨S1x2x1x128, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S1x512x128, .bf16⟩
  | .local _ .vmem, ⟨16, _⟩ => ⟨S1x512x128, .bf16⟩
  | .local _ .vmem, ⟨17, _⟩ => ⟨S1024x128, .bf16⟩
  | .local _ .vmem, ⟨18, _⟩ => ⟨S1024x256, .f32⟩
  | .local _ .vmem, ⟨19, _⟩ => ⟨S1024x128, .f32⟩
  | .local _ .vmem, ⟨20, _⟩ => ⟨S1024x128, .f32⟩
  | .local _ .vmem, ⟨21, _⟩ => ⟨S2x1024x1024, .f32⟩
  | .local _ .vmem, ⟨22, _⟩ => ⟨S2x1024x1024, .bf16⟩
  | .local _ .vmem, ⟨23, _⟩ => ⟨S2x1024x128, .f32⟩
  | _, _ => ⟨S8x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_c_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![8, 8, 8], ![false, false, false]⟩

def k0_mult1 (i : grid0.Coords) : BitVec 32 :=
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c2_i32_20 : BitVec 32 := 2#32
  let c0_i32_23 : BitVec 32 := 0#32
  let v52 : BitVec 1 := Scalar.cmpi .sgt c2_i32_20 c0_i32_23
  let v53 : BitVec 32 := Scalar.extui v52
  let c0_i32_24 : BitVec 32 := 0#32
  let v54 : BitVec 1 := Scalar.cmpi .slt c2_i32_20 c0_i32_24
  let v55 : BitVec 32 := Scalar.extui v54
  let v56 : BitVec 32 := Scalar.subi v53 v55
  let v57 : BitVec 1 := Scalar.cmpi .ne v51 v56
  let v58 : BitVec 32 := Scalar.remsi v45 c2_i32_20
  let c0_i32_25 : BitVec 32 := 0#32
  let v59 : BitVec 1 := Scalar.cmpi .ne v58 c0_i32_25
  let v60 : BitVec 1 := Scalar.andi v57 v59
  let v46 : BitVec 32 := Scalar.divsi v45 c2_i32_20
  let c1_i32_26 : BitVec 32 := 1#32
  let v61 : BitVec 32 := Scalar.subi v46 c1_i32_26
  let v62 : BitVec 32 := Scalar.select v60 v61 v46
  let c0_i32_27 : BitVec 32 := 0#32
  let v63 : BitVec 1 := Scalar.cmpi .sgt v62 c0_i32_27
  let c0_i32_28 : BitVec 32 := 0#32
  let c2_i32_29 : BitVec 32 := 2#32
  let v64 : BitVec 32 := Scalar.select v63 c0_i32_28 c2_i32_29
  let c1024_i32 : BitVec 32 := 1024#32
  let v65 : BitVec 32 := Scalar.muli v64 c1024_i32
  v65
def k0_off1 (i : grid0.Coords) (c0_i32_27 : BitVec 32) (c0_i32_28 : BitVec 32) (c2_i32_29 : BitVec 32) : Fin 3 → Nat :=
  let c0_30 : Index := 0#32
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c2_i32_20 : BitVec 32 := 2#32
  let c0_i32_23 : BitVec 32 := 0#32
  let v52 : BitVec 1 := Scalar.cmpi .sgt c2_i32_20 c0_i32_23
  let v53 : BitVec 32 := Scalar.extui v52
  let c0_i32_24 : BitVec 32 := 0#32
  let v54 : BitVec 1 := Scalar.cmpi .slt c2_i32_20 c0_i32_24
  let v55 : BitVec 32 := Scalar.extui v54
  let v56 : BitVec 32 := Scalar.subi v53 v55
  let v57 : BitVec 1 := Scalar.cmpi .ne v51 v56
  let v58 : BitVec 32 := Scalar.remsi v45 c2_i32_20
  let c0_i32_25 : BitVec 32 := 0#32
  let v59 : BitVec 1 := Scalar.cmpi .ne v58 c0_i32_25
  let v60 : BitVec 1 := Scalar.andi v57 v59
  let v46 : BitVec 32 := Scalar.divsi v45 c2_i32_20
  let c1_i32_26 : BitVec 32 := 1#32
  let v61 : BitVec 32 := Scalar.subi v46 c1_i32_26
  let v62 : BitVec 32 := Scalar.select v60 v61 v46
  let v63 : BitVec 1 := Scalar.cmpi .sgt v62 c0_i32_27
  let v64 : BitVec 32 := Scalar.select v63 c0_i32_28 c2_i32_29
  let c1024_i32 : BitVec 32 := 1024#32
  let v65 : BitVec 32 := Scalar.muli v64 c1024_i32
  let v66 : BitVec 32 := v65
  let v67 : Index := Scalar.indexCast v66
  let c0_31 : Index := 0#32
  ![0, v67.toNat, 0]
def k0_off1_at (r : Fin 2) : BitVec 32 × BitVec 32 × BitVec 32 :=
  if r.val < 1 then
    (0#32, 0#32, 2#32)
  else
    (1#32, 1#32, 3#32)
def k0_mult2 (i : grid0.Coords) : BitVec 32 :=
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c2_i32_20 : BitVec 32 := 2#32
  let c0_i32_23 : BitVec 32 := 0#32
  let v52 : BitVec 1 := Scalar.cmpi .sgt c2_i32_20 c0_i32_23
  let v53 : BitVec 32 := Scalar.extui v52
  let c0_i32_24 : BitVec 32 := 0#32
  let v54 : BitVec 1 := Scalar.cmpi .slt c2_i32_20 c0_i32_24
  let v55 : BitVec 32 := Scalar.extui v54
  let v56 : BitVec 32 := Scalar.subi v53 v55
  let v57 : BitVec 1 := Scalar.cmpi .ne v51 v56
  let v58 : BitVec 32 := Scalar.remsi v45 c2_i32_20
  let c0_i32_25 : BitVec 32 := 0#32
  let v59 : BitVec 1 := Scalar.cmpi .ne v58 c0_i32_25
  let v60 : BitVec 1 := Scalar.andi v57 v59
  let v46 : BitVec 32 := Scalar.divsi v45 c2_i32_20
  let c1_i32_26 : BitVec 32 := 1#32
  let v61 : BitVec 32 := Scalar.subi v46 c1_i32_26
  let v62 : BitVec 32 := Scalar.select v60 v61 v46
  let c1_i32_42 : BitVec 32 := 1#32
  let v82 : BitVec 1 := Scalar.cmpi .sgt v62 c1_i32_42
  let c1_i32_43 : BitVec 32 := 1#32
  let c3_i32 : BitVec 32 := 3#32
  let v83 : BitVec 32 := Scalar.select v82 c1_i32_43 c3_i32
  let c1024_i32_44 : BitVec 32 := 1024#32
  let v84 : BitVec 32 := Scalar.muli v83 c1024_i32_44
  v84
def k0_mult3 (i : grid0.Coords) : BitVec 32 :=
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c2_i32_20 : BitVec 32 := 2#32
  let c0_i32_23 : BitVec 32 := 0#32
  let v52 : BitVec 1 := Scalar.cmpi .sgt c2_i32_20 c0_i32_23
  let v53 : BitVec 32 := Scalar.extui v52
  let c0_i32_24 : BitVec 32 := 0#32
  let v54 : BitVec 1 := Scalar.cmpi .slt c2_i32_20 c0_i32_24
  let v55 : BitVec 32 := Scalar.extui v54
  let v56 : BitVec 32 := Scalar.subi v53 v55
  let v57 : BitVec 1 := Scalar.cmpi .ne v51 v56
  let v58 : BitVec 32 := Scalar.remsi v45 c2_i32_20
  let c0_i32_25 : BitVec 32 := 0#32
  let v59 : BitVec 1 := Scalar.cmpi .ne v58 c0_i32_25
  let v60 : BitVec 1 := Scalar.andi v57 v59
  let v46 : BitVec 32 := Scalar.divsi v45 c2_i32_20
  let c1_i32_26 : BitVec 32 := 1#32
  let v61 : BitVec 32 := Scalar.subi v46 c1_i32_26
  let v62 : BitVec 32 := Scalar.select v60 v61 v46
  let c0_i32_84 : BitVec 32 := 0#32
  let v135 : BitVec 1 := Scalar.cmpi .sgt v62 c0_i32_84
  let c0_i32_85 : BitVec 32 := 0#32
  let c2_i32_86 : BitVec 32 := 2#32
  let v136 : BitVec 32 := Scalar.select v135 c0_i32_85 c2_i32_86
  let c1024_i32_87 : BitVec 32 := 1024#32
  let v137 : BitVec 32 := Scalar.muli v136 c1024_i32_87
  v137
def k0_mult4 (i : grid0.Coords) : BitVec 32 :=
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let c0_i32_101 : BitVec 32 := 0#32
  let v155 : BitVec 32 := Scalar.addi v45 c0_i32_101
  let c512_i32 : BitVec 32 := 512#32
  let v156 : BitVec 32 := Scalar.muli v155 c512_i32
  v156
def k0_off2 (i : grid0.Coords) (c0_i32_101 : BitVec 32) : Fin 3 → Nat :=
  let c0_102 : Index := 0#32
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let v155 : BitVec 32 := Scalar.addi v45 c0_i32_101
  let c512_i32 : BitVec 32 := 512#32
  let v156 : BitVec 32 := Scalar.muli v155 c512_i32
  let v157 : BitVec 32 := v156
  let v158 : Index := Scalar.indexCast v157
  let c0_103 : Index := 0#32
  ![0, v158.toNat, 0]
def k0_off3 (i : grid0.Coords) (c0_i32_107 : BitVec 32) : Fin 4 → Nat :=
  let c0_110 : Index := 0#32
  let c2_i32_108 : BitVec 32 := 2#32
  let c_m2_i32 : BitVec 32 := 4294967294#32
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let v163 : BitVec 32 := Scalar.addi v45 c0_i32_107
  let v164 : BitVec 32 := Scalar.subi v163 arg2
  let v165 : BitVec 32 := Scalar.maxsi c_m2_i32 v164
  let v166 : BitVec 32 := Scalar.minsi c2_i32_108 v165
  let c2_i32_109 : BitVec 32 := 2#32
  let v167 : BitVec 32 := Scalar.addi v166 c2_i32_109
  let v168 : Index := Scalar.indexCast v167
  let c0_111 : Index := 0#32
  let c0_112 : Index := 0#32
  ![0, v168.toNat, 0, 0]
def k0_mult5 (i : grid0.Coords) : BitVec 32 :=
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c2_i32_20 : BitVec 32 := 2#32
  let c0_i32_23 : BitVec 32 := 0#32
  let v52 : BitVec 1 := Scalar.cmpi .sgt c2_i32_20 c0_i32_23
  let v53 : BitVec 32 := Scalar.extui v52
  let c0_i32_24 : BitVec 32 := 0#32
  let v54 : BitVec 1 := Scalar.cmpi .slt c2_i32_20 c0_i32_24
  let v55 : BitVec 32 := Scalar.extui v54
  let v56 : BitVec 32 := Scalar.subi v53 v55
  let v57 : BitVec 1 := Scalar.cmpi .ne v51 v56
  let v58 : BitVec 32 := Scalar.remsi v45 c2_i32_20
  let c0_i32_25 : BitVec 32 := 0#32
  let v59 : BitVec 1 := Scalar.cmpi .ne v58 c0_i32_25
  let v60 : BitVec 1 := Scalar.andi v57 v59
  let v46 : BitVec 32 := Scalar.divsi v45 c2_i32_20
  let c1_i32_26 : BitVec 32 := 1#32
  let v61 : BitVec 32 := Scalar.subi v46 c1_i32_26
  let v62 : BitVec 32 := Scalar.select v60 v61 v46
  let c1_i32_146 : BitVec 32 := 1#32
  let v218 : BitVec 1 := Scalar.cmpi .sgt v62 c1_i32_146
  let c1_i32_147 : BitVec 32 := 1#32
  let c3_i32_148 : BitVec 32 := 3#32
  let v219 : BitVec 32 := Scalar.select v218 c1_i32_147 c3_i32_148
  let c1024_i32_149 : BitVec 32 := 1024#32
  let v220 : BitVec 32 := Scalar.muli v219 c1024_i32_149
  v220
def k0_mult6 (i : grid0.Coords) : BitVec 32 :=
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let c1_i32_163 : BitVec 32 := 1#32
  let v238 : BitVec 32 := Scalar.addi v45 c1_i32_163
  let c512_i32_164 : BitVec 32 := 512#32
  let v239 : BitVec 32 := Scalar.muli v238 c512_i32_164
  v239
def k0_mult7 (i : grid0.Coords) : BitVec 32 :=
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let c0_i32_200 : BitVec 32 := 0#32
  let v289 : BitVec 32 := Scalar.addi v45 c0_i32_200
  let c512_i32_201 : BitVec 32 := 512#32
  let v290 : BitVec 32 := Scalar.muli v289 c512_i32_201
  v290
def k0_mult8 (i : grid0.Coords) : BitVec 32 :=
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let c2_i32_215 : BitVec 32 := 2#32
  let v308 : BitVec 32 := Scalar.addi v45 c2_i32_215
  let c512_i32_216 : BitVec 32 := 512#32
  let v309 : BitVec 32 := Scalar.muli v308 c512_i32_216
  v309
def k0_mult9 (i : grid0.Coords) : BitVec 32 :=
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let c1_i32_252 : BitVec 32 := 1#32
  let v359 : BitVec 32 := Scalar.addi v45 c1_i32_252
  let c512_i32_253 : BitVec 32 := 512#32
  let v360 : BitVec 32 := Scalar.muli v359 c512_i32_253
  v360
def k0_mult10 (i : grid0.Coords) : BitVec 32 :=
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let c3_i32_267 : BitVec 32 := 3#32
  let v378 : BitVec 32 := Scalar.addi v45 c3_i32_267
  let c512_i32_268 : BitVec 32 := 512#32
  let v379 : BitVec 32 := Scalar.muli v378 c512_i32_268
  v379
def k0_mult11 (i : grid0.Coords) : BitVec 32 :=
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let c2_i32_304 : BitVec 32 := 2#32
  let v429 : BitVec 32 := Scalar.addi v45 c2_i32_304
  let c512_i32_305 : BitVec 32 := 512#32
  let v430 : BitVec 32 := Scalar.muli v429 c512_i32_305
  v430
def k0_mult12 (i : grid0.Coords) : BitVec 32 :=
  let c4_i32 : BitVec 32 := 4#32
  let c0_i32_19 : BitVec 32 := 0#32
  let arg2 : BitVec 32 := BitVec.ofNat 32 (i 2).val
  let c1_i32 : BitVec 32 := 1#32
  let v24 : BitVec 32 := Scalar.addi arg2 c1_i32
  let c0_i32 : BitVec 32 := 0#32
  let v26 : BitVec 1 := Scalar.cmpi .sgt v24 c0_i32
  let v27 : BitVec 32 := Scalar.extui v26
  let c0_i32_12 : BitVec 32 := 0#32
  let v28 : BitVec 1 := Scalar.cmpi .slt v24 c0_i32_12
  let v29 : BitVec 32 := Scalar.extui v28
  let v30 : BitVec 32 := Scalar.subi v27 v29
  let c2_i32 : BitVec 32 := 2#32
  let c0_i32_13 : BitVec 32 := 0#32
  let v31 : BitVec 1 := Scalar.cmpi .sgt c2_i32 c0_i32_13
  let v32 : BitVec 32 := Scalar.extui v31
  let c0_i32_14 : BitVec 32 := 0#32
  let v33 : BitVec 1 := Scalar.cmpi .slt c2_i32 c0_i32_14
  let v34 : BitVec 32 := Scalar.extui v33
  let v35 : BitVec 32 := Scalar.subi v32 v34
  let v36 : BitVec 1 := Scalar.cmpi .ne v30 v35
  let v37 : BitVec 32 := Scalar.remsi v24 c2_i32
  let c0_i32_15 : BitVec 32 := 0#32
  let v38 : BitVec 1 := Scalar.cmpi .ne v37 c0_i32_15
  let v39 : BitVec 1 := Scalar.andi v36 v38
  let v25 : BitVec 32 := Scalar.divsi v24 c2_i32
  let c1_i32_16 : BitVec 32 := 1#32
  let v40 : BitVec 32 := Scalar.subi v25 c1_i32_16
  let v41 : BitVec 32 := Scalar.select v39 v40 v25
  let c2_i32_17 : BitVec 32 := 2#32
  let v42 : BitVec 32 := Scalar.muli v41 c2_i32_17
  let c2_i32_18 : BitVec 32 := 2#32
  let v43 : BitVec 32 := Scalar.subi v42 c2_i32_18
  let v44 : BitVec 32 := Scalar.maxsi c0_i32_19 v43
  let v45 : BitVec 32 := Scalar.minsi c4_i32 v44
  let c3_i32_334 : BitVec 32 := 3#32
  let v469 : BitVec 32 := Scalar.addi v45 c3_i32_334
  let c512_i32_335 : BitVec 32 := 512#32
  let v470 : BitVec 32 := Scalar.muli v469 c512_i32_335
  v470
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x5x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x4096x3072 : Shape := ⟨3, ![8, 4096, 3072]⟩
abbrev S32x8 : Shape := ⟨2, ![32, 8]⟩
abbrev S64 : Shape := ⟨1, ![64]⟩
abbrev S128 : Shape := ⟨1, ![128]⟩
abbrev S8x4096x1024 : Shape := ⟨3, ![8, 4096, 1024]⟩
abbrev S8x4096x8x2x64 : Shape := ⟨5, ![8, 4096, 8, 2, 64]⟩
abbrev S8x4096x8x128 : Shape := ⟨4, ![8, 4096, 8, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4096x4096x1 : Shape := ⟨3, ![4096, 4096, 1]⟩
abbrev S4096x4096x8 : Shape := ⟨3, ![4096, 4096, 8]⟩
abbrev S8x4096x4096 : Shape := ⟨3, ![8, 4096, 4096]⟩
abbrev S8x4096x8x1x64 : Shape := ⟨5, ![8, 4096, 8, 1, 64]⟩
abbrev S8x4096x8x64 : Shape := ⟨4, ![8, 4096, 8, 64]⟩
abbrev S8x8x4096x4096 : Shape := ⟨4, ![8, 8, 4096, 4096]⟩
abbrev S1x8x4096x4096 : Shape := ⟨4, ![1, 8, 4096, 4096]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩

abbrev nBuf : Space → Nat
  | .hbm => 155
  | .vmem => 0
  | .smem => 0
  | _ => 0

abbrev hbmTy0_0 (i : Nat) : BufTy := match i % 128 with
  | 0 => ⟨S8x4096x3072, .bf16⟩
  | 1 => ⟨S32x8, .f32⟩
  | 2 => ⟨S64, .f32⟩
  | 3 => ⟨S64, .f32⟩
  | 4 => ⟨S64, .f32⟩
  | 5 => ⟨S64, .f32⟩
  | 6 => ⟨S128, .f32⟩
  | 7 => ⟨S8x4096x3072, .f32⟩
  | 8 => ⟨S8x4096x1024, .f32⟩
  | 9 => ⟨S8x4096x8x2x64, .f32⟩
  | 10 => ⟨S8x4096x1024, .f32⟩
  | 11 => ⟨S8x4096x8x2x64, .f32⟩
  | 12 => ⟨S8x4096x1024, .f32⟩
  | 13 => ⟨S8x4096x8x128, .f32⟩
  | 14 => ⟨S4096, .i32⟩
  | 15 => ⟨S1x4096, .i32⟩
  | 16 => ⟨S4096x1, .i32⟩
  | 17 => ⟨S4096x4096, .i32⟩
  | 18 => ⟨S4096x4096, .i32⟩
  | 19 => ⟨S4096x4096, .i32⟩
  | 20 => ⟨S_, .i32⟩
  | 21 => ⟨S4096x4096, .i32⟩
  | 22 => ⟨S4096x4096, .i1⟩
  | 23 => ⟨S4096x4096, .i32⟩
  | 24 => ⟨S_, .i32⟩
  | 25 => ⟨S4096x4096, .i32⟩
  | 26 => ⟨S4096x4096, .i32⟩
  | 27 => ⟨S4096x4096, .i32⟩
  | 28 => ⟨S_, .i32⟩
  | 29 => ⟨S4096x4096, .i32⟩
  | 30 => ⟨S4096x4096, .i32⟩
  | 31 => ⟨S4096x4096, .f32⟩
  | 32 => ⟨S_, .f32⟩
  | 33 => ⟨S4096x4096, .f32⟩
  | 34 => ⟨S4096x4096, .f32⟩
  | 35 => ⟨S4096x4096, .f32⟩
  | 36 => ⟨S_, .f32⟩
  | 37 => ⟨S4096x4096, .f32⟩
  | 38 => ⟨S4096x4096, .f32⟩
  | 39 => ⟨S_, .f32⟩
  | 40 => ⟨S4096x4096, .f32⟩
  | 41 => ⟨S4096x4096, .f32⟩
  | 42 => ⟨S4096x4096, .i32⟩
  | 43 => ⟨S_, .i32⟩
  | 44 => ⟨S4096x4096, .i32⟩
  | 45 => ⟨S4096x4096, .i32⟩
  | 46 => ⟨S_, .i32⟩
  | 47 => ⟨S4096x4096, .i32⟩
  | 48 => ⟨S4096x4096, .i32⟩
  | 49 => ⟨S_, .i32⟩
  | 50 => ⟨S4096x4096, .i32⟩
  | 51 => ⟨S4096x4096, .i1⟩
  | 52 => ⟨S4096x4096, .i32⟩
  | 53 => ⟨S4096x4096, .i32⟩
  | 54 => ⟨S_, .i32⟩
  | 55 => ⟨S4096x4096, .i32⟩
  | 56 => ⟨S4096x4096, .i1⟩
  | 57 => ⟨S_, .i32⟩
  | 58 => ⟨S4096x4096, .i32⟩
  | 59 => ⟨S4096x4096, .i32⟩
  | 60 => ⟨S4096x4096, .i32⟩
  | 61 => ⟨S4096x4096x1, .i32⟩
  | 62 => ⟨S4096x4096x8, .f32⟩
  | 63 => ⟨S8x4096x4096, .f32⟩
  | 64 => ⟨S8x4096x8x1x64, .f32⟩
  | 65 => ⟨S8x4096x8x64, .f32⟩
  | 66 => ⟨S8x4096x8x1x64, .f32⟩
  | 67 => ⟨S8x4096x8x64, .f32⟩
  | 68 => ⟨S8x8x4096x4096, .f32⟩
  | 69 => ⟨S_, .f32⟩
  | 70 => ⟨S_, .f32⟩
  | 71 => ⟨S_, .f32⟩
  | 72 => ⟨S8x8x4096x4096, .f32⟩
  | 73 => ⟨S8x8x4096x4096, .f32⟩
  | 74 => ⟨S1x8x4096x4096, .f32⟩
  | 75 => ⟨S8x8x4096x4096, .f32⟩
  | 76 => ⟨S8x8x4096x4096, .f32⟩
  | 77 => ⟨S8x4096x8x1x64, .f32⟩
  | 78 => ⟨S8x4096x8x64, .f32⟩
  | 79 => ⟨S8x4096x8x1x64, .f32⟩
  | 80 => ⟨S8x4096x8x64, .f32⟩
  | 81 => ⟨S8x8x4096x4096, .f32⟩
  | 82 => ⟨S_, .f32⟩
  | 83 => ⟨S_, .f32⟩
  | 84 => ⟨S_, .f32⟩
  | 85 => ⟨S8x8x4096x4096, .f32⟩
  | 86 => ⟨S8x8x4096x4096, .f32⟩
  | 87 => ⟨S1x8x4096x4096, .f32⟩
  | 88 => ⟨S8x8x4096x4096, .f32⟩
  | 89 => ⟨S8x8x4096x4096, .f32⟩
  | 90 => ⟨S64, .f32⟩
  | 91 => ⟨S_, .f32⟩
  | 92 => ⟨S_, .f32⟩
  | 93 => ⟨S_, .f32⟩
  | 94 => ⟨S64, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S8x8x4096, .f32⟩
  | 103 => ⟨S_, .f32⟩
  | 104 => ⟨S8x8x4096, .f32⟩
  | 105 => ⟨S8x8x4096, .f32⟩
  | 106 => ⟨S8x8x4096x1, .f32⟩
  | 107 => ⟨S8x8x4096x4096, .f32⟩
  | 108 => ⟨S8x8x4096x4096, .f32⟩
  | 109 => ⟨S8x8x4096x4096, .f32⟩
  | 110 => ⟨S_, .f32⟩
  | 111 => ⟨S8x8x4096, .f32⟩
  | 112 => ⟨S8x8x4096x1, .f32⟩
  | 113 => ⟨S8x8x4096x4096, .f32⟩
  | 114 => ⟨S8x8x4096x4096, .f32⟩
  | 115 => ⟨S_, .f32⟩
  | 116 => ⟨S8x8x4096, .f32⟩
  | 117 => ⟨S_, .f32⟩
  | 118 => ⟨S8x8x4096, .f32⟩
  | 119 => ⟨S8x8x4096, .f32⟩
  | 120 => ⟨S8x8x4096x1, .f32⟩
  | 121 => ⟨S8x8x4096x4096, .f32⟩
  | 122 => ⟨S8x8x4096x4096, .f32⟩
  | 123 => ⟨S8x8x4096x4096, .f32⟩
  | 124 => ⟨S_, .f32⟩
  | 125 => ⟨S8x8x4096, .f32⟩
  | 126 => ⟨S8x8x4096x1, .f32⟩
  | 127 => ⟨S8x8x4096x4096, .f32⟩
  | _ => ⟨S8x4096x3072, .bf16⟩

abbrev hbmTy0_1 (i : Nat) : BufTy := match i % 128 with
  | 0 => ⟨S8x8x4096x4096, .f32⟩
  | 1 => ⟨S8x8x4096x4096, .f32⟩
  | 2 => ⟨S8x8x4096x4096, .f32⟩
  | 3 => ⟨S8x8x4096x4096, .f32⟩
  | 4 => ⟨S8x8x128x4096, .f32⟩
  | 5 => ⟨S8x4096x8x128, .f32⟩
  | 6 => ⟨S8x4096x8x128, .f32⟩
  | 7 => ⟨S_, .f32⟩
  | 8 => ⟨S8x4096x8, .f32⟩
  | 9 => ⟨S8x4096x8x1, .f32⟩
  | 10 => ⟨S_, .f32⟩
  | 11 => ⟨S8x4096x8x1, .f32⟩
  | 12 => ⟨S8x4096x8x1, .f32⟩
  | 13 => ⟨S_, .f32⟩
  | 14 => ⟨S8x4096x8x1, .f32⟩
  | 15 => ⟨S8x4096x8x1, .f32⟩
  | 16 => ⟨S8x4096x8x1, .f32⟩
  | 17 => ⟨S8x4096x8x128, .f32⟩
  | 18 => ⟨S8x4096x8x128, .f32⟩
  | 19 => ⟨S1x1x1x128, .f32⟩
  | 20 => ⟨S8x4096x8x128, .f32⟩
  | 21 => ⟨S8x4096x8x128, .f32⟩
  | 22 => ⟨S_, .f32⟩
  | 23 => ⟨S8x4096x8x128, .f32⟩
  | 24 => ⟨S8x4096x8x128, .f32⟩
  | 25 => ⟨S8x4096x1024, .f32⟩
  | 26 => ⟨S8x4096x1024, .bf16⟩
  | _ => ⟨S8x4096x3072, .bf16⟩

abbrev hbmTy (i : Nat) : BufTy := match i / 128 with
  | 0 => hbmTy0_0 i
  | 1 => hbmTy0_1 i
  | _ => ⟨S8x4096x3072, .bf16⟩

abbrev bufTy : (tb : Table) → Fin (tcTables nBuf tb) → BufTy
  | .hbm, ⟨i, _⟩ => hbmTy i
  | _, _ => ⟨S8x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_13 : Ref sig .tc := ⟨.hbm, 99, rfl⟩
abbrev main_v77 : Ref sig .tc := ⟨.hbm, 100, rfl⟩
abbrev main_cst_14 : Ref sig .tc := ⟨.hbm, 101, rfl⟩
abbrev main_v78 : Ref sig .tc := ⟨.hbm, 102, rfl⟩
abbrev main_cst_15 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_16 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_17 : Ref sig .tc := ⟨.hbm, 115, rfl⟩
abbrev main_v89 : Ref sig .tc := ⟨.hbm, 116, rfl⟩
abbrev main_cst_18 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_19 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_20 : Ref sig .tc := ⟨.hbm, 135, rfl⟩
abbrev main_v106 : Ref sig .tc := ⟨.hbm, 136, rfl⟩
abbrev main_v107 : Ref sig .tc := ⟨.hbm, 137, rfl⟩
abbrev main_cst_21 : Ref sig .tc := ⟨.hbm, 138, rfl⟩
abbrev main_v108 : Ref sig .tc := ⟨.hbm, 139, rfl⟩
abbrev main_v109 : Ref sig .tc := ⟨.hbm, 140, rfl⟩
abbrev main_cst_22 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_23 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩

abbrev nD : Nat := 1
abbrev τ : Topo := Topo.v7x

variable {F : FTy → Type} [FloatOps F]
-- ==== Ffn.lean ====
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048x11264, .bf16⟩
  | .hbm, ⟨5, _⟩ => ⟨S5632x2048, .bf16⟩
  | .hbm, ⟨6, _⟩ => ⟨S1x2048, .f32⟩
  | .hbm, ⟨7, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x11264 : Shape := ⟨2, ![32768, 11264]⟩
abbrev S32768x5632 : Shape := ⟨2, ![32768, 5632]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S32768x11264, .f32⟩
  | .hbm, ⟨21, _⟩ => ⟨S32768x5632, .f32⟩
  | .hbm, ⟨22, _⟩ => ⟨S32768x5632, .f32⟩
  | .hbm, ⟨23, _⟩ => ⟨S32768x5632, .f32⟩
  | .hbm, ⟨24, _⟩ => ⟨S32768x5632, .f32⟩
  | .hbm, ⟨25, _⟩ => ⟨S_, .f32⟩
  | .hbm, ⟨26, _⟩ => ⟨S32768x5632, .f32⟩
  | .hbm, ⟨27, _⟩ => ⟨S32768x5632, .f32⟩
  | .hbm, ⟨28, _⟩ => ⟨S_, .f32⟩
  | .hbm, ⟨29, _⟩ => ⟨S32768x5632, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S32768x2048, .f32⟩
  | .hbm, ⟨34, _⟩ => ⟨S_, .f32⟩
  | .hbm, ⟨35, _⟩ => ⟨S32768x2048, .f32⟩
  | .hbm, ⟨36, _⟩ => ⟨S32768x2048, .f32⟩
  | .hbm, ⟨37, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Last.lean ====
abbrev S32768x2048 : Shape := ⟨2, ![32768, 2048]⟩
abbrev S2048x11264 : Shape := ⟨2, ![2048, 11264]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S2048x11264, .bf16⟩
  | .hbm, ⟨6, _⟩ => ⟨S5632x2048, .bf16⟩
  | .hbm, ⟨7, _⟩ => ⟨S1x2048, .f32⟩
  | .hbm, ⟨8, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastIdeal.lean ====
abbrev S32768x2048 : Shape := ⟨2, ![32768, 2048]⟩
abbrev S2048x11264 : Shape := ⟨2, ![2048, 11264]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S2048x11264, .bf16⟩
  | .hbm, ⟨6, _⟩ => ⟨S5632x2048, .bf16⟩
  | .hbm, ⟨7, _⟩ => ⟨S1x2048, .f32⟩
  | .hbm, ⟨8, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastReferenceIdeal.lean ====
abbrev S32768x2048 : Shape := ⟨2, ![32768, 2048]⟩
abbrev S2048x11264 : Shape := ⟨2, ![2048, 11264]⟩
abbrev S5632x2048 : Shape := ⟨2, ![5632, 2048]⟩
abbrev S2048 : Shape := ⟨1, ![2048]⟩
abbrev S32768x11264 : Shape := ⟨2, ![32768, 11264]⟩
abbrev S32768x5632 : Shape := ⟨2, ![32768, 5632]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S32768x2048, .f32⟩
  | .hbm, ⟨6, _⟩ => ⟨S32768x11264, .f32⟩
  | .hbm, ⟨7, _⟩ => ⟨S32768x5632, .f32⟩
  | .hbm, ⟨8, _⟩ => ⟨S32768x5632, .f32⟩
  | .hbm, ⟨9, _⟩ => ⟨S32768x5632, .f32⟩
  | .hbm, ⟨10, _⟩ => ⟨S32768x5632, .f32⟩
  | .hbm, ⟨11, _⟩ => ⟨S_, .f32⟩
  | .hbm, ⟨12, _⟩ => ⟨S32768x5632, .f32⟩
  | .hbm, ⟨13, _⟩ => ⟨S32768x5632, .f32⟩
  | .hbm, ⟨14, _⟩ => ⟨S_, .f32⟩
  | .hbm, ⟨15, _⟩ => ⟨S32768x5632, .f32⟩
  | .hbm, ⟨16, _⟩ => ⟨S32768x5632, .f32⟩
  | .hbm, ⟨17, _⟩ => ⟨S32768x5632, .f32⟩
  | .hbm, ⟨18, _⟩ => ⟨S32768x5632, .f32⟩
  | .hbm, ⟨19, _⟩ => ⟨S32768x2048, .f32⟩
  | .hbm, ⟨20, _⟩ => ⟨S_, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x2048, .f32⟩
  | .hbm, ⟨36, _⟩ => ⟨S32768x2048, .f32⟩
  | .hbm, ⟨37, _⟩ => ⟨S1x2048, .f32⟩
  | .hbm, ⟨38, _⟩ => ⟨S32768x2048, .f32⟩
  | .hbm, ⟨39, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== InProj.lean ====
abbrev S32768x2048 : Shape := ⟨2, ![32768, 2048]⟩
abbrev S2048 : Shape := ⟨1, ![2048]⟩
abbrev S2048x5120 : Shape := ⟨2, ![2048, 5120]⟩
abbrev S1x2048 : Shape := ⟨2, ![1, 2048]⟩
abbrev S2048x3072 : Shape := ⟨2, ![2048, 3072]⟩
abbrev S32768x1024 : Shape := ⟨2, ![32768, 1024]⟩
abbrev S32768x3072 : Shape := ⟨2, ![32768, 3072]⟩
abbrev S512x2048 : Shape := ⟨2, ![512, 2048]⟩
abbrev S2048x1024 : Shape := ⟨2, ![2048, 1024]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5120, .f32⟩
  | .hbm, ⟨3, _⟩ => ⟨S2048x5120, .bf16⟩
  | .hbm, ⟨4, _⟩ => ⟨S1x2048, .f32⟩
  | .hbm, ⟨5, _⟩ => ⟨S2048x3072, .bf16⟩
  | .hbm, ⟨6, _⟩ => ⟨S32768x1024, .f32⟩
  | .hbm, ⟨7, _⟩ => ⟨S32768x3072, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x3072, .bf16⟩
  | .local _ .vmem, ⟨6, _⟩ => ⟨S512x1024, .f32⟩
  | .local _ .vmem, ⟨7, _⟩ => ⟨S512x1024, .f32⟩
  | .local _ .vmem, ⟨8, _⟩ => ⟨S512x3072, .bf16⟩
  | .local _ .vmem, ⟨9, _⟩ => ⟨S512x3072, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjIdeal.lean ====
variable {F : FTy → Type} [FloatOps F] [Named F]
def κ : String → Option EReal := fun
  | "q_scale" => some (((8 * (Real.log 2))⁻¹ : ℝ) : EReal)
  | _ => none
-- ==== InProjReferenceIdeal.lean ====
abbrev S32768x2048 : Shape := ⟨2, ![32768, 2048]⟩
abbrev S2048 : Shape := ⟨1, ![2048]⟩
abbrev S2048x5120 : Shape := ⟨2, ![2048, 5120]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5120 : Shape := ⟨2, ![32768, 5120]⟩
abbrev S32768x1024 : Shape := ⟨2, ![32768, 1024]⟩
abbrev S32768x3072 : Shape := ⟨2, ![32768, 3072]⟩

abbrev nBuf : Space → Nat
  | .hbm => 44
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5120, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x5120, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S32768x3072, .f32⟩
  | .hbm, ⟨43, _⟩ => ⟨S32768x3072, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== OutProj.lean ====
abbrev S32768x2048 : Shape := ⟨2, ![32768, 2048]⟩
abbrev S32768x1024 : Shape := ⟨2, ![32768, 1024]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S2048x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S32768x2048, .f32⟩
  | .hbm, ⟨8, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjReferenceIdeal.lean ====
abbrev S32768x2048 : Shape := ⟨2, ![32768, 2048]⟩
abbrev S32768x1024 : Shape := ⟨2, ![32768, 1024]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S2048x2048, .f32⟩
  | .hbm, ⟨4, _⟩ => ⟨S2048, .f32⟩
  | .hbm, ⟨5, _⟩ => ⟨S32768x2048, .bf16⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S1x2048, .f32⟩
  | .hbm, ⟨23, _⟩ => ⟨S32768x2048, .f32⟩
  | .hbm, ⟨24, _⟩ => ⟨S32768x2048, .f32⟩
  | .hbm, ⟨25, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== LastSample.lean ====
abbrev S16384x2048 : Shape := ⟨2, ![16384, 2048]⟩
abbrev S2048x11264 : Shape := ⟨2, ![2048, 11264]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S2048x11264, .bf16⟩
  | .hbm, ⟨6, _⟩ => ⟨S5632x2048, .bf16⟩
  | .hbm, ⟨7, _⟩ => ⟨S1x2048, .f32⟩
  | .hbm, ⟨8, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastSampleReferenceIdeal.lean ====
abbrev S16384x2048 : Shape := ⟨2, ![16384, 2048]⟩
abbrev S2048x11264 : Shape := ⟨2, ![2048, 11264]⟩
abbrev S5632x2048 : Shape := ⟨2, ![5632, 2048]⟩
abbrev S2048 : Shape := ⟨1, ![2048]⟩
abbrev S16384x11264 : Shape := ⟨2, ![16384, 11264]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S16384x2048, .f32⟩
  | .hbm, ⟨6, _⟩ => ⟨S16384x11264, .f32⟩
  | .hbm, ⟨7, _⟩ => ⟨S16384x5632, .f32⟩
  | .hbm, ⟨8, _⟩ => ⟨S16384x5632, .f32⟩
  | .hbm, ⟨9, _⟩ => ⟨S16384x5632, .f32⟩
  | .hbm, ⟨10, _⟩ => ⟨S16384x5632, .f32⟩
  | .hbm, ⟨11, _⟩ => ⟨S_, .f32⟩
  | .hbm, ⟨12, _⟩ => ⟨S16384x5632, .f32⟩
  | .hbm, ⟨13, _⟩ => ⟨S16384x5632, .f32⟩
  | .hbm, ⟨14, _⟩ => ⟨S_, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S16384x5632, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Proof.Online.lean ====
module

public import Idealize.ShloMosaic.Lib.Pointwise

@[expose] public section

noncomputable section

/-! Weighted sums kept against a running exponent, over the reals inside the extended reals. -/

namespace Cert.Attn
open Idealize.ShloMosaic

/-- The power of two with a real exponent. -/
def pow2 (x : ℝ) : ℝ := (2 : ℝ) ^ x

theorem pow2_pos (x : ℝ) : 0 < pow2 x := Real.rpow_pos_of_pos (by norm_num) x
theorem pow2_add (x y : ℝ) : pow2 (x + y) = pow2 x * pow2 y := Real.rpow_add (by norm_num) x y

/-- The exponential to base two of a real number is the real power of two. -/
theorem exp2_real (x : ℝ) : Ideal.exp2 (x : EReal) = ((pow2 x : ℝ) : EReal) := rfl

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two real numbers, taken among the extended reals, is their real maximum. -/
theorem max_real (x y : ℝ) : max (x : EReal) (y : EReal) = ((max x y : ℝ) : EReal) :=
  ((EReal.coe_strictMono.monotone).map_max).symm

/-- The maximum of a nonempty family of real numbers, begun at the least extended real, is real. -/
theorem fold_max_real {n : ℕ} (f : Fin n → ℝ) (hn : 0 < n) (g : Fin n → EReal) (hg : ∀ x, g x = (f x : EReal)) :
    ∃ c : ℝ, Finset.fold max (⊥ : EReal) g Finset.univ = (c : EReal) := by
  classical
  have key : ∀ s : Finset (Fin n), s.Nonempty → ∃ c : ℝ, Finset.fold max (⊥ : EReal) g s = (c : EReal) := by
    intro s hs
    induction hs using Finset.Nonempty.cons_induction with
    | singleton a => exact ⟨f a, by rw [Finset.fold_singleton, hg, max_bot_right]⟩
    | cons a s ha hs ih =>
        obtain ⟨c, hc⟩ := ih
        exact ⟨max (f a) c, by rw [Finset.fold_cons, hc, hg, max_real]⟩
  exact key _ ⟨⟨0, hn⟩, Finset.mem_univ _⟩

/-- One step over the reals: rescaling the old sum to the new exponent and adding the new terms. -/
theorem step_real {n : ℕ} (m m' k S : ℝ) (y v : Fin n → ℝ) :
    pow2 (m - m') * (pow2 (-m) * S) + ∑ x, pow2 (y x - (m' - k)) * v x
      = pow2 (-m') * (S + ∑ x, pow2 (y x + k) * v x) := by
  have h1 : pow2 (m - m') * pow2 (-m) = pow2 (-m') := by rw [← pow2_add]; congr 1; ring
  have h2 : ∀ x, pow2 (y x - (m' - k)) = pow2 (-m') * pow2 (y x + k) := by
    intro x; rw [← pow2_add]; congr 1; ring
  rw [mul_add, ← mul_assoc, h1, Finset.mul_sum]
  congr 1
  exact Finset.sum_congr rfl fun x _ => by rw [h2, mul_assoc]

/-- One step of the running sum, with a real exponent before it. -/
theorem step_coe {n : ℕ} (m m' k S : ℝ) (y v : Fin n → ℝ) :
    Ideal.exp2 ((m : EReal) - (m' : EReal)) * ((pow2 (-m) * S : ℝ) : EReal)
        + ∑ x, Ideal.exp2 ((y x : EReal) - ((m' : EReal) - (k : EReal))) * (v x : EReal)
      = ((pow2 (-m') * (S + ∑ x, pow2 (y x + k) * v x) : ℝ) : EReal) := by
  rw [← step_real m m' k S y v, EReal.coe_add, EReal.coe_mul (pow2 (m - m')), ← exp2_real, EReal.coe_sub, coe_sum]
  congr 1

/-- The first step of the running sum: the exponent before it is the least extended real and the sum zero. -/
theorem step_first {n : ℕ} (m' k : ℝ) (y v : Fin n → ℝ) :
    Ideal.exp2 ((⊥ : EReal) - (m' : EReal)) * (0 : EReal)
        + ∑ x, Ideal.exp2 ((y x : EReal) - ((m' : EReal) - (k : EReal))) * (v x : EReal)
      = ((pow2 (-m') * (∑ x, pow2 (y x + k) * v x) : ℝ) : EReal) := by
  have h := step_real (n := n) 0 m' k 0 y v
  rw [mul_zero, mul_zero, zero_add, zero_add] at h
  rw [mul_zero, zero_add, ← h, coe_sum]
  refine Finset.sum_congr rfl fun x _ => ?_
  rw [EReal.coe_mul, ← exp2_real, EReal.coe_sub, EReal.coe_sub]

/-- The quotient of two sums kept against the same exponent does not depend on the exponent. -/
theorem div_scaled (m S L : ℝ) (hL : L ≠ 0) :
    Ideal.div ((pow2 (-m) * S : ℝ) : EReal) ((pow2 (-m) * L : ℝ) : EReal) = ((S / L : ℝ) : EReal) := by
  have hp := (pow2_pos (-m)).ne'
  have h : pow2 (-m) * L ≠ 0 := mul_ne_zero hp hL
  unfold Ideal.div
  rw [if_neg (by exact_mod_cast h), ← EReal.coe_inv, ← EReal.coe_mul]
  congr 1
  field_simp

/-- The quotient of two real numbers, the second not zero, is their real quotient. -/
theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- An extended real whose absolute value is below the greatest one is a real number. -/
theorem real_of_abs_lt (x : EReal) (h : max x (-x) < ⊤) : ∃ r : ℝ, x = (r : EReal) := by
  induction x with
  | bot => simp at h
  | coe r => exact ⟨r, rfl⟩
  | top => simp at h

end Cert.Attn
-- ==== Proof.Bucket.lean ====
module

public import proofs.«01_k».proof.Proof.Online
public import proofs.«01_k».proof.Proof.Gen.KernelIdeal.Value
public import proofs.«01_k».proof.Proof.Gen.ReferenceIdeal.Read
public import Idealize.ShloMosaic.Lib.Pointwise
public import Idealize.ShloMosaic.Lib.Tactic.WordOmega

@[expose] public section

set_option maxRecDepth 16384

noncomputable section

namespace Cert.Attn

open Idealize.ShloMosaic Idealize.ShloMosaic.TcCoe

/-- How far into the logarithmic buckets a distance falls, before it is cut off at the last one. -/
def steps (r : BitVec 32) : BitVec 32 :=
  FloatOps.fptosi (F := Ideal) (φ := .f32) 32 (FloatOps.mulf (FloatOps.hostDivf (FloatOps.hostUnary .log
    (FloatOps.hostDivf (FloatOps.sitofp .f32 (IntOp.maxsi (IntOp.absi r) 1#32)) (FloatOps.ofBits .f32 0x41000000#32)))
      (FloatOps.ofBits .f32 0x40317218#32)) (FloatOps.ofBits .f32 0x41000000#32))

/-- The bucket of a distance with the number `t` in place of its logarithmic steps. -/
def bucketOf (r t : BitVec 32) : BitVec 32 :=
  IntOp.addi (IntOp.muli ((IntOp.cmpi .sgt r 0#32).setWidth 32) 16#32)
    (Scalar.select (IntOp.cmpi .slt (IntOp.absi r) 8#32) (IntOp.absi r) (IntOp.minsi (IntOp.addi 8#32 t) 15#32))

/-- A bucket's number as an index: a negative one counts from the end. -/
def wrap (b : BitVec 32) : BitVec 32 := Scalar.select (IntOp.cmpi .slt b 0#32) (IntOp.addi b 32#32) b

/-- The row of the bias table that a distance reads. -/
def row (r : BitVec 32) : Fin 32 := ⟨min (wrap (bucketOf r (steps r))).toInt.toNat 31, by omega⟩

theorem log_real (x : ℝ) (h : 0 < x) : Ideal.log (x : EReal) = ((Real.log x : ℝ) : EReal) := by
  show (if x ≤ 0 then ⊥ else ((Real.log x : ℝ) : EReal)) = _
  rw [if_neg (not_le.2 h)]

theorem log_steps (r : BitVec 32) (h : 512 ≤ (IntOp.absi r).toInt) (h' : (IntOp.absi r).toInt ≤ 4096) :
    7 ≤ (steps r).toInt ∧ (steps r).toInt ≤ 4096 := by
  have e : IntOp.maxsi (IntOp.absi r) 1#32 = IntOp.absi r := by
    unfold IntOp.maxsi
    rw [if_pos]
    simp [BitVec.slt]
    omega
  obtain ⟨n, hn⟩ : ∃ n : ℕ, (IntOp.absi r).toInt = n := ⟨(IntOp.absi r).toInt.toNat, by omega⟩
  have hn1 : (512 : ℝ) ≤ n := by exact_mod_cast (show 512 ≤ n by omega)
  have hn2 : (n : ℝ) ≤ 4096 := by exact_mod_cast (show n ≤ 4096 by omega)
  have b8 : (Ideal.ofBits .f32 0x41000000#32 : EReal) = ((8 : ℝ) : EReal) := by
    simp [Ideal.ofBits, Ideal.ieee]
    rw [← EReal.coe_mul]; norm_num
  obtain ⟨c, hc, hc1, hc2⟩ : ∃ c : ℝ, (Ideal.ofBits .f32 0x40317218#32 : EReal) = (c : EReal) ∧ 2.7 < c ∧ c < 2.8 := by
    refine ⟨(11629080 : ℝ) * (2 ^ 22)⁻¹, ?_, by norm_num, by norm_num⟩
    simp [Ideal.ofBits, Ideal.ieee]
  have l2 : (3 : ℝ) ≤ Real.log (n / 8) := by
    have h64 : Real.log 64 ≤ Real.log (n / 8) := Real.log_le_log (by norm_num) (by linarith)
    have e64 : Real.log 64 = 6 * Real.log 2 := by
      rw [show (64 : ℝ) = 2 ^ (6 : ℕ) by norm_num, Real.log_pow]; norm_num
    have := Real.one_sub_inv_le_log_of_pos (show (0 : ℝ) < 2 by norm_num)
    norm_num at this
    linarith
  have u2 : Real.log (n / 8) ≤ 512 := by
    have := Real.log_le_sub_one_of_pos (show (0 : ℝ) < n / 8 by linarith)
    linarith
  have es : steps r = Ideal.fptosi 32 (((Real.log (n / 8) / c * 8 : ℝ)) : EReal) := by
    unfold steps
    rw [e]
    show Ideal.fptosi 32 (Ideal.div (Ideal.log (Ideal.div (((IntOp.absi r).toInt : ℝ) : EReal) (Ideal.ofBits .f32 0x41000000#32))) (Ideal.ofBits .f32 0x40317218#32) * Ideal.ofBits .f32 0x41000000#32) = _
    rw [b8, hc, hn, Int.cast_natCast, div_real _ _ (by norm_num), log_real _ (by linarith), div_real _ _ (by linarith), ← EReal.coe_mul]
  have x1 : (7 : ℝ) ≤ Real.log (n / 8) / c * 8 := by
    rw [div_mul_eq_mul_div, le_div_iff₀ (by linarith)]
    linarith
  have x2 : Real.log (n / 8) / c * 8 ≤ 4000 := by
    rw [div_mul_eq_mul_div, div_le_iff₀ (by linarith)]
    linarith
  rw [es, Ideal.fptosi, Ideal.toIntClamped_coe, if_pos (by linarith)]
  have f1 : 7 ≤ ⌊Real.log (n / 8) / c * 8⌋ := Int.le_floor.2 (by exact_mod_cast x1)
  have f2 : ⌊Real.log (n / 8) / c * 8⌋ ≤ 4000 := by
    have := Int.floor_le_floor x2
    simpa using this
  generalize ⌊Real.log (n / 8) / c * 8⌋ = z at f1 f2
  have hz : max (-((2 ^ (32 - 1) : ℕ) : ℤ)) (min (((2 ^ (32 - 1) : ℕ) : ℤ) - 1) z) = z := by
    norm_num
    omega
  rw [hz, BitVec.toInt_ofInt]
  have : z.bmod (2 ^ 32) = z := by
    rw [Int.bmod_eq_of_le] <;> norm_num <;> omega
  omega

theorem bucket_far (r t : BitVec 32) (h : 512 ≤ (IntOp.absi r).toInt) (h1 : 7 ≤ t.toInt) (h2 : t.toInt ≤ 4096) :
    wrap (bucketOf r t) = if 0 < r.toInt then 31#32 else 15#32 := by
  have e1 : IntOp.cmpi .slt (IntOp.absi r) 8#32 = 0#1 := by
    rw [WordCmp.cmpi_slt_eq]
    have : ¬ (IntOp.absi r).toInt < (8#32).toInt := by show ¬ _ < (8 : ℤ); omega
    rw [decide_eq_false this]
    rfl
  have e2 : IntOp.minsi (IntOp.addi 8#32 t) 15#32 = 15#32 := by
    have ha : (8#32 + t).toInt = 8 + t.toInt := by
      rw [BitVec.toInt_add, show (8#32).toInt = 8 from rfl, Int.bmod_eq_of_le] <;> norm_num <;> omega
    unfold IntOp.minsi IntOp.addi
    rw [if_neg]
    simp only [BitVec.slt, ha, decide_eq_true_eq, not_lt]
    show (15 : ℤ) ≤ _
    omega
  unfold wrap bucketOf
  rw [e1, e2]
  by_cases hr : 0 < r.toInt
  · have e3 : IntOp.cmpi .sgt r 0#32 = 1#1 := by
      rw [WordCmp.cmpi_sgt_eq]
      simp [hr]
    rw [e3, if_pos hr]
    rfl
  · have e3 : IntOp.cmpi .sgt r 0#32 = 0#1 := by
      rw [WordCmp.cmpi_sgt_eq]
      simp [hr]
    rw [e3, if_neg hr]
    rfl

theorem row_far (r : BitVec 32) (h : 512 ≤ (IntOp.absi r).toInt) (h' : (IntOp.absi r).toInt ≤ 4096) :
    row r = if 0 < r.toInt then 31 else 15 := by
  obtain ⟨h1, h2⟩ := log_steps r h h'
  have hb := bucket_far r (steps r) h h1 h2
  apply Fin.ext
  show min (wrap (bucketOf r (steps r))).toInt.toNat 31 = _
  rw [hb]
  by_cases hr : 0 < r.toInt
  · rw [if_pos hr, if_pos hr]; rfl
  · rw [if_neg hr, if_neg hr]; rfl

/-- The kernel's gather of table rows, at an index. -/
theorem gatherK_apply (x : Vec Ideal Cert.KernelIdeal.S32x8 .f32) (idx : IVec Cert.KernelIdeal.S3072x1 32) (p : Fin 3072) (h : Fin 8) :
    Host.gather Cert.KernelIdeal.gather_S32x8_S3072x1_S3072x8_1_0_n_n_0_1_18 x idx (ix2 p h)
      = x (ix2 ⟨min (idx (ix2 p (0 : Fin 1))).toInt.toNat 31, by omega⟩ h) := by
  unfold Host.gather
  refine congrArg x (funext fun a => Fin.ext ?_)
  have hc : Cert.KernelIdeal.gather_S32x8_S3072x1_S3072x8_1_0_n_n_0_1_18.collapsedSliceDims = [(0 : Fin 2)] := rfl
  have hs : Cert.KernelIdeal.gather_S32x8_S3072x1_S3072x8_1_0_n_n_0_1_18.startIndexMap = [(0 : Fin 2)] := rfl
  have ho : ∀ a, a ∉ Cert.KernelIdeal.gather_S32x8_S3072x1_S3072x8_1_0_n_n_0_1_18.operandBatchingDims := fun a => List.not_mem_nil
  have hf : Cert.KernelIdeal.gather_S32x8_S3072x1_S3072x8_1_0_n_n_0_1_18.offsetDims = [(1 : Fin 2)] := rfl
  have hz : Cert.KernelIdeal.gather_S32x8_S3072x1_S3072x8_1_0_n_n_0_1_18.sliceSizes (0 : Fin 2) = 1 := rfl
  have hsi : ∀ q, Cert.KernelIdeal.gather_S32x8_S3072x1_S3072x8_1_0_n_n_0_1_18.siIdx (ix2 p h) q = ix2 p (0 : Fin 1) := by
    intro q
    have hq : q.val = 0 := by
      have h1 : q.val < Cert.KernelIdeal.gather_S32x8_S3072x1_S3072x8_1_0_n_n_0_1_18.startIndexMap.length := q.isLt
      have h2 := congrArg List.length hs
      simp only [List.length_cons, List.length_nil] at h2
      omega
    funext b
    apply Fin.ext
    match b with
    | ⟨0, _⟩ => rfl
    | ⟨1, _⟩ => exact hq
  generalize Cert.KernelIdeal.gather_S32x8_S3072x1_S3072x8_1_0_n_n_0_1_18 = d at *
  match a with
  | ⟨0, _⟩ =>
    have hk : (0 : Fin 2) ∉ d.sKept := fun h => ((d.mem_sKept 0).1 h).1 (by rw [hc]; exact List.mem_singleton.2 rfl)
    have hm : (0 : Fin 2) ∈ d.startIndexMap := by rw [hs]; exact List.mem_singleton.2 rfl
    show d.start (ix2 p h) idx 0 + d.batchCoord (ix2 p h) 0 + d.offCoord (ix2 p h) 0 = min (idx (ix2 p (0 : Fin 1))).toInt.toNat 31
    rw [d.batchCoord_eq_zero _ _ (ho 0), d.offCoord_eq_zero _ _ hk]
    simp only [Nat.add_zero]
    unfold GatherDims.start
    rw [dif_pos hm, hsi, hz]
    rfl
  | ⟨1, _⟩ =>
    have hk : (1 : Fin 2) ∈ d.sKept := (d.mem_sKept 1).2 ⟨by rw [hc]; decide, ho 1⟩
    have hm : (1 : Fin 2) ∉ d.startIndexMap := by rw [hs]; decide
    have e1 : ∀ X : Fin 2, X = 1 → ((ix2 p h) X).val = h.val := fun X h => by subst h; rfl
    show d.start (ix2 p h) idx 1 + d.batchCoord (ix2 p h) 1 + d.offCoord (ix2 p h) 1 = h.val
    rw [d.batchCoord_eq_zero _ _ (ho 1), Nat.add_zero]
    unfold GatherDims.start GatherDims.offCoord
    rw [dif_neg hm, dif_pos hk, Nat.zero_add]
    refine e1 _ ?_
    have : ∀ k ∈ d.offsetDims, k = (1 : Fin 2) := fun k hk => by rw [hf] at hk; exact List.mem_singleton.1 hk
    exact this _ (List.getElem_mem _)

/-- The reference's gather of table rows, at an index. -/
theorem gatherR_apply (x : Vec Ideal Cert.ReferenceIdeal.S32x8 .f32) (idx : IVec Cert.ReferenceIdeal.S4096x4096x1 32) (p r : Fin 4096) (h : Fin 8) :
    Host.gather Cert.ReferenceIdeal.gather_S32x8_S4096x4096x1_S4096x4096x8_2_0_n_n_0_2_18 x idx (ix3 p r h)
      = x (ix2 ⟨min (idx (ix3 p r (0 : Fin 1))).toInt.toNat 31, by omega⟩ h) := by
  unfold Host.gather
  refine congrArg x (funext fun a => Fin.ext ?_)
  have hc : Cert.ReferenceIdeal.gather_S32x8_S4096x4096x1_S4096x4096x8_2_0_n_n_0_2_18.collapsedSliceDims = [(0 : Fin 2)] := rfl
  have hs : Cert.ReferenceIdeal.gather_S32x8_S4096x4096x1_S4096x4096x8_2_0_n_n_0_2_18.startIndexMap = [(0 : Fin 2)] := rfl
  have ho : ∀ a, a ∉ Cert.ReferenceIdeal.gather_S32x8_S4096x4096x1_S4096x4096x8_2_0_n_n_0_2_18.operandBatchingDims := fun a => List.not_mem_nil
  have hf : Cert.ReferenceIdeal.gather_S32x8_S4096x4096x1_S4096x4096x8_2_0_n_n_0_2_18.offsetDims = [(2 : Fin 3)] := rfl
  have hz : Cert.ReferenceIdeal.gather_S32x8_S4096x4096x1_S4096x4096x8_2_0_n_n_0_2_18.sliceSizes (0 : Fin 2) = 1 := rfl
  have hsi : ∀ q, Cert.ReferenceIdeal.gather_S32x8_S4096x4096x1_S4096x4096x8_2_0_n_n_0_2_18.siIdx (ix3 p r h) q = ix3 p r (0 : Fin 1) := by
    intro q
    have hq : q.val = 0 := by
      have h1 : q.val < Cert.ReferenceIdeal.gather_S32x8_S4096x4096x1_S4096x4096x8_2_0_n_n_0_2_18.startIndexMap.length := q.isLt
      have h2 := congrArg List.length hs
      simp only [List.length_cons, List.length_nil] at h2
      omega
    funext b
    apply Fin.ext
    match b with
    | ⟨0, _⟩ => rfl
    | ⟨1, _⟩ => rfl
    | ⟨2, _⟩ => exact hq
  generalize Cert.ReferenceIdeal.gather_S32x8_S4096x4096x1_S4096x4096x8_2_0_n_n_0_2_18 = d at *
  match a with
  | ⟨0, _⟩ =>
    have hk : (0 : Fin 2) ∉ d.sKept := fun h => ((d.mem_sKept 0).1 h).1 (by rw [hc]; exact List.mem_singleton.2 rfl)
    have hm : (0 : Fin 2) ∈ d.startIndexMap := by rw [hs]; exact List.mem_singleton.2 rfl
    show d.start (ix3 p r h) idx 0 + d.batchCoord (ix3 p r h) 0 + d.offCoord (ix3 p r h) 0 = min (idx (ix3 p r (0 : Fin 1))).toInt.toNat 31
    rw [d.batchCoord_eq_zero _ _ (ho 0), d.offCoord_eq_zero _ _ hk]
    simp only [Nat.add_zero]
    unfold GatherDims.start
    rw [dif_pos hm, hsi, hz]
    rfl
  | ⟨1, _⟩ =>
    have hk : (1 : Fin 2) ∈ d.sKept := (d.mem_sKept 1).2 ⟨by rw [hc]; decide, ho 1⟩
    have hm : (1 : Fin 2) ∉ d.startIndexMap := by rw [hs]; decide
    have e1 : ∀ X : Fin 3, X = 2 → ((ix3 p r h) X).val = h.val := fun X h => by subst h; rfl
    show d.start (ix3 p r h) idx 1 + d.batchCoord (ix3 p r h) 1 + d.offCoord (ix3 p r h) 1 = h.val
    rw [d.batchCoord_eq_zero _ _ (ho 1), Nat.add_zero]
    unfold GatherDims.start GatherDims.offCoord
    rw [dif_neg hm, dif_pos hk, Nat.zero_add]
    refine e1 _ ?_
    have : ∀ k ∈ d.offsetDims, k = (2 : Fin 3) := fun k hk => by rw [hf] at hk; exact List.mem_singleton.1 hk
    exact this _ (List.getElem_mem _)

end Cert.Attn
-- ==== Proof.Spec.lean ====
module

public import proofs.«01_k».proof.Proof.Online
public import proofs.«01_k».proof.Proof.Bucket

@[expose] public section

noncomputable section

/-! The attention over the reals: what both programs compute. -/

namespace Cert.Attn

open Idealize.ShloMosaic

/-- The values of a chunk with a column of ones after them, over and over. -/
def withOnes {n : ℕ} (vr : Fin n → Fin 128 → ℝ) (j : Fin 256) (x : Fin n) : ℝ := if h : j.val < 128 then vr x ⟨j.val, h⟩ else 1

/-- How far key `k` lies after query `r`, as a word. -/
def dist (r k : Fin 4096) : BitVec 32 := IntOp.subi (BitVec.ofNat 32 k.val) (BitVec.ofNat 32 r.val)

variable (X : Fin 8 → Fin 4096 → Fin 3072 → ℝ) (B : Fin 32 → Fin 8 → ℝ)

/-- The score of query `r` on key `k` in one head's score map `mp`, in units of the logarithm of two. -/
def score (b h : Fin 8) (mp : Fin 2) (r k : Fin 4096) : ℝ :=
  (∑ d : Fin 64, X b r ⟨h.val * 128 + mp.val * 64 + d.val, by omega⟩ * X b k ⟨1024 + (h.val * 128 + mp.val * 64 + d.val), by omega⟩)
    + B (row (dist r k)) h * (Real.log 2)⁻¹

/-- The values of one head. -/
def vals (b h : Fin 8) (k : Fin 4096) (l : Fin 128) : ℝ := X b k ⟨2048 + (h.val * 128 + l.val), by omega⟩

/-- The sums over all keys: for `j < 128` of the weighted values, from there on of the weights alone. -/
def total (b h : Fin 8) (mp : Fin 2) (r : Fin 4096) (j : Fin 256) : ℝ :=
  ∑ k, pow2 (score X B b h mp r k) * withOnes (vals X b h) j k

/-- The sum of the weights is positive. -/
theorem total_pos (b h : Fin 8) (mp : Fin 2) (r : Fin 4096) (j : Fin 256) (hj : 128 ≤ j.val) : 0 < total X B b h mp r j := by
  unfold total withOnes
  refine Finset.sum_pos (fun k _ => ?_) Finset.univ_nonempty
  rw [dif_neg (by omega), mul_one]
  exact pow2_pos _

/-- The difference of the two maps' attentions, the second weighted by `lam`. -/
def attend (lam : ℝ) (b h : Fin 8) (r : Fin 4096) (l : Fin 128) : ℝ :=
  total X B b h 0 r ⟨l.val, by omega⟩ / total X B b h 0 r ⟨128 + l.val, by omega⟩
    - lam * (total X B b h 1 r ⟨l.val, by omega⟩ / total X B b h 1 r ⟨128 + l.val, by omega⟩)

/-- The root-mean-square normalisation of one head's row, with its gain and the last factor. -/
def tail (o : Fin 128 → EReal) (g : EReal) (l : Fin 128) : EReal :=
  o l * Ideal.rsqrt (Ideal.div (∑ x, o x * o x) (Ideal.ofBits .f32 0x43000000#32) + Ideal.ofBits .f32 0x3727C5AC#32) * g
    * Ideal.ofBits .f32 0x3F4CCCCD#32

/-- The mixing weight, from its four vectors. -/
def mix (a b c d : Fin 64 → EReal) : EReal :=
  Ideal.exp (∑ l, a l * b l) - Ideal.exp (∑ l, c l * d l) + Ideal.ofBits .f32 0x3E4CCCCD#32

/-- The mixing weight of real vectors is real. -/
theorem mix_real (a b c d : Fin 64 → EReal) (ha : ∀ l, ∃ r : ℝ, a l = r) (hb : ∀ l, ∃ r : ℝ, b l = r) (hc : ∀ l, ∃ r : ℝ, c l = r)
    (hd : ∀ l, ∃ r : ℝ, d l = r) : ∃ r : ℝ, mix a b c d = r := by
  choose a' ha using ha
  choose b' hb using hb
  choose c' hc using hc
  choose d' hd using hd
  have e : Ideal.ofBits .f32 0x3E4CCCCD#32 = (((13421773 : ℝ) * (2 ^ 26)⁻¹ : ℝ) : EReal) := by
    simp [Ideal.ofBits, Ideal.ieee]
  refine ⟨Real.exp (∑ l, a' l * b' l) - Real.exp (∑ l, c' l * d' l) + (13421773 : ℝ) * (2 ^ 26)⁻¹, ?_⟩
  unfold mix
  rw [e]
  simp only [ha, hb, hc, hd, ← EReal.coe_mul, ← coe_sum]
  rfl

end Cert.Attn
-- ==== Proof.RefRow.lean ====
module

public import proofs.«01_k».proof.Proof.Spec
public import proofs.«01_k».proof.Proof.Gen.ReferenceIdeal.Read
public import Idealize.ShloMosaic.Lib.Pointwise

@[expose] public section

set_option maxRecDepth 16384

noncomputable section

/-! The reference, read at an index over the reals. -/

namespace Cert.Attn

open Cert.ReferenceIdeal Cert.ReferenceIdeal.Gen Cert.ReferenceIdeal.Read Idealize.ShloMosaic Idealize.ShloMosaic.TcCoe

section
variable (x0 : (⟨S8x4096x3072, .bf16⟩ : BufTy).Contents (Elt Ideal)) (x1 : (⟨S32x8, .f32⟩ : BufTy).Contents (Elt Ideal))

/-- The queries, split into heads and score maps. -/
theorem v2_at (b : Fin 8) (r : Fin 4096) (h : Fin 8) (mp : Fin 2) (d : Fin 64) :
    val_main_v2 (F := Ideal) x0 (ix5 b r h mp d) = x0 (ix3 b r ⟨h.val * 128 + mp.val * 64 + d.val, by omega⟩) := by
  rw [val_main_v2_apply, val_main_v1_apply, val_main_v0_apply]
  refine congrArg x0 (funext fun a => Fin.ext ?_)
  match a with
  | ⟨0, _⟩ => show ((((b.val * 4096 + r.val) * 8 + h.val) * 2 + mp.val) * 64 + d.val) / 4194304 = b.val; omega
  | ⟨1, _⟩ => show ((((b.val * 4096 + r.val) * 8 + h.val) * 2 + mp.val) * 64 + d.val) / 1024 % 4096 = r.val; omega
  | ⟨2, _⟩ => show ((((b.val * 4096 + r.val) * 8 + h.val) * 2 + mp.val) * 64 + d.val) % 1024 = h.val * 128 + mp.val * 64 + d.val; omega

/-- The keys, split into heads and score maps. -/
theorem v4_at (b : Fin 8) (r : Fin 4096) (h : Fin 8) (mp : Fin 2) (d : Fin 64) :
    val_main_v4 (F := Ideal) x0 (ix5 b r h mp d) = x0 (ix3 b r ⟨1024 + (h.val * 128 + mp.val * 64 + d.val), by omega⟩) := by
  rw [val_main_v4_apply, val_main_v3_apply, val_main_v0_apply]
  refine congrArg x0 (funext fun a => Fin.ext ?_)
  match a with
  | ⟨0, _⟩ => show ((((b.val * 4096 + r.val) * 8 + h.val) * 2 + mp.val) * 64 + d.val) / 4194304 = b.val; omega
  | ⟨1, _⟩ => show ((((b.val * 4096 + r.val) * 8 + h.val) * 2 + mp.val) * 64 + d.val) / 1024 % 4096 = r.val; omega
  | ⟨2, _⟩ => show 1024 + ((((b.val * 4096 + r.val) * 8 + h.val) * 2 + mp.val) * 64 + d.val) % 1024 = 1024 + (h.val * 128 + mp.val * 64 + d.val); omega

/-- The values, split into heads. -/
theorem v6_at (b : Fin 8) (r : Fin 4096) (h : Fin 8) (l : Fin 128) :
    val_main_v6 (F := Ideal) x0 (ix4 b r h l) = x0 (ix3 b r ⟨2048 + (h.val * 128 + l.val), by omega⟩) := by
  rw [val_main_v6_apply, val_main_v5_apply, val_main_v0_apply]
  refine congrArg x0 (funext fun a => Fin.ext ?_)
  match a with
  | ⟨0, _⟩ => show (((b.val * 4096 + r.val) * 8 + h.val) * 128 + l.val) / 4194304 = b.val; omega
  | ⟨1, _⟩ => show (((b.val * 4096 + r.val) * 8 + h.val) * 128 + l.val) / 1024 % 4096 = r.val; omega
  | ⟨2, _⟩ => show 2048 + (((b.val * 4096 + r.val) * 8 + h.val) * 128 + l.val) % 1024 = 2048 + (h.val * 128 + l.val); omega

/-- The first map's queries. -/
theorem v47_at (b : Fin 8) (r : Fin 4096) (h : Fin 8) (d : Fin 64) :
    val_main_v47 (F := Ideal) x0 (ix4 b r h d) = x0 (ix3 b r ⟨h.val * 128 + (0 : Fin 2).val * 64 + d.val, by have := h.isLt; have := d.isLt; show _ * 128 + 0 * 64 + _ < 3072; omega⟩) := by
  refine Eq.trans ?_ (v2_at x0 b r h 0 d)
  rw [val_main_v47_apply, val_main_v46_apply]
  refine congrArg (val_main_v2 (F := Ideal) x0) (funext fun a => Fin.ext ?_)
  match a with
  | ⟨0, _⟩ => show (((b.val * 4096 + r.val) * 8 + h.val) * 64 + d.val) / 2097152 = b.val; omega
  | ⟨1, _⟩ => show (((b.val * 4096 + r.val) * 8 + h.val) * 64 + d.val) / 512 % 4096 = r.val; omega
  | ⟨2, _⟩ => show (((b.val * 4096 + r.val) * 8 + h.val) * 64 + d.val) / 64 % 8 = h.val; omega
  | ⟨3, _⟩ => rfl
  | ⟨4, _⟩ => show (((b.val * 4096 + r.val) * 8 + h.val) * 64 + d.val) % 64 = d.val; omega

/-- The first map's keys. -/
theorem v49_at (b : Fin 8) (r : Fin 4096) (h : Fin 8) (d : Fin 64) :
    val_main_v49 (F := Ideal) x0 (ix4 b r h d) = x0 (ix3 b r ⟨1024 + (h.val * 128 + (0 : Fin 2).val * 64 + d.val), by have := h.isLt; have := d.isLt; show 1024 + (_ * 128 + 0 * 64 + _) < 3072; omega⟩) := by
  refine Eq.trans ?_ (v4_at x0 b r h 0 d)
  rw [val_main_v49_apply, val_main_v48_apply]
  refine congrArg (val_main_v4 (F := Ideal) x0) (funext fun a => Fin.ext ?_)
  match a with
  | ⟨0, _⟩ => show (((b.val * 4096 + r.val) * 8 + h.val) * 64 + d.val) / 2097152 = b.val; omega
  | ⟨1, _⟩ => show (((b.val * 4096 + r.val) * 8 + h.val) * 64 + d.val) / 512 % 4096 = r.val; omega
  | ⟨2, _⟩ => show (((b.val * 4096 + r.val) * 8 + h.val) * 64 + d.val) / 64 % 8 = h.val; omega
  | ⟨3, _⟩ => rfl
  | ⟨4, _⟩ => show (((b.val * 4096 + r.val) * 8 + h.val) * 64 + d.val) % 64 = d.val; omega

/-- The second map's queries. -/
theorem v59_at (b : Fin 8) (r : Fin 4096) (h : Fin 8) (d : Fin 64) :
    val_main_v59 (F := Ideal) x0 (ix4 b r h d) = x0 (ix3 b r ⟨h.val * 128 + (1 : Fin 2).val * 64 + d.val, by have := h.isLt; have := d.isLt; show _ * 128 + 1 * 64 + _ < 3072; omega⟩) := by
  refine Eq.trans ?_ (v2_at x0 b r h 1 d)
  rw [val_main_v59_apply, val_main_v58_apply]
  refine congrArg (val_main_v2 (F := Ideal) x0) (funext fun a => Fin.ext ?_)
  match a with
  | ⟨0, _⟩ => show (((b.val * 4096 + r.val) * 8 + h.val) * 64 + d.val) / 2097152 = b.val; omega
  | ⟨1, _⟩ => show (((b.val * 4096 + r.val) * 8 + h.val) * 64 + d.val) / 512 % 4096 = r.val; omega
  | ⟨2, _⟩ => show (((b.val * 4096 + r.val) * 8 + h.val) * 64 + d.val) / 64 % 8 = h.val; omega
  | ⟨3, _⟩ => rfl
  | ⟨4, _⟩ => show (((b.val * 4096 + r.val) * 8 + h.val) * 64 + d.val) % 64 = d.val; omega

/-- The second map's keys. -/
theorem v61_at (b : Fin 8) (r : Fin 4096) (h : Fin 8) (d : Fin 64) :
    val_main_v61 (F := Ideal) x0 (ix4 b r h d) = x0 (ix3 b r ⟨1024 + (h.val * 128 + (1 : Fin 2).val * 64 + d.val), by have := h.isLt; have := d.isLt; show 1024 + (_ * 128 + 1 * 64 + _) < 3072; omega⟩) := by
  refine Eq.trans ?_ (v4_at x0 b r h 1 d)
  rw [val_main_v61_apply, val_main_v60_apply]
  refine congrArg (val_main_v4 (F := Ideal) x0) (funext fun a => Fin.ext ?_)
  match a with
  | ⟨0, _⟩ => show (((b.val * 4096 + r.val) * 8 + h.val) * 64 + d.val) / 2097152 = b.val; omega
  | ⟨1, _⟩ => show (((b.val * 4096 + r.val) * 8 + h.val) * 64 + d.val) / 512 % 4096 = r.val; omega
  | ⟨2, _⟩ => show (((b.val * 4096 + r.val) * 8 + h.val) * 64 + d.val) / 64 % 8 = h.val; omega
  | ⟨3, _⟩ => rfl
  | ⟨4, _⟩ => show (((b.val * 4096 + r.val) * 8 + h.val) * 64 + d.val) % 64 = d.val; omega

/-- The table row each pair of positions reads. -/
theorem v43_at (r k : Fin 4096) : val_main_v43 (F := Ideal) (ix3 r k (0 : Fin 1)) = wrap (bucketOf (dist r k) (steps (dist r k))) := by
  rw [val_main_v43_apply]
  rfl

/-- The bias of each pair of positions. -/
theorem v45_at (h : Fin 8) (r k : Fin 4096) : val_main_v45 (F := Ideal) x1 (ix3 h r k) = x1 (ix2 (row (dist r k)) h) := by
  have e : idx_main_v45 (ix3 h r k) = ix3 r k h := by
    funext a; fin_cases a <;> rfl
  rw [val_main_v45_apply, e]
  unfold val_main_v44
  rw [gatherR_apply]
  refine congrArg (fun z => x1 (ix2 z h)) (Fin.ext ?_)
  show min (val_main_v43 (F := Ideal) (ix3 r k (0 : Fin 1))).toInt.toNat 31 = _
  rw [v43_at]
  rfl

variable (X : Fin 8 → Fin 4096 → Fin 3072 → ℝ) (hX : ∀ b r c, x0 (ix3 b r c) = (X b r c : EReal))
  (B : Fin 32 → Fin 8 → ℝ) (hB : ∀ t h, x1 (ix2 t h) = (B t h : EReal))

/-- The factor the scores carry is the logarithm of two. -/
theorem log_two (i) : val_main_v53 (F := Ideal) i = ((Real.log 2 : ℝ) : EReal) := by
  rw [val_main_v53_apply, val_main_v52_apply, val_main_v51_apply, val_main_cst_9_apply]
  show Ideal.log (Ideal.ofBits .f32 0x40000000#32) = _
  have e : Ideal.ofBits .f32 0x40000000#32 = ((2 : ℝ) : EReal) := by
    simp [Ideal.ofBits, Ideal.ieee]
    rw [← EReal.coe_mul]; norm_num
  rw [e, log_real _ (by norm_num)]

theorem log_two' (i) : val_main_v65 (F := Ideal) i = ((Real.log 2 : ℝ) : EReal) := log_two i

include hX hB

/-- The first map's scores. -/
theorem v57_at (b h : Fin 8) (r k : Fin 4096) : val_main_v57 (F := Ideal) x0 x1 (ix4 b h r k) = ((Real.log 2 * score X B b h 0 r k : ℝ) : EReal) := by
  rw [val_main_v57_apply, val_main_v54_apply, val_main_v50_apply, log_two, val_main_v56_apply, val_main_v55_apply]
  have e1 : ∀ d : Fin 64, val_main_v47 (F := Ideal) x0 (lidx_main_v50 (ix4 b h r k) d) = (X b r ⟨h.val * 128 + (0 : Fin 2).val * 64 + d.val, by have := h.isLt; have := d.isLt; show _ * 128 + 0 * 64 + _ < 3072; omega⟩ : EReal) := fun d => by
    rw [← hX]
    refine Eq.trans ?_ (v47_at x0 b r h d)
    refine congrArg _ (funext fun a => Fin.ext ?_)
    fin_cases a <;> rfl
  have e2 : ∀ d : Fin 64, val_main_v49 (F := Ideal) x0 (ridx_main_v50 (ix4 b h r k) d) = (X b k ⟨1024 + (h.val * 128 + (0 : Fin 2).val * 64 + d.val), by have := h.isLt; have := d.isLt; show 1024 + (_ * 128 + 0 * 64 + _) < 3072; omega⟩ : EReal) := fun d => by
    rw [← hX]
    refine Eq.trans ?_ (v49_at x0 b k h d)
    refine congrArg _ (funext fun a => Fin.ext ?_)
    fin_cases a <;> rfl
  have e3 : val_main_v45 (F := Ideal) x1 (idx_main_v55 (idx_main_v56 (ix4 b h r k))) = (B (row (dist r k)) h : EReal) := by
    rw [← hB]
    refine Eq.trans ?_ (v45_at x1 h r k)
    refine congrArg _ (funext fun a => Fin.ext ?_)
    fin_cases a <;> rfl
  simp only [e1, e2, e3, ← EReal.coe_mul, ← coe_sum]
  show ((_ * Real.log 2 : ℝ) : EReal) + _ = _
  rw [← EReal.coe_add]
  congr 1
  unfold score
  have : Real.log 2 ≠ 0 := (Real.log_pos (by norm_num)).ne'
  rw [mul_add, mul_comm (Real.log 2) (B _ _ * _), mul_assoc, inv_mul_cancel₀ this, mul_one, mul_comm (Real.log 2)]

/-- The second map's scores. -/
theorem v69_at (b h : Fin 8) (r k : Fin 4096) : val_main_v69 (F := Ideal) x0 x1 (ix4 b h r k) = ((Real.log 2 * score X B b h 1 r k : ℝ) : EReal) := by
  rw [val_main_v69_apply, val_main_v66_apply, val_main_v62_apply, log_two', val_main_v68_apply, val_main_v67_apply]
  have e1 : ∀ d : Fin 64, val_main_v59 (F := Ideal) x0 (lidx_main_v62 (ix4 b h r k) d) = (X b r ⟨h.val * 128 + (1 : Fin 2).val * 64 + d.val, by have := h.isLt; have := d.isLt; show _ * 128 + 1 * 64 + _ < 3072; omega⟩ : EReal) := fun d => by
    rw [← hX]
    refine Eq.trans ?_ (v59_at x0 b r h d)
    refine congrArg _ (funext fun a => Fin.ext ?_)
    fin_cases a <;> rfl
  have e2 : ∀ d : Fin 64, val_main_v61 (F := Ideal) x0 (ridx_main_v62 (ix4 b h r k) d) = (X b k ⟨1024 + (h.val * 128 + (1 : Fin 2).val * 64 + d.val), by have := h.isLt; have := d.isLt; show 1024 + (_ * 128 + 1 * 64 + _) < 3072; omega⟩ : EReal) := fun d => by
    rw [← hX]
    refine Eq.trans ?_ (v61_at x0 b k h d)
    refine congrArg _ (funext fun a => Fin.ext ?_)
    fin_cases a <;> rfl
  have e3 : val_main_v45 (F := Ideal) x1 (idx_main_v67 (idx_main_v68 (ix4 b h r k))) = (B (row (dist r k)) h : EReal) := by
    rw [← hB]
    refine Eq.trans ?_ (v45_at x1 h r k)
    refine congrArg _ (funext fun a => Fin.ext ?_)
    fin_cases a <;> rfl
  simp only [e1, e2, e3, ← EReal.coe_mul, ← coe_sum]
  show ((_ * Real.log 2 : ℝ) : EReal) + _ = _
  rw [← EReal.coe_add]
  congr 1
  unfold score
  have : Real.log 2 ≠ 0 := (Real.log_pos (by norm_num)).ne'
  rw [mul_add, mul_comm (Real.log 2) (B _ _ * _), mul_assoc, inv_mul_cancel₀ this, mul_one, mul_comm (Real.log 2)]

end

/-! The softmax of real scores. -/

/-- The exponential of a score less some number, as a power of two. -/
theorem exp_score (s M : ℝ) : Ideal.exp (((Real.log 2 * s : ℝ) : EReal) - (M : EReal)) = ((pow2 (-(M / Real.log 2)) * pow2 s : ℝ) : EReal) := by
  have : Real.log 2 ≠ 0 := (Real.log_pos (by norm_num)).ne'
  rw [← EReal.coe_sub, ← pow2_add]
  show ((Real.exp _ : ℝ) : EReal) = _
  congr 1
  unfold pow2
  rw [Real.rpow_def_of_pos (by norm_num)]
  congr 1
  field_simp
  ring

/-- A softmax of real scores is the quotient of powers of two. -/
theorem softmax_real {n : ℕ} (hn : 0 < n) (s : Fin n → ℝ) (M : ℝ) (k : Fin n) :
    Ideal.div (Ideal.exp (((Real.log 2 * s k : ℝ) : EReal) - (M : EReal))) (0 + ∑ x, Ideal.exp (((Real.log 2 * s x : ℝ) : EReal) - (M : EReal)))
      = ((pow2 (s k) / ∑ x, pow2 (s x) : ℝ) : EReal) := by
  simp only [exp_score, ← coe_sum, zero_add]
  rw [← Finset.mul_sum]
  refine div_scaled _ _ _ (Finset.sum_pos (fun k _ => pow2_pos _) ⟨⟨0, hn⟩, Finset.mem_univ _⟩).ne'

end Cert.Attn
-- ==== Proof.RefOut.lean ====
module

public import proofs.«01_k».proof.Proof.RefRow

@[expose] public section

set_option maxRecDepth 16384

noncomputable section

/-! The reference's result at an index, over the reals. -/

namespace Cert.Attn

open Cert.ReferenceIdeal Cert.ReferenceIdeal.Gen Cert.ReferenceIdeal.Read Idealize.ShloMosaic Idealize.ShloMosaic.TcCoe

variable (x0 : (⟨S8x4096x3072, .bf16⟩ : BufTy).Contents (Elt Ideal)) (x1 : (⟨S32x8, .f32⟩ : BufTy).Contents (Elt Ideal))
  (X : Fin 8 → Fin 4096 → Fin 3072 → ℝ) (hX : ∀ b r c, x0 (ix3 b r c) = (X b r c : EReal))
  (B : Fin 32 → Fin 8 → ℝ) (hB : ∀ t h, x1 (ix2 t h) = (B t h : EReal))

/-- The bits the maximum starts from denote the least extended real. -/
theorem bottom_bits : Ideal.ofBits FTy.f32 4286578688#32 = (⊥ : EReal) := by
  simp [Ideal.ofBits, Ideal.ieee]

/-- A maximum over the last axis of real scores, begun at the least extended real, is real. -/
theorem max_last_real (y : Vec Ideal S8x8x4096x4096 .f32) (f : Fin 4096 → ℝ) (b h : Fin 8) (r : Fin 4096)
    (hf : ∀ k, y (ix4 b h r k) = (f k : EReal)) :
    ∃ c : ℝ, Host.reduce (FloatOps.maximumf (F := Ideal) (φ := FTy.f32)) y (val_main_cst_14 (F := Ideal)) reducesTo_S8x8x4096x4096_S8x8x4096_d3 h_S_ (ix3 b h r) = (c : EReal) := by
  obtain ⟨c, hc⟩ := fold_max_real f (by norm_num) (fun k => y (ix4 b h r k)) hf
  refine ⟨c, ?_⟩
  rw [← hc]
  pointwise
  rw [val_main_cst_14_apply]
  show Finset.fold max (Ideal.ofBits FTy.f32 4286578688#32) _ _ = _
  rw [bottom_bits]

include hX hB

/-- The first map's weights. -/
theorem v88_at (b h : Fin 8) (r k : Fin 4096) :
    val_main_v88 (F := Ideal) x0 x1 (ix4 b h r k) = ((pow2 (score X B b h 0 r k) / ∑ x, pow2 (score X B b h 0 r x) : ℝ) : EReal) := by
  obtain ⟨c, hc⟩ := max_last_real (val_main_v57 (F := Ideal) x0 x1) (fun k => Real.log 2 * score X B b h 0 r k) b h r (fun k => v57_at x0 x1 X hX B hB b h r k)
  have hM : ∀ k, val_main_v82 (F := Ideal) x0 x1 (ix4 b h r k) = (c : EReal) := fun k => by
    have e : idx_main_v81 (idx_main_v82 (ix4 b h r k)) = ix3 b h r := by funext a; fin_cases a <;> rfl
    rw [val_main_v82_apply, val_main_v81_apply, e, val_main_v80_apply, val_main_v79_apply, val_main_cst_15_apply]
    unfold val_main_v78
    rw [hc]
    show max (Ideal.ofBits FTy.f32 4286578688#32) _ = _
    rw [bottom_bits, max_bot_left]
  have hE : ∀ k, val_main_v84 (F := Ideal) x0 x1 (ix4 b h r k) = Ideal.exp (((Real.log 2 * score X B b h 0 r k : ℝ) : EReal) - (c : EReal)) := fun k => by
    rw [val_main_v84_apply, val_main_v83_apply, hM, v57_at x0 x1 X hX B hB]
    rfl
  have hS : val_main_v87 (F := Ideal) x0 x1 (ix4 b h r k) = 0 + ∑ k, Ideal.exp (((Real.log 2 * score X B b h 0 r k : ℝ) : EReal) - (c : EReal)) := by
    have e : ∀ k', idx_main_v85 (idx_main_v86 (idx_main_v87 (ix4 b h r k))) k' = ix4 b h r k' := fun k' => by funext a; fin_cases a <;> rfl
    rw [val_main_v87_apply, val_main_v86_apply, val_main_v85_apply, val_main_cst_16_apply]
    have z : (FloatOps.ofBits FTy.f32 0x00000000#32 : Ideal .f32) = (0 : EReal) := Ideal.ofBits_zero _
    simp only [e, hE, z]
  rw [val_main_v88_apply, hE, hS, ← softmax_real (by norm_num) (fun k => score X B b h 0 r k) c k]
  rfl

/-- The second map's weights. -/
theorem v99_at (b h : Fin 8) (r k : Fin 4096) :
    val_main_v99 (F := Ideal) x0 x1 (ix4 b h r k) = ((pow2 (score X B b h 1 r k) / ∑ x, pow2 (score X B b h 1 r x) : ℝ) : EReal) := by
  obtain ⟨c, hc⟩ := max_last_real (val_main_v69 (F := Ideal) x0 x1) (fun k => Real.log 2 * score X B b h 1 r k) b h r (fun k => v69_at x0 x1 X hX B hB b h r k)
  have hM : ∀ k, val_main_v93 (F := Ideal) x0 x1 (ix4 b h r k) = (c : EReal) := fun k => by
    have e : idx_main_v92 (idx_main_v93 (ix4 b h r k)) = ix3 b h r := by funext a; fin_cases a <;> rfl
    rw [val_main_v93_apply, val_main_v92_apply, e, val_main_v91_apply, val_main_v90_apply, val_main_cst_18_apply]
    refine Eq.trans (congrArg _ hc) ?_
    show max (Ideal.ofBits FTy.f32 4286578688#32) _ = _
    rw [bottom_bits, max_bot_left]
  have hE : ∀ k, val_main_v95 (F := Ideal) x0 x1 (ix4 b h r k) = Ideal.exp (((Real.log 2 * score X B b h 1 r k : ℝ) : EReal) - (c : EReal)) := fun k => by
    rw [val_main_v95_apply, val_main_v94_apply, hM, v69_at x0 x1 X hX B hB]
    rfl
  have hS : val_main_v98 (F := Ideal) x0 x1 (ix4 b h r k) = 0 + ∑ k, Ideal.exp (((Real.log 2 * score X B b h 1 r k : ℝ) : EReal) - (c : EReal)) := by
    have e : ∀ k', idx_main_v96 (idx_main_v97 (idx_main_v98 (ix4 b h r k))) k' = ix4 b h r k' := fun k' => by funext a; fin_cases a <;> rfl
    rw [val_main_v98_apply, val_main_v97_apply, val_main_v96_apply, val_main_cst_19_apply]
    have z : (FloatOps.ofBits FTy.f32 0x00000000#32 : Ideal .f32) = (0 : EReal) := Ideal.ofBits_zero _
    simp only [e, hE, z]
  rw [val_main_v99_apply, hE, hS, ← softmax_real (by norm_num) (fun k => score X B b h 1 r k) c k]
  rfl

variable (x2 x3 x4 x5 : (⟨S64, .f32⟩ : BufTy).Contents (Elt Ideal)) (x6 : (⟨S128, .f32⟩ : BufTy).Contents (Elt Ideal))

omit hX hB in
/-- The mixing weight. -/
theorem v77_at (i) : val_main_v77 (F := Ideal) x2 x3 x4 x5 i = mix (fun l => x2 (ix1 l)) (fun l => x3 (ix1 l)) (fun l => x4 (ix1 l)) (fun l => x5 (ix1 l)) := by
  have e : ∀ f : S64.Idx → EReal, ∑ j, f j = ∑ l : Fin 64, f (ix1 l) := fun f => by
    refine (Fintype.sum_equiv ⟨fun l : Fin 64 => (ix1 l : S64.Idx), fun j => j 0, fun _ => rfl, fun j => ?_⟩ _ _ (fun l => rfl)).symm
    funext a; fin_cases a; rfl
  rw [val_main_v77_apply, val_main_v76_apply, val_main_v72_apply, val_main_v75_apply, val_main_v71_apply, val_main_v74_apply, val_main_cst_11_apply,
    val_main_cst_12_apply, val_main_cst_13_apply, e, e]
  have z : (FloatOps.ofBits FTy.f32 0x00000000#32 : Ideal .f32) = (0 : EReal) := Ideal.ofBits_zero _
  rw [z, zero_add, zero_add]
  rfl

/-- The weighted difference of the two maps, applied to the values. -/
theorem v104_at (lam : ℝ) (hl : mix (fun l => x2 (ix1 l)) (fun l => x3 (ix1 l)) (fun l => x4 (ix1 l)) (fun l => x5 (ix1 l)) = (lam : EReal))
    (b : Fin 8) (r : Fin 4096) (h : Fin 8) (l : Fin 128) :
    val_main_v104 (F := Ideal) x0 x1 x2 x3 x4 x5 (ix4 b r h l) = ((attend X B lam b h r l : ℝ) : EReal) := by
  have e1 : ∀ k, lidx_main_v103 (idx_main_v104 (ix4 b r h l)) k = ix4 b k h l := fun k => by funext a; fin_cases a <;> rfl
  have e2 : ∀ k, ridx_main_v103 (idx_main_v104 (ix4 b r h l)) k = ix4 b h r k := fun k => by funext a; fin_cases a <;> rfl
  have e3 : ∀ k, val_main_v102 (F := Ideal) x0 x1 x2 x3 x4 x5 (ix4 b h r k)
      = ((pow2 (score X B b h 0 r k) / (∑ x, pow2 (score X B b h 0 r x)) - lam * (pow2 (score X B b h 1 r k) / ∑ x, pow2 (score X B b h 1 r x)) : ℝ) : EReal) := fun k => by
    rw [val_main_v102_apply, val_main_v101_apply, val_main_v100_apply, v77_at, hl, v88_at x0 x1 X hX B hB, v99_at x0 x1 X hX B hB, EReal.coe_sub, EReal.coe_mul]
    rfl
  rw [val_main_v104_apply, val_main_v103_apply]
  simp only [e1, e2, e3, v6_at, hX, ← EReal.coe_mul, ← coe_sum]
  congr 1
  have o : ∀ mp, total X B b h mp r ⟨128 + l.val, by omega⟩ = ∑ x, pow2 (score X B b h mp r x) := fun mp => by
    unfold total withOnes
    refine Finset.sum_congr rfl fun k _ => ?_
    rw [dif_neg (by simp), mul_one]
  have v : ∀ mp, total X B b h mp r ⟨l.val, by omega⟩ = ∑ x, pow2 (score X B b h mp r x) * vals X b h x l := fun mp => by
    unfold total withOnes
    refine Finset.sum_congr rfl fun k _ => ?_
    rw [dif_pos l.isLt]
  unfold attend
  rw [o, o, v, v, Finset.sum_div, Finset.sum_div, Finset.mul_sum, ← Finset.sum_sub_distrib]
  refine Finset.sum_congr rfl fun k _ => ?_
  unfold vals
  ring

/-- The reference's result at an index. -/
theorem v121_at (lam : ℝ) (hl : mix (fun l => x2 (ix1 l)) (fun l => x3 (ix1 l)) (fun l => x4 (ix1 l)) (fun l => x5 (ix1 l)) = (lam : EReal))
    (b : Fin 8) (r : Fin 4096) (h : Fin 8) (l : Fin 128) :
    val_main_v121 (F := Ideal) x0 x1 x2 x3 x4 x5 x6 (ix3 b r ⟨h.val * 128 + l.val, by omega⟩)
      = tail (fun l => ((attend X B lam b h r l : ℝ) : EReal)) (x6 (ix1 l)) l := by
  have e0 : idx_main_v120 (ix3 b r ⟨h.val * 128 + l.val, by omega⟩) = ix4 b r h l := by
    funext a; apply Fin.ext
    match a with
    | ⟨0, _⟩ => show ((b.val * 4096 + r.val) * 1024 + (h.val * 128 + l.val)) / 4194304 = b.val; omega
    | ⟨1, _⟩ => show ((b.val * 4096 + r.val) * 1024 + (h.val * 128 + l.val)) / 1024 % 4096 = r.val; omega
    | ⟨2, _⟩ => show ((b.val * 4096 + r.val) * 1024 + (h.val * 128 + l.val)) / 128 % 8 = h.val; omega
    | ⟨3, _⟩ => show ((b.val * 4096 + r.val) * 1024 + (h.val * 128 + l.val)) % 128 = l.val; omega
  have e1 : ∀ k, idx_main_v106 (idx_main_v107 (idx_main_v113 (ix4 b r h l))) k = ix4 b r h k := fun k => by funext a; fin_cases a <;> rfl
  have e2 : idx_main_v115 (idx_main_v116 (ix4 b r h l)) = ix1 l := by funext a; fin_cases a; rfl
  have z : (FloatOps.ofBits FTy.f32 0x00000000#32 : Ideal .f32) = (0 : EReal) := Ideal.ofBits_zero _
  have hs : val_main_v107 (F := Ideal) x0 x1 x2 x3 x4 x5 (idx_main_v113 (ix4 b r h l))
      = ∑ k, ((attend X B lam b h r k : ℝ) : EReal) * ((attend X B lam b h r k : ℝ) : EReal) := by
    rw [val_main_v107_apply, val_main_v106_apply, val_main_cst_20_apply, z, zero_add]
    refine Finset.sum_congr rfl fun k _ => ?_
    rw [e1, val_main_v105_apply, v104_at x0 x1 X hX B hB x2 x3 x4 x5 lam hl]
    rfl
  rw [val_main_v121_apply, val_main_v120_apply, e0, val_main_v119_apply, val_main_v117_apply, val_main_v114_apply, val_main_v113_apply, val_main_v112_apply,
    val_main_v111_apply, val_main_v109_apply, hs, val_main_v116_apply, val_main_v115_apply, e2, v104_at x0 x1 X hX B hB x2 x3 x4 x5 lam hl]
  rfl

end Cert.Attn
-- ==== Proof.Body.lean ====
module

public import proofs.«01_k».proof.Proof.Gen.KernelIdeal.Value
public import Idealize.ShloMosaic.Lib.Pipeline.ReadBack
public import Idealize.ShloMosaic.Lib.Pipeline.ValueKit.Tiles
public import Idealize.ShloMosaic.Lib.Pointwise

@[expose] public section

set_option maxRecDepth 16384

noncomputable section

/-! What one grid point of the kernel leaves in its output block, as six accumulation steps over the blocks it loads. -/

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The running maximum and the running sums of one query tile (both score maps, one below the other). -/
structure State (F : FTy → Type) [FloatOps F] where
  /-- the running maximum, copied over the lanes -/
  m : Vec F S1024x128 .f32
  /-- the running sums: the weighted values, then the sum of the weights copied over the lanes -/
  acc : Vec F S1024x256 .f32

/-- The state before the first chunk of keys. -/
def start : State F := ⟨k0_pay7, k0_pay6⟩

/-- One chunk of 1024 far keys, whose bias is one number per score map. -/
def farStep (w : BitVec 32) (a b : Vec F S1x1x1x128 .f32) (k v : Vec F S1x1024x128 .bf16) (q : Vec F S1024x128 .bf16) (s : State F) : State F :=
  ⟨k0_pay18 w s.m a b (k0_pay14 k q),
   k0_pay20 v (k0_pay17 w s.m a b (k0_pay14 k q)) s.acc (k0_pay19 w s.m a b (k0_pay14 k q) (k0_pay13 k q))⟩

/-- One when more than one far chunk lies before the near keys, zero otherwise. -/
def second (w : BitVec 32) : BitVec 32 := Scalar.select (Scalar.cmpi .sgt w 1#32) 1#32 0#32

/-- One chunk of 512 near keys, whose bias is a tile of its own. -/
def nearStep (k v : Vec F S1x512x128 .bf16) (b : Vec F S1x1x512x512 .f32) (q : Vec F S1024x128 .bf16) (s : State F) : State F :=
  ⟨k0_pay39 s.m (k0_pay36 (k0_pay35 k q b)),
   k0_pay68 v (k0_pay38 s.m (k0_pay36 (k0_pay35 k q b))) s.acc (k0_pay40 s.m (k0_pay36 (k0_pay35 k q b)) (k0_pay34 k q b))⟩

/-- The query tile twice, one copy below the other: the first with only the first half of its lanes, the second with only the second half. -/
def queries (x0 : Vec F S1x512x128 .bf16) : Vec F S1024x128 .bf16 :=
  fun j => if h : (j 0).val < 512 then k0_pay4 x0 (ix2 ⟨(j 0).val, h⟩ (j 1))
    else k0_pay5 x0 (ix2 ⟨(j 0).val - 512, by have := (j 0).isLt; change (j 0).val < 1024 at this; omega⟩ (j 1))

/-- The state after every chunk of keys, at grid coordinates `i`; `w` is the number of far chunks lying before the near keys. -/
def finalState (w : BitVec 32) (i : grid0.Coords) (x0 : Vec F S1x512x128 .bf16) (x1 x2 : Vec F S1x4096x128 .bf16) (x3 : Vec F S1x5x512x512 .f32)
    (x4 : Vec F S1x2x1x128 .f32) : State F :=
  nearStep (View.ld x1 (Rect.unit (k0_off2 i 3#32) S1x512x128.size (k0_off2_inb i 3))) (View.ld x2 (Rect.unit (k0_off2 i 3#32) S1x512x128.size (k0_off2_inb i 3))) (View.ld x3 (Rect.unit (k0_off3 i 3#32) S1x1x512x512.size (k0_off3_inb i 3))) (queries x0)
  (nearStep (View.ld x1 (Rect.unit (k0_off2 i 2#32) S1x512x128.size (k0_off2_inb i 2))) (View.ld x2 (Rect.unit (k0_off2 i 2#32) S1x512x128.size (k0_off2_inb i 2))) (View.ld x3 (Rect.unit (k0_off3 i 2#32) S1x1x512x512.size (k0_off3_inb i 2))) (queries x0)
  (nearStep (View.ld x1 (Rect.unit (k0_off2 i 1#32) S1x512x128.size (k0_off2_inb i 1))) (View.ld x2 (Rect.unit (k0_off2 i 1#32) S1x512x128.size (k0_off2_inb i 1))) (View.ld x3 (Rect.unit (k0_off3 i 1#32) S1x1x512x512.size (k0_off3_inb i 1))) (queries x0)
  (nearStep (View.ld x1 (Rect.unit (k0_off2 i 0#32) S1x512x128.size (k0_off2_inb i 0))) (View.ld x2 (Rect.unit (k0_off2 i 0#32) S1x512x128.size (k0_off2_inb i 0))) (View.ld x3 (Rect.unit (k0_off3 i 0#32) S1x1x512x512.size (k0_off3_inb i 0))) (queries x0)
  (farStep (second w) (View.ld x4 (Rect.unit ![0, 0, 0, 0] S1x1x1x128.size (by decide))) (View.ld x4 (Rect.unit ![0, 1, 0, 0] S1x1x1x128.size (by decide))) (View.ld x1 (Rect.unit (k0_off1 i 1#32 1#32 3#32) S1x1024x128.size (k0_off1_inb i 1))) (View.ld x2 (Rect.unit (k0_off1 i 1#32 1#32 3#32) S1x1024x128.size (k0_off1_inb i 1))) (queries x0)
  (farStep w (View.ld x4 (Rect.unit ![0, 0, 0, 0] S1x1x1x128.size (by decide))) (View.ld x4 (Rect.unit ![0, 1, 0, 0] S1x1x1x128.size (by decide))) (View.ld x1 (Rect.unit (k0_off1 i 0#32 0#32 2#32) S1x1024x128.size (k0_off1_inb i 0))) (View.ld x2 (Rect.unit (k0_off1 i 0#32 0#32 2#32) S1x1024x128.size (k0_off1_inb i 0))) (queries x0) start)))))

/-- The output block, from the final sums. -/
def finish (acc : Vec F S1024x256 .f32) (x5 x6 x7 x8 : Vec F S1x64 .f32) (x9 : Vec F S1x128 .f32) : Vec F S1x512x128 .bf16 :=
  k0_pay1 (k0_pay70 (k0_pay69 x5) x6 x7 x8
    (View.ld acc (Rect.unit ![0, 0] S512x128.size (by decide))) (View.ld acc (Rect.unit ![0, 128] S512x128.size (by decide)))
    (View.ld acc (Rect.unit ![512, 0] S512x128.size (by decide))) (View.ld acc (Rect.unit ![512, 128] S512x128.size (by decide))) x9) (FloatOps.ofBits FTy.f32 1061997773#32)

/-- A load of a whole block reads the block. -/
theorem ld_tile (x : Vec F S1x512x128 .bf16) (h : ∀ a, ![0, 0, 0] a + ![1, 512, 128] a ≤ S1x512x128.size a) :
    View.ld x (Rect.unit ![0, 0, 0] ![1, 512, 128] h) = x := View.ld_unit_lit h x (by decide)

theorem ld_lambda (x : Vec F S1x64 .f32) (h : ∀ a, ![0, 0] a + ![1, 64] a ≤ S1x64.size a) :
    View.ld x (Rect.unit ![0, 0] ![1, 64] h) = x := View.ld_unit_lit h x (by decide)

theorem ld_gain (x : Vec F S1x128 .f32) (h : ∀ a, ![0, 0] a + ![1, 128] a ≤ S1x128.size a) :
    View.ld x (Rect.unit ![0, 0] ![1, 128] h) = x := View.ld_unit_lit h x (by decide)

/-- Reading back the two stores that fill the query scratch. -/
theorem queries_read (v : View sig .tc .vmem S1024x128 .bf16) (x0 : Vec F S1x512x128 .bf16) (h1 : ∀ a, ![512, 0] a + ![512, 128] a ≤ S1024x128.size a)
    (h2 : ∀ a, ![0, 0] a + ![512, 128] a ≤ S1024x128.size a) (h3 : ∀ a, ![0, 0] a + ![1024, 128] a ≤ S1024x128.size a) :
    v.readCov [⟨Rect.unit ![512, 0] ![512, 128] h1, k0_pay5 x0⟩, ⟨Rect.unit ![0, 0] ![512, 128] h2, k0_pay4 x0⟩]
      (Rect.unit ![0, 0] ![1024, 128] h3).toLoadRect = queries x0 := by
  rw [View.readCov_eq_canon']
  funext j
  have hj : (Rect.unit ![0, 0] ![1024, 128] h3).toLoadRect.idx j = j := by
    funext a; apply Fin.ext; show _ + 1 * (j a).val = _; fin_cases a <;> simp
  rw [hj]
  unfold queries
  split
  · rename_i h
    refine View.canon_eq_of_allAt _ _ _ ?_ ?_
    · refine ⟨⟨Rect.unit ![0, 0] ![512, 128] h2, k0_pay4 x0⟩, List.mem_cons_of_mem _ List.mem_cons_self, ?_⟩
      have h1 : (j 1).val < 128 := (j 1).isLt
      rw [Rect.mem_set_unit]
      exact Fin.forall_fin_two.2 ⟨⟨Nat.zero_le _, by simpa using h⟩, ⟨Nat.zero_le _, by simpa using h1⟩⟩
    · refine View.allAt_cons_unit _ _ _ _ _ ?_ (View.allAt_cons_unit _ _ _ _ _ ?_ (View.allAt_nil _ _))
      · intro x hx
        have := hx 0; simp at this; omega
      · intro x hx
        have h0 := hx 0; have h1' := hx 1
        simp at h0 h1'
        congr 1
        funext a; apply Fin.ext; fin_cases a <;> simp [h0, h1', ix2]
  · rename_i h
    refine View.canon_eq_of_allAt _ _ _ ?_ ?_
    · refine ⟨⟨Rect.unit ![512, 0] ![512, 128] h1, k0_pay5 x0⟩, List.mem_cons_self, ?_⟩
      have h0 : (j 0).val < 1024 := (j 0).isLt
      have h1 : (j 1).val < 128 := (j 1).isLt
      rw [Rect.mem_set_unit]
      exact Fin.forall_fin_two.2 ⟨⟨by simpa using h, by simpa using h0⟩, ⟨Nat.zero_le _, by simpa using h1⟩⟩
    · refine View.allAt_cons_unit _ _ _ _ _ ?_ (View.allAt_cons_unit _ _ _ _ _ ?_ (View.allAt_nil _ _))
      · intro x hx
        have h0 := hx 0; have h1' := hx 1
        simp at h0 h1'
        congr 1
        funext a; apply Fin.ext; fin_cases a <;> simp [h0, h1', ix2]
      · intro x hx
        have := hx 0; simp at this
        have hl := (x 0).isLt; change (x 0).val < 512 at hl; omega

/-! The same step written out at its several places in the body. -/

/-- The second far chunk's bias, chosen as the first one's is. -/
theorem second_eq (w : BitVec 32) (a b : Vec F S1x1x1x128 .f32) : k0_pay25 w a b = k0_pay15 (second w) a b := by
  unfold k0_pay25 k0_pay15 second
  have h : ∀ x : BitVec 1, Scalar.cmpi .sgt (Scalar.select x 1#32 0#32) 0#32 = x := by decide
  simp only [h]

theorem pay10_eq (k : Vec F S1x1024x128 .bf16) (q : Vec F S1024x128 .bf16) : k0_pay10 (k0_pay8 k) q = k0_pay13 k q := rfl
theorem pay11_eq (k : Vec F S1x1024x128 .bf16) (q : Vec F S1024x128 .bf16) : k0_pay11 (k0_pay8 k) q = k0_pay14 k q := rfl
theorem pay23_eq (k : Vec F S1x512x128 .bf16) (q : Vec F S1024x128 .bf16) (b : Vec F S1x1x512x512 .f32) : k0_pay23 (k0_pay21 k q) b = k0_pay34 k q b := rfl
theorem pay24_eq (k : Vec F S1x512x128 .bf16) (q : Vec F S1024x128 .bf16) (b : Vec F S1x1x512x512 .f32) : k0_pay24 (k0_pay21 k q) b = k0_pay36 (k0_pay35 k q b) := rfl
theorem pay45_eq (k : Vec F S1x512x128 .bf16) (q : Vec F S1024x128 .bf16) (b : Vec F S1x1x512x512 .f32) : k0_pay45 (k0_pay44 k q b) = k0_pay34 k q b := rfl
theorem pay46_eq (k : Vec F S1x512x128 .bf16) (q : Vec F S1024x128 .bf16) (b : Vec F S1x1x512x512 .f32) : k0_pay46 (k0_pay44 k q b) = k0_pay36 (k0_pay35 k q b) := rfl
theorem pay54_eq (k : Vec F S1x512x128 .bf16) (q : Vec F S1024x128 .bf16) (b : Vec F S1x1x512x512 .f32) : k0_pay54 (k0_pay52 k q) b = k0_pay34 k q b := rfl
theorem pay55_eq (k : Vec F S1x512x128 .bf16) (q : Vec F S1024x128 .bf16) (b : Vec F S1x1x512x512 .f32) : k0_pay55 (k0_pay52 k q) b = k0_pay36 (k0_pay35 k q b) := rfl
theorem pay27_eq (w : BitVec 32) (m : Vec F S1024x128 .f32) (a b : Vec F S1x1x1x128 .f32) (mc : Vec F S1x1024x128 .f32) : k0_pay27 m (k0_pay25 w a b) mc = k0_pay17 (second w) m a b mc := by
  rw [second_eq]; rfl
theorem pay28_eq (w : BitVec 32) (m : Vec F S1024x128 .f32) (a b : Vec F S1x1x1x128 .f32) (mc : Vec F S1x1024x128 .f32) : k0_pay28 m (k0_pay25 w a b) mc = k0_pay18 (second w) m a b mc := by
  rw [second_eq]; rfl
theorem pay29_eq (w : BitVec 32) (m : Vec F S1024x128 .f32) (a b : Vec F S1x1x1x128 .f32) (mc : Vec F S1x1024x128 .f32) (s : Vec F S1x1024x1024 .f32) : k0_pay29 m (k0_pay25 w a b) mc s = k0_pay19 (second w) m a b mc s := by
  rw [second_eq]; rfl
theorem pay32_eq (v : Vec F S1x1024x128 .bf16) (al : Vec F S1024x128 .f32) (acc : Vec F S1024x256 .f32) (p : Vec F S1x1024x1024 .bf16) : k0_pay32 (k0_pay30 v) (k0_pay31 al) acc p = k0_pay20 v al acc p := rfl
theorem pay48_eq (m : Vec F S1024x128 .f32) (mc : Vec F S1x1024x128 .f32) : k0_pay48 m mc = k0_pay38 m mc := rfl
theorem pay57_eq (m : Vec F S1024x128 .f32) (mc : Vec F S1x1024x128 .f32) : k0_pay57 m mc = k0_pay38 m mc := rfl
theorem pay49_eq (m : Vec F S1024x128 .f32) (mc : Vec F S1x1024x128 .f32) : k0_pay49 m mc = k0_pay39 m mc := rfl
theorem pay58_eq (m : Vec F S1024x128 .f32) (mc : Vec F S1x1024x128 .f32) : k0_pay58 m mc = k0_pay39 m mc := rfl
theorem pay65_eq (m : Vec F S1024x128 .f32) (mc : Vec F S1x1024x128 .f32) : k0_pay65 (k0_pay64 m mc) = k0_pay38 m mc := rfl
theorem pay50_eq (m : Vec F S1024x128 .f32) (mc : Vec F S1x1024x128 .f32) (s : Vec F S1x1024x512 .f32) : k0_pay50 m mc s = k0_pay40 m mc s := rfl
theorem pay60_eq (m : Vec F S1024x128 .f32) (mc : Vec F S1x1024x128 .f32) (s : Vec F S1x1024x512 .f32) : k0_pay60 (k0_pay59 m mc s) = k0_pay40 m mc s := rfl
theorem pay67_eq (m : Vec F S1024x128 .f32) (mc : Vec F S1x1024x128 .f32) (s : Vec F S1x1024x512 .f32) : k0_pay67 (k0_pay63 m mc s) = k0_pay40 m mc s := rfl
theorem pay43_eq (v : Vec F S1x512x128 .bf16) (al : Vec F S1024x128 .f32) (acc : Vec F S1024x256 .f32) (p : Vec F S1x1024x512 .bf16) : k0_pay43 (k0_pay41 v) k0_pay42 al acc p = k0_pay68 v al acc p := rfl
theorem pay51_eq (v : Vec F S1x512x128 .bf16) (al : Vec F S1024x128 .f32) (acc : Vec F S1024x256 .f32) (p : Vec F S1x1024x512 .bf16) : k0_pay51 v al acc p = k0_pay68 v al acc p := rfl
theorem pay61_eq (v : Vec F S1x512x128 .bf16) (al : Vec F S1024x128 .f32) (acc : Vec F S1024x256 .f32) (p : Vec F S1x1024x512 .bf16) : k0_pay61 v al acc p = k0_pay68 v al acc p := rfl

/-- The output block a grid point leaves, as the finish of the six accumulation steps. -/
theorem block_eq (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x5x512x512 .f32) (harg6 : arg6.IsWhole) (arg7 : Memref sig .tc .vmem S1x2x1x128 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S1x512x128 .bf16) (harg13 : arg13.IsWhole) (arg14 : Memref sig .tc .vmem S1024x128 .bf16) (harg14 : arg14.IsWhole) (arg15 : Memref sig .tc .vmem S1024x256 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S2x1024x1024 .f32) (harg18 : arg18.IsWhole) (arg19 : Memref sig .tc .vmem S2x1024x1024 .bf16) (harg19 : arg19.IsWhole) (arg20 : Memref sig .tc .vmem S2x1024x128 .f32) (harg20 : arg20.IsWhole) (x0 : Vec F S1x512x128 .bf16) (x1 : Vec F S1x4096x128 .bf16) (x2 : Vec F S1x4096x128 .bf16) (x3 : Vec F S1x5x512x512 .f32) (x4 : Vec F S1x2x1x128 .f32) (x5 : Vec F S1x64 .f32) (x6 : Vec F S1x64 .f32) (x7 : Vec F S1x64 .f32) (x8 : Vec F S1x64 .f32) (x9 : Vec F S1x128 .f32) :
    out0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9
      = finish (finalState (kernelRun0_A.sl.v62 i) i x0 x1 x2 x3 x4).acc x5 x6 x7 x8 x9 := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9)]
  unfold kernelRun0_A
  dsimp only
  rw [View.canon_cons_unit_lit _ _ _ (by decide)]
  simp (disch := decide) only [kernelRun0_A.sl.HS0_2, kernelRun0_A.sl.HS1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS2_1, kernelRun0_A.sl.HS2_2, kernelRun0_A.sl.HS2_3, kernelRun0_A.sl.HS2_4, kernelRun0_A.sl.HS2_5, kernelRun0_A.sl.HS2_6, kernelRun0_A.sl.HS3_1, kernelRun0_A.sl.HS3_2, kernelRun0_A.sl.HS3_3, kernelRun0_A.sl.HS3_4, kernelRun0_A.sl.HS3_5, kernelRun0_A.sl.HS3_6, kernelRun0_A.sl.HS4_2, kernelRun0_A.sl.HS4_3, kernelRun0_A.sl.HS4_4, kernelRun0_A.sl.HS4_5, kernelRun0_A.sl.HS4_6, kernelRun0_A.sl.HS5_1, kernelRun0_A.sl.HS5_2, kernelRun0_A.sl.HS5_3, kernelRun0_A.sl.HS5_4, kernelRun0_A.sl.HS5_5, kernelRun0_A.sl.HS5_6, kernelRun0_A.sl.HS6_2, kernelRun0_A.sl.HS6_3, kernelRun0_A.sl.HS6_4, kernelRun0_A.sl.HS6_5, kernelRun0_A.sl.HS6_6, kernelRun0_A.sl.cst_372, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v101, kernelRun0_A.sl.v110, kernelRun0_A.sl.v117, kernelRun0_A.sl.v144, kernelRun0_A.sl.v146, kernelRun0_A.sl.v148, kernelRun0_A.sl.v164, kernelRun0_A.sl.v185, kernelRun0_A.sl.v194, kernelRun0_A.sl.v201, kernelRun0_A.sl.v227, kernelRun0_A.sl.v229, kernelRun0_A.sl.v231, kernelRun0_A.sl.v268, kernelRun0_A.sl.v269, kernelRun0_A.sl.v272, kernelRun0_A.sl.v297, kernelRun0_A.sl.v299, kernelRun0_A.sl.v301, kernelRun0_A.sl.v338, kernelRun0_A.sl.v339, kernelRun0_A.sl.v342, kernelRun0_A.sl.v359, kernelRun0_A.sl.v360, kernelRun0_A.sl.v367, kernelRun0_A.sl.v369, kernelRun0_A.sl.v371, kernelRun0_A.sl.v408, kernelRun0_A.sl.v409, kernelRun0_A.sl.v412, kernelRun0_A.sl.v437, kernelRun0_A.sl.v439, kernelRun0_A.sl.v441, kernelRun0_A.sl.v448, kernelRun0_A.sl.v449, kernelRun0_A.sl.v452, kernelRun0_A.sl.v477, kernelRun0_A.sl.v479, kernelRun0_A.sl.v481, kernelRun0_A.sl.v507, kernelRun0_A.sl.v508, kernelRun0_A.sl.v510, kernelRun0_A.sl.v511, kernelRun0_A.sl.v70,
    View.readAt_eq_ld, Memref.IsWhole.read_unread, ↓ View.readCov_skip, ↓ View.readCov_cons_toLoadRect, ↓ View.readCov_fill, queries_read,
    ld_tile, ld_lambda, ld_gain,
    pay10_eq, pay11_eq, pay23_eq, pay24_eq, pay45_eq, pay46_eq, pay54_eq, pay55_eq, pay27_eq, pay28_eq, pay29_eq, pay32_eq, pay48_eq, pay57_eq, pay49_eq, pay58_eq, pay65_eq, pay50_eq, pay60_eq, pay67_eq, pay43_eq, pay51_eq, pay61_eq]
  simp only [finish, finalState, nearStep, farStep, start]

end Cert.Attn
-- ==== Proof.Offsets.lean ====
module

public import proofs.«01_k».proof.Proof.Body

@[expose] public section

set_option maxRecDepth 16384

noncomputable section

/-! Where each chunk of keys, values and biases is read, by the query tile. -/

namespace Cert.Attn

open Cert.KernelIdeal Cert.KernelIdeal.Gen Idealize.ShloMosaic

/-- The number of far chunks lying before the near keys of query tile `q`. -/
def before (q : Fin 8) : ℕ := if q.val < 3 then 0 else if q.val < 5 then 1 else 2

/-- The key at which chunk `t` of the near keys begins. -/
def nearKey (q : Fin 8) (t : Fin 4) : ℕ := (2 * before q + t.val) * 512

/-- The bias tile of chunk `t` of the near keys. -/
def nearTile (q : Fin 8) (t : Fin 4) : ℕ := min 4 (2 * before q + t.val + 2 - q.val)

/-- The key at which far chunk `t` begins. -/
def farKey (q : Fin 8) (t : Fin 2) : ℕ := (if t.val < before q then t.val else t.val + 2) * 1024

theorem off1_eq (i : grid0.Coords) (q : Fin 8) (hq : i 2 = q) :
    k0_off1 i 0#32 0#32 2#32 = ![0, farKey q 0, 0] ∧ k0_off1 i 1#32 1#32 3#32 = ![0, farKey q 1, 0] := by
  unfold k0_off1
  dsimp only
  rw [hq]
  clear hq
  revert q
  decide +kernel

theorem off2_eq (i : grid0.Coords) (q : Fin 8) (hq : i 2 = q) (t : Fin 4) :
    k0_off2 i (BitVec.ofNat 32 t.val) = ![0, nearKey q t, 0] := by
  unfold k0_off2
  dsimp only
  rw [hq]
  clear hq
  revert q t
  decide +kernel

theorem off3_eq (i : grid0.Coords) (q : Fin 8) (hq : i 2 = q) (t : Fin 4) :
    k0_off3 i (BitVec.ofNat 32 t.val) = ![0, nearTile q t, 0, 0] := by
  unfold k0_off3
  dsimp only
  rw [hq]
  clear hq
  revert q t
  decide +kernel

theorem before_eq (i : grid0.Coords) (q : Fin 8) (hq : i 2 = q) :
    kernelRun0_A.sl.v62 i = BitVec.ofNat 32 (before q) := by
  simp only [kernelRun0_A.sl.v62, kernelRun0_A.sl.v61, kernelRun0_A.sl.v60, kernelRun0_A.sl.v59, kernelRun0_A.sl.v58, kernelRun0_A.sl.v57, kernelRun0_A.sl.v51, kernelRun0_A.sl.v50, kernelRun0_A.sl.v49, kernelRun0_A.sl.v48, kernelRun0_A.sl.v47, kernelRun0_A.sl.v46, kernelRun0_A.sl.v45, kernelRun0_A.sl.v44, kernelRun0_A.sl.v43, kernelRun0_A.sl.v42, kernelRun0_A.sl.v41, kernelRun0_A.sl.v40, kernelRun0_A.sl.v39, kernelRun0_A.sl.v38, kernelRun0_A.sl.v37, kernelRun0_A.sl.v36, kernelRun0_A.sl.v30, kernelRun0_A.sl.v29, kernelRun0_A.sl.v28, kernelRun0_A.sl.v27, kernelRun0_A.sl.v26, kernelRun0_A.sl.v25, kernelRun0_A.sl.v24]
  rw [hq]
  clear hq
  revert q
  decide +kernel

end Cert.Attn
-- ==== Proof.Chunks.lean ====
module

public import proofs.«01_k».proof.Proof.Offsets
public import proofs.«01_k».proof.Proof.Spec

@[expose] public section

set_option maxRecDepth 16384

noncomputable section

/-! The six chunks are all the keys, and the biases the chunks read are the biases of their distances. -/

namespace Cert.Attn

open Idealize.ShloMosaic

/-- A key's number as a key. -/
def key (n : ℕ) : Fin 4096 := ⟨n % 4096, Nat.mod_lt _ (by norm_num)⟩

theorem key_val (n : ℕ) (h : n < 4096) : (key n).val = n := Nat.mod_eq_of_lt h

/-- The sum of `f` over the `n` keys from `a` on. -/
def chunk (f : Fin 4096 → ℝ) (a n : ℕ) : ℝ := ∑ x : Fin n, f (key (a + x.val))

/-- Two chunks one behind the other are one chunk. -/
theorem chunk_add (f : Fin 4096 → ℝ) (a n k : ℕ) : chunk f a (n + k) = chunk f a n + chunk f (a + n) k := by
  unfold chunk
  rw [Fin.sum_univ_add]
  simp [add_assoc]

/-- The chunk of all the keys is the whole sum. -/
theorem chunk_all (f : Fin 4096 → ℝ) : chunk f 0 4096 = ∑ k, f k := by
  unfold chunk
  refine Finset.sum_congr rfl fun x _ => congrArg f (Fin.ext ?_)
  show (0 + x.val) % 4096 = x.val
  omega

/-- Whatever the query tile, the two far chunks and the four near ones are all the keys. -/
theorem chunks (f : Fin 4096 → ℝ) (q : Fin 8) :
    chunk f (farKey q 0) 1024 + chunk f (farKey q 1) 1024 + chunk f (nearKey q 0) 512 + chunk f (nearKey q 1) 512
      + chunk f (nearKey q 2) 512 + chunk f (nearKey q 3) 512 = ∑ k, f k := by
  have h2 : ∀ a, chunk f a 1024 = chunk f a 512 + chunk f (a + 512) 512 := fun a => chunk_add f a 512 512
  have all : ∑ k, f k = chunk f 0 512 + chunk f 512 512 + chunk f 1024 512 + chunk f 1536 512 + chunk f 2048 512 + chunk f 2560 512
      + chunk f 3072 512 + chunk f 3584 512 := by
    have a1 : chunk f 0 1024 = chunk f 0 512 + chunk f 512 512 := chunk_add f 0 512 512
    have a2 : chunk f 0 1536 = chunk f 0 1024 + chunk f 1024 512 := chunk_add f 0 1024 512
    have a3 : chunk f 0 2048 = chunk f 0 1536 + chunk f 1536 512 := chunk_add f 0 1536 512
    have a4 : chunk f 0 2560 = chunk f 0 2048 + chunk f 2048 512 := chunk_add f 0 2048 512
    have a5 : chunk f 0 3072 = chunk f 0 2560 + chunk f 2560 512 := chunk_add f 0 2560 512
    have a6 : chunk f 0 3584 = chunk f 0 3072 + chunk f 3072 512 := chunk_add f 0 3072 512
    have a7 : chunk f 0 4096 = chunk f 0 3584 + chunk f 3584 512 := chunk_add f 0 3584 512
    rw [← chunk_all, a7, a6, a5, a4, a3, a2, a1]
  rw [all]
  obtain h | h | h : before q = 0 ∨ before q = 1 ∨ before q = 2 := by
    unfold before; split
    · simp
    · split <;> simp
  all_goals
    simp only [farKey, nearKey, h, h2]
    simp
    ring

/-! The biases. -/

/-- The row a distance reads, the distance an integer. -/
def rowOf (z : ℤ) : Fin 32 := row (BitVec.ofInt 32 z)

theorem row_eq_rowOf (a : BitVec 32) : row a = rowOf a.toInt := by
  unfold rowOf; rw [BitVec.ofInt_toInt]

/-- At a distance of 512 or more the row is the last of its side. -/
theorem rowOf_far (z : ℤ) (h : 512 ≤ z ∧ z ≤ 4096 ∨ z ≤ -512 ∧ -4096 ≤ z) : rowOf z = if 0 < z then 31 else 15 := by
  unfold rowOf
  have e : (BitVec.ofInt 32 z).toInt = z := by
    rw [BitVec.toInt_ofInt]
    exact Int.bmod_eq_of_le (by omega) (by omega)
  have ea : (IntOp.absi (BitVec.ofInt 32 z)).toInt = |z| := by
    show (BitVec.abs (BitVec.ofInt 32 z)).toInt = _
    have ne : BitVec.ofInt 32 z ≠ BitVec.intMin 32 := fun hh => by
      have c : (BitVec.intMin 32).toInt = -2147483648 := by decide
      rw [hh, c] at e; omega
    rw [BitVec.toInt_abs_eq_natAbs_of_ne_intMin ne, e, Int.natCast_natAbs]
  have hz : 512 ≤ |z| ∧ |z| ≤ 4096 := by
    rcases h with h | h
    · rw [abs_of_pos (by omega)]; omega
    · rw [abs_of_neg (by omega)]; omega
  rw [row_far _ (by rw [ea]; exact hz.1) (by rw [ea]; exact hz.2), e]

/-- The row of a query and a key. -/
theorem row_dist (r k : Fin 4096) : row (dist r k) = rowOf ((k.val : ℤ) - r.val) := by
  rw [row_eq_rowOf]
  congr 1
  show (BitVec.ofNat 32 k.val - BitVec.ofNat 32 r.val).toInt = _
  rw [BitVec.toInt_sub, BitVec.toInt_ofNat', BitVec.toInt_ofNat']
  have := k.isLt; have := r.isLt
  rw [Int.bmod_eq_of_le (n := ((k.val : ℕ) : ℤ)) (by omega) (by omega), Int.bmod_eq_of_le (n := ((r.val : ℕ) : ℤ)) (by omega) (by omega),
    Int.bmod_eq_of_le (by omega) (by omega)]

/-- The row of a table column. -/
theorem row_column (n : ℕ) (h : n < 4096) : row (4294965760#32 + BitVec.ofNat 32 n) = rowOf ((n : ℤ) - 1536) := by
  rw [row_eq_rowOf]
  congr 1
  have c : (4294965760#32).toInt = -1536 := by decide
  rw [BitVec.toInt_add, c, BitVec.toInt_ofNat']
  rw [Int.bmod_eq_of_le (n := (n : ℤ)) (by omega) (by omega), Int.bmod_eq_of_le (by omega) (by omega)]
  omega

/-- The bias a near chunk's tile holds at a place is that of the query and the key. -/
theorem near_row (q : Fin 8) (t : Fin 4) (r k : Fin 512) (ρ : Fin 4096) (hρ : ρ.val = 512 * q.val + r.val) :
    row (4294965760#32 + BitVec.ofNat 32 (512 * (nearTile q t + 1) + k.val - r.val)) = row (dist ρ (key (nearKey q t + k.val))) := by
  have hr := r.isLt; have hk := k.isLt; have hq := q.isLt; have ht := t.isLt
  have hb : before q = 0 ∧ q.val < 3 ∨ before q = 1 ∧ 3 ≤ q.val ∧ q.val < 5 ∨ before q = 2 ∧ 5 ≤ q.val := by
    unfold before; split
    · omega
    · split <;> omega
  have hT : nearTile q t ≤ 4 := by unfold nearTile; omega
  have hK : nearKey q t + k.val < 4096 := by unfold nearKey; omega
  rw [row_column _ (by omega), row_dist, hρ]
  have ek : (key (nearKey q t + k.val)).val = nearKey q t + k.val := Nat.mod_eq_of_lt hK
  rw [ek]
  by_cases hc : nearTile q t + q.val = 2 * before q + t.val + 2
  · congr 1
    unfold nearKey
    omega
  · have hc2 : (2 * before q + t.val ≥ q.val + 3 ∧ nearTile q t = 4) ∨ (2 * before q + t.val + 3 ≤ q.val ∧ nearTile q t = 0) := by
      unfold nearTile at hc ⊢; omega
    rw [rowOf_far _ (by omega), rowOf_far _ (by unfold nearKey; omega)]
    unfold nearKey
    congr 1
    apply propext
    omega

/-- The number a far chunk's bias is, as the row of the bias table. -/
def farRow (q : Fin 8) (t : Fin 2) : Fin 32 := if t.val < before q then 15 else 31

/-- It is the bias of every query of the tile and every key of the chunk. -/
theorem far_row (q : Fin 8) (t : Fin 2) (r : Fin 512) (k : Fin 1024) (ρ : Fin 4096) (hρ : ρ.val = 512 * q.val + r.val) :
    row (dist ρ (key (farKey q t + k.val))) = farRow q t := by
  have hr := r.isLt; have hk := k.isLt; have hq := q.isLt; have ht := t.isLt
  have hb : before q = 0 ∧ q.val < 3 ∨ before q = 1 ∧ 3 ≤ q.val ∧ q.val < 5 ∨ before q = 2 ∧ 5 ≤ q.val := by
    unfold before; split
    · omega
    · split <;> omega
  have hK : farKey q t + k.val < 4096 := by unfold farKey; split <;> omega
  have ek : (key (farKey q t + k.val)).val = farKey q t + k.val := Nat.mod_eq_of_lt hK
  rw [row_dist, hρ, ek]
  unfold farRow farKey
  split
  · rw [rowOf_far _ (by omega), if_neg (by omega)]
  · rw [rowOf_far _ (by omega), if_pos (by omega)]

/-- The rows of the table's first and last columns. -/
theorem row_first : row (4294965760#32 + BitVec.ofNat 32 0) = 15 := by
  rw [row_column _ (by norm_num), rowOf_far _ (by omega), if_neg (by omega)]
theorem row_last : row (4294965760#32 + BitVec.ofNat 32 3071) = 31 := by
  rw [row_column _ (by norm_num), rowOf_far _ (by omega), if_pos (by omega)]

end Cert.Attn
-- ==== Proof.Steps.lean ====
module

public import proofs.«01_k».proof.Proof.Body
public import proofs.«01_k».proof.Proof.Spec

@[expose] public section

set_option maxRecDepth 16384

noncomputable section

/-! One row of the accumulation steps, over the reals. -/

namespace Cert.Attn

open Cert.KernelIdeal Cert.KernelIdeal.Gen Idealize.ShloMosaic

/-- The bits the running maximum starts from denote the least extended real. -/
theorem start_bits : Ideal.ofBits FTy.f32 4286578688#32 = (⊥ : EReal) := by
  simp [Ideal.ofBits, Ideal.ieee]

/-! The pieces of a step, at an index. -/

theorem near_max_apply (m : Vec Ideal S1024x128 .f32) (mc : Vec Ideal S1x1024x128 .f32) (r : Fin 1024) (l : Fin 128) :
    k0_pay39 (F := Ideal) m mc (ix2 r l) = max (m (ix2 r l)) (mc (ix3 0 r l)) := by
  pointwise [k0_pay39, k0_pay37]

theorem near_scale_apply (m : Vec Ideal S1024x128 .f32) (mc : Vec Ideal S1x1024x128 .f32) (r : Fin 1024) (l : Fin 128) :
    k0_pay38 (F := Ideal) m mc (ix2 r l) = Ideal.exp2 (m (ix2 r l) - max (m (ix2 r l)) (mc (ix3 0 r l))) := by
  pointwise [k0_pay38, k0_pay37]
  rfl

theorem near_weight_apply (m : Vec Ideal S1024x128 .f32) (mc : Vec Ideal S1x1024x128 .f32) (s : Vec Ideal S1x1024x512 .f32) (r : Fin 1024)
    (M : EReal) (hM : ∀ l, max (m (ix2 r l)) (mc (ix3 0 r l)) = M) (x : Fin 512) :
    k0_pay40 (F := Ideal) m mc s (ix3 0 r x) = Ideal.exp2 (s (ix3 0 r x) - M) := by
  pointwise [k0_pay40, k0_pay37]
  simp only [hM, dite_eq_ite, ite_self]
  rfl

theorem near_sum_apply (v : Vec Ideal S1x512x128 .bf16) (al : Vec Ideal S1024x128 .f32) (acc : Vec Ideal S1024x256 .f32) (p : Vec Ideal S1x1024x512 .bf16)
    (r : Fin 1024) (j : Fin 256) (A : EReal) (hA : ∀ l, al (ix2 r l) = A) :
    k0_pay68 (F := Ideal) v al acc p (ix2 r j)
      = A * acc (ix2 r j) + ∑ x, p (ix3 0 r x) * (if h : j.val < 128 then v (ix3 0 x ⟨j.val, h⟩) else 1) := by
  pointwise [k0_pay68]
  simp only [hA, dite_eq_ite, ite_self]

theorem near_score_max_apply (k : Vec Ideal S1x512x128 .bf16) (q : Vec Ideal S1024x128 .bf16) (b : Vec Ideal S1x1x512x512 .f32) (r : Fin 1024) (l : Fin 128) :
    k0_pay36 (F := Ideal) (k0_pay35 k q b) (ix3 0 r l) = Finset.fold max (⊥ : EReal) (fun x : Fin 512 => k0_pay33 (F := Ideal) k q b (ix2 r x)) Finset.univ := by
  pointwise [k0_pay36, k0_pay35]
  rw [start_bits]

theorem near_score_apply (k : Vec Ideal S1x512x128 .bf16) (q : Vec Ideal S1024x128 .bf16) (b : Vec Ideal S1x1x512x512 .f32) (r : Fin 1024) (x : Fin 512) :
    k0_pay34 (F := Ideal) k q b (ix3 0 r x) = k0_pay33 (F := Ideal) k q b (ix2 r x) := by
  pointwise [k0_pay34]

theorem far_score_apply (k : Vec Ideal S1x1024x128 .bf16) (q : Vec Ideal S1024x128 .bf16) (r : Fin 1024) (x : Fin 1024) :
    k0_pay13 (F := Ideal) k q (ix3 0 r x) = k0_pay12 (F := Ideal) k q (ix2 r x) := by
  pointwise [k0_pay13]

theorem far_score_max_apply (k : Vec Ideal S1x1024x128 .bf16) (q : Vec Ideal S1024x128 .bf16) (r : Fin 1024) (l : Fin 128) :
    k0_pay14 (F := Ideal) k q (ix3 0 r l) = Finset.fold max (⊥ : EReal) (fun x : Fin 1024 => k0_pay12 (F := Ideal) k q (ix2 r x)) Finset.univ := by
  pointwise [k0_pay14]
  rw [start_bits]

theorem far_running_apply (w : BitVec 32) (m : Vec Ideal S1024x128 .f32) (a b : Vec Ideal S1x1x1x128 .f32) (mc : Vec Ideal S1x1024x128 .f32) (r : Fin 1024) (l : Fin 128) :
    k0_pay16 (F := Ideal) w m a b mc (ix2 r l) = max (m (ix2 r l)) (mc (ix3 0 r l) + k0_pay15 (F := Ideal) w a b (ix2 0 l)) := by
  pointwise [k0_pay16]

theorem far_max_apply (w : BitVec 32) (m : Vec Ideal S1024x128 .f32) (a b : Vec Ideal S1x1x1x128 .f32) (mc : Vec Ideal S1x1024x128 .f32) (r : Fin 1024) (l : Fin 128) :
    k0_pay18 (F := Ideal) w m a b mc (ix2 r l) = k0_pay16 (F := Ideal) w m a b mc (ix2 r l) := by
  pointwise [k0_pay18]

theorem far_scale_apply (w : BitVec 32) (m : Vec Ideal S1024x128 .f32) (a b : Vec Ideal S1x1x1x128 .f32) (mc : Vec Ideal S1x1024x128 .f32) (r : Fin 1024) (l : Fin 128) :
    k0_pay17 (F := Ideal) w m a b mc (ix2 r l) = Ideal.exp2 (m (ix2 r l) - k0_pay16 (F := Ideal) w m a b mc (ix2 r l)) := by
  pointwise [k0_pay17]
  rfl

theorem far_weight_apply (w : BitVec 32) (m : Vec Ideal S1024x128 .f32) (a b : Vec Ideal S1x1x1x128 .f32) (mc : Vec Ideal S1x1024x128 .f32) (s : Vec Ideal S1x1024x1024 .f32)
    (r : Fin 1024) (M K : EReal) (hM : ∀ l, k0_pay16 (F := Ideal) w m a b mc (ix2 r l) = M) (hK : ∀ l, k0_pay15 (F := Ideal) w a b (ix2 0 l) = K) (x : Fin 1024) :
    k0_pay19 (F := Ideal) w m a b mc s (ix3 0 r x) = Ideal.exp2 (s (ix3 0 r x) - (M - K)) := by
  pointwise [k0_pay19]
  simp only [hM, hK, dite_eq_ite, ite_self]
  rfl

theorem far_sum_apply (v : Vec Ideal S1x1024x128 .bf16) (al : Vec Ideal S1024x128 .f32) (acc : Vec Ideal S1024x256 .f32) (p : Vec Ideal S1x1024x1024 .bf16)
    (r : Fin 1024) (j : Fin 256) (A : EReal) (hA : ∀ l, al (ix2 r l) = A) :
    k0_pay20 (F := Ideal) v al acc p (ix2 r j)
      = A * acc (ix2 r j) + ∑ x, p (ix3 0 r x) * (if h : j.val < 128 then v (ix3 0 x ⟨j.val, h⟩) else 1) := by
  pointwise [k0_pay20]
  simp only [hA, dite_eq_ite, ite_self]

theorem start_sum_apply (r : Fin 1024) (j : Fin 256) : (start (F := Ideal)).acc (ix2 r j) = 0 := by
  show k0_pay6 (F := Ideal) (ix2 r j) = 0
  pointwise [k0_pay6]

theorem start_max_apply (r : Fin 1024) (l : Fin 128) : (start (F := Ideal)).m (ix2 r l) = ⊥ := by
  show k0_pay7 (F := Ideal) (ix2 r l) = ⊥
  pointwise [k0_pay7]
  exact start_bits

/-! The steps on one row. -/

/-- Real values with ones after them, as extended reals. -/
theorem withOnes_coe {n : ℕ} (v : Fin n → Fin 128 → EReal) (vr : Fin n → Fin 128 → ℝ) (hv : ∀ x l, v x l = (vr x l : EReal)) (j : Fin 256) (x : Fin n) :
    (if h : j.val < 128 then v x ⟨j.val, h⟩ else 1) = (withOnes vr j x : EReal) := by
  unfold withOnes
  split
  · exact hv _ _
  · rfl

/-- Row `r` of a state holds the real sums `S`: the running maximum is a real number, the same in every lane, and the sums are kept
    divided by two to that number. -/
def Holds (s : State Ideal) (r : Fin 1024) (S : Fin 256 → ℝ) : Prop :=
  ∃ μ : ℝ, (∀ l, s.m (ix2 r l) = (μ : EReal)) ∧ ∀ j, s.acc (ix2 r j) = ((pow2 (-μ) * S j : ℝ) : EReal)

/-- A near chunk adds to each sum its values weighted by two to the scores. -/
theorem near_holds (k v : Vec Ideal S1x512x128 .bf16) (b : Vec Ideal S1x1x512x512 .f32) (q : Vec Ideal S1024x128 .bf16) (s : State Ideal) (r : Fin 1024)
    (S : Fin 256 → ℝ) (hs : Holds s r S) (y : Fin 512 → ℝ) (hy : ∀ x, k0_pay33 (F := Ideal) k q b (ix2 r x) = (y x : EReal))
    (vr : Fin 512 → Fin 128 → ℝ) (hv : ∀ x l, v (ix3 0 x l) = (vr x l : EReal)) :
    Holds (nearStep k v b q s) r (fun j => S j + ∑ x, pow2 (y x) * withOnes vr j x) := by
  obtain ⟨μ, hm, hacc⟩ := hs
  obtain ⟨c, hc⟩ := fold_max_real y (by norm_num) (fun x => k0_pay33 (F := Ideal) k q b (ix2 r x)) hy
  have hmc : ∀ l, k0_pay36 (F := Ideal) (k0_pay35 k q b) (ix3 0 r l) = (c : EReal) := fun l => by rw [near_score_max_apply, hc]
  have hM : ∀ l, max (s.m (ix2 r l)) (k0_pay36 (F := Ideal) (k0_pay35 k q b) (ix3 0 r l)) = ((max μ c : ℝ) : EReal) := fun l => by
    rw [hm, hmc, max_real]
  refine ⟨max μ c, fun l => ?_, fun j => ?_⟩
  · show k0_pay39 (F := Ideal) _ _ _ = _
    rw [near_max_apply, hM]
  · show k0_pay68 (F := Ideal) _ _ _ _ _ = _
    rw [near_sum_apply _ _ _ _ _ _ (Ideal.exp2 ((μ : EReal) - ((max μ c : ℝ) : EReal))) (fun l => by rw [near_scale_apply, hM, hm]), hacc]
    have h := step_coe μ (max μ c) 0 (S j) y (withOnes vr j)
    simp only [EReal.coe_zero, sub_zero, add_zero] at h
    rw [← h]
    congr 1
    refine Finset.sum_congr rfl fun x _ => ?_
    rw [near_weight_apply _ _ _ _ _ hM, near_score_apply, hy, withOnes_coe (fun x l => v (ix3 0 x l)) vr hv]

/-- A far chunk does the same, its bias the number `κ`. -/
theorem far_holds (w : BitVec 32) (a b : Vec Ideal S1x1x1x128 .f32) (k v : Vec Ideal S1x1024x128 .bf16) (q : Vec Ideal S1024x128 .bf16) (s : State Ideal) (r : Fin 1024)
    (S : Fin 256 → ℝ) (hs : Holds s r S) (y : Fin 1024 → ℝ) (hy : ∀ x, k0_pay12 (F := Ideal) k q (ix2 r x) = (y x : EReal))
    (κ : ℝ) (hκ : ∀ l, k0_pay15 (F := Ideal) w a b (ix2 0 l) = (κ : EReal))
    (vr : Fin 1024 → Fin 128 → ℝ) (hv : ∀ x l, v (ix3 0 x l) = (vr x l : EReal)) :
    Holds (farStep w a b k v q s) r (fun j => S j + ∑ x, pow2 (y x + κ) * withOnes vr j x) := by
  obtain ⟨μ, hm, hacc⟩ := hs
  obtain ⟨c, hc⟩ := fold_max_real y (by norm_num) (fun x => k0_pay12 (F := Ideal) k q (ix2 r x)) hy
  have hM : ∀ l, k0_pay16 (F := Ideal) w s.m a b (k0_pay14 (F := Ideal) k q) (ix2 r l) = ((max μ (c + κ) : ℝ) : EReal) := fun l => by
    rw [far_running_apply, hm, far_score_max_apply, hc, hκ, ← EReal.coe_add, max_real]
  refine ⟨max μ (c + κ), fun l => ?_, fun j => ?_⟩
  · show k0_pay18 (F := Ideal) _ _ _ _ _ _ = _
    rw [far_max_apply, hM]
  · show k0_pay20 (F := Ideal) _ _ _ _ _ = _
    rw [far_sum_apply _ _ _ _ _ _ (Ideal.exp2 ((μ : EReal) - ((max μ (c + κ) : ℝ) : EReal))) (fun l => by rw [far_scale_apply, hM, hm]), hacc,
      ← step_coe μ (max μ (c + κ)) κ (S j) y (withOnes vr j)]
    congr 1
    refine Finset.sum_congr rfl fun x _ => ?_
    rw [far_weight_apply _ _ _ _ _ _ _ _ _ hM hκ, far_score_apply, hy, withOnes_coe (fun x l => v (ix3 0 x l)) vr hv]

/-- The first chunk, which finds the running maximum at the least extended real and the sums at zero. -/
theorem first_holds (w : BitVec 32) (a b : Vec Ideal S1x1x1x128 .f32) (k v : Vec Ideal S1x1024x128 .bf16) (q : Vec Ideal S1024x128 .bf16) (r : Fin 1024)
    (y : Fin 1024 → ℝ) (hy : ∀ x, k0_pay12 (F := Ideal) k q (ix2 r x) = (y x : EReal))
    (κ : ℝ) (hκ : ∀ l, k0_pay15 (F := Ideal) w a b (ix2 0 l) = (κ : EReal))
    (vr : Fin 1024 → Fin 128 → ℝ) (hv : ∀ x l, v (ix3 0 x l) = (vr x l : EReal)) :
    Holds (farStep w a b k v q start) r (fun j => ∑ x, pow2 (y x + κ) * withOnes vr j x) := by
  obtain ⟨c, hc⟩ := fold_max_real y (by norm_num) (fun x => k0_pay12 (F := Ideal) k q (ix2 r x)) hy
  have hM : ∀ l, k0_pay16 (F := Ideal) w (start (F := Ideal)).m a b (k0_pay14 (F := Ideal) k q) (ix2 r l) = ((c + κ : ℝ) : EReal) := fun l => by
    rw [far_running_apply, start_max_apply, far_score_max_apply, hc, hκ, ← EReal.coe_add, max_bot_left]
  refine ⟨c + κ, fun l => ?_, fun j => ?_⟩
  · show k0_pay18 (F := Ideal) _ _ _ _ _ _ = _
    rw [far_max_apply, hM]
  · show k0_pay20 (F := Ideal) _ _ _ _ _ = _
    rw [far_sum_apply _ _ _ _ _ _ (Ideal.exp2 ((⊥ : EReal) - ((c + κ : ℝ) : EReal))) (fun l => by rw [far_scale_apply, hM, start_max_apply]), start_sum_apply,
      ← step_first (c + κ) κ y (withOnes vr j)]
    congr 1
    refine Finset.sum_congr rfl fun x _ => ?_
    rw [far_weight_apply _ _ _ _ _ _ _ _ _ hM hκ, far_score_apply, hy, withOnes_coe (fun x l => v (ix3 0 x l)) vr hv]

end Cert.Attn
-- ==== Proof.Rows.lean ====
module

public import proofs.«01_k».proof.Proof.Chunks
public import proofs.«01_k».proof.Proof.Steps

@[expose] public section

set_option maxRecDepth 16384

noncomputable section

/-! The rows of one query tile after the six accumulation steps. -/

namespace Cert.Attn

open Cert.KernelIdeal Cert.KernelIdeal.Gen Idealize.ShloMosaic

/-- The kernel's named constant is the logarithm of the natural base, to base two. -/
theorem log2e_value : (Named.named (F := Ideal) (φ := .f32) Cert.KernelIdeal.κ "log2e" 0x3FB8AA3B#32 : Ideal .f32) = (((Real.log 2)⁻¹ : ℝ) : EReal) :=
  IdealRules.named_const.ideal_named_scalar _ _ _ _ rfl

theorem far_dot_apply (k : Vec Ideal S1x1024x128 .bf16) (q : Vec Ideal S1024x128 .bf16) (r : Fin 1024) (x : Fin 1024) :
    k0_pay12 (F := Ideal) k q (ix2 r x) = ∑ d : Fin 128, q (ix2 r d) * k (ix3 0 x d) := by
  pointwise [k0_pay12]

theorem near_dot_apply (k : Vec Ideal S1x512x128 .bf16) (q : Vec Ideal S1024x128 .bf16) (b : Vec Ideal S1x1x512x512 .f32) (mp : Fin 2) (a : Fin 512) (x : Fin 512) :
    k0_pay33 (F := Ideal) k q b (ix2 ⟨512 * mp.val + a.val, by omega⟩ x)
      = (∑ d : Fin 128, q (ix2 ⟨512 * mp.val + a.val, by omega⟩ d) * k (ix3 0 x d)) + b (ix4 0 0 a x) * (((Real.log 2)⁻¹ : ℝ) : EReal) := by
  rw [← log2e_value]
  pointwise [k0_pay33]
  congr 1
  split
  · rename_i h
    have hm : mp.val = 0 := by omega
    congr 3
    apply Fin.ext
    show 512 * mp.val + a.val = a.val
    omega
  · rename_i h
    have hm : mp.val = 1 := by have := mp.isLt; omega
    congr 3
    apply Fin.ext
    show 512 * mp.val + a.val - 512 = a.val
    omega

theorem far_bias_apply (w : BitVec 32) (a b : Vec Ideal S1x1x1x128 .f32) (l : Fin 128) :
    k0_pay15 (F := Ideal) w a b (ix2 0 l)
      = Scalar.select (Scalar.cmpi .sgt w 0#32) (a (ix4 0 0 0 l)) (b (ix4 0 0 0 l)) * (((Real.log 2)⁻¹ : ℝ) : EReal) := by
  rw [← log2e_value]
  pointwise [k0_pay15]

theorem lane_lt : ∀ l : Fin 128, IntOp.cmpi .slt (BitVec.ofNat 32 l.val) 64#32 = if l.val < 64 then 1#1 else 0#1 := by decide +kernel
theorem lane_ge : ∀ l : Fin 128, IntOp.cmpi .sge (BitVec.ofNat 32 l.val) 64#32 = if l.val < 64 then 0#1 else 1#1 := by decide +kernel

theorem first_half_apply (x0 : Vec Ideal S1x512x128 .bf16) (a : Fin 512) (l : Fin 128) :
    k0_pay4 (F := Ideal) x0 (ix2 a l) = if l.val < 64 then x0 (ix3 0 a l) else 0 := by
  pointwise [k0_pay4, k0_pay2, k0_pay3]
  rw [lane_lt]
  split <;> rfl

theorem second_half_apply (x0 : Vec Ideal S1x512x128 .bf16) (a : Fin 512) (l : Fin 128) :
    k0_pay5 (F := Ideal) x0 (ix2 a l) = if l.val < 64 then 0 else x0 (ix3 0 a l) := by
  pointwise [k0_pay5, k0_pay2, k0_pay3]
  rw [lane_ge]
  split <;> rfl

/-- A row of the doubled query tile: the lanes of its own score map, zero elsewhere. -/
theorem queries_apply (x0 : Vec Ideal S1x512x128 .bf16) (mp : Fin 2) (a : Fin 512) (l : Fin 128) :
    queries x0 (ix2 ⟨512 * mp.val + a.val, by omega⟩ l) = if l.val / 64 = mp.val then x0 (ix3 0 a l) else 0 := by
  unfold queries
  have hl := l.isLt; have hm := mp.isLt
  split
  · rename_i h
    change 512 * mp.val + a.val < 512 at h
    have e : (ix2 ⟨512 * mp.val + a.val, h⟩ l : S512x128.Idx) = ix2 a l := by
      congr 1; apply Fin.ext; show 512 * mp.val + a.val = a.val; omega
    refine (congrArg (k0_pay4 x0) e).trans ?_
    rw [first_half_apply]
    by_cases hc : l.val < 64
    · rw [if_pos hc, if_pos (by omega)]
    · rw [if_neg hc, if_neg (by omega)]
  · rename_i h
    change ¬ 512 * mp.val + a.val < 512 at h
    have e : (ix2 ⟨512 * mp.val + a.val - 512, by omega⟩ l : S512x128.Idx) = ix2 a l := by
      congr 1; apply Fin.ext; show 512 * mp.val + a.val - 512 = a.val; omega
    refine (congrArg (k0_pay5 x0) e).trans ?_
    rw [second_half_apply]
    by_cases hc : l.val < 64
    · rw [if_pos hc, if_neg (by omega)]
    · rw [if_neg hc, if_pos (by omega)]

/-- A sum over the lanes in which only one half of them counts. -/
theorem half_sum (mp : Fin 2) (f g : Fin 128 → ℝ) :
    ∑ d : Fin 128, (if d.val / 64 = mp.val then f d else 0) * g d = ∑ d : Fin 64, f ⟨mp.val * 64 + d.val, by omega⟩ * g ⟨mp.val * 64 + d.val, by omega⟩ := by
  refine (Fin.sum_univ_add (a := 64) (b := 64) (f := fun d : Fin 128 => (if d.val / 64 = mp.val then f d else 0) * g d)).trans ?_
  have l0 : ∀ d : Fin 64, (Fin.castAdd 64 d).val / 64 = 0 := fun d => by simp
  have l1 : ∀ d : Fin 64, (Fin.natAdd 64 d).val / 64 = 1 := fun d => by simp
  simp only [l0, l1]
  fin_cases mp
  · simp
    rfl
  · simp
    rfl

/-! One query tile: the blocks a grid point loads, as real numbers. -/

variable (X : Fin 8 → Fin 4096 → Fin 3072 → ℝ) (B : Fin 32 → Fin 8 → ℝ) (b h q : Fin 8)
  (x0 : Vec Ideal S1x512x128 .bf16) (x1 x2 : Vec Ideal S1x4096x128 .bf16) (x3 : Vec Ideal S1x5x512x512 .f32) (x4 : Vec Ideal S1x2x1x128 .f32)

/-- The query of row `a` of the tile. -/
def query (q : Fin 8) (a : Fin 512) : Fin 4096 := ⟨512 * q.val + a.val, by omega⟩

/-- The blocks hold the queries, keys, values and biases of head `h`, batch `b`, query tile `q`. -/
structure Loaded : Prop where
  q : ∀ a l, x0 (ix3 0 a l) = (X b (query q a) ⟨h.val * 128 + l.val, by omega⟩ : EReal)
  k : ∀ k l, x1 (ix3 0 k l) = (X b k ⟨1024 + (h.val * 128 + l.val), by omega⟩ : EReal)
  v : ∀ k l, x2 (ix3 0 k l) = (vals X b h k l : EReal)
  near : ∀ t r k, x3 (ix4 0 t r k) = (B (row (4294965760#32 + BitVec.ofNat 32 (512 * (t.val + 1) + k.val - r.val))) h : EReal)
  far : ∀ (t : Fin 2) l, x4 (ix4 0 t 0 l) = (B (if t.val = 0 then 15 else 31) h : EReal)

variable {X B b h q x0 x1 x2 x3 x4}

/-- The queries' row against a key's lanes. -/
theorem dot_eq (hL : Loaded X B b h q x0 x1 x2 x3 x4) (mp : Fin 2) (a : Fin 512) (k : Fin 4096) :
    (∑ d : Fin 128, queries x0 (ix2 ⟨512 * mp.val + a.val, by omega⟩ d) * x1 (ix3 0 k d))
      = ((∑ d : Fin 64, X b (query q a) ⟨h.val * 128 + mp.val * 64 + d.val, by omega⟩ * X b k ⟨1024 + (h.val * 128 + mp.val * 64 + d.val), by omega⟩ : ℝ) : EReal) := by
  have e : ∀ d : Fin 128, queries x0 (ix2 ⟨512 * mp.val + a.val, by omega⟩ d) * x1 (ix3 0 k d)
      = (((if d.val / 64 = mp.val then X b (query q a) ⟨h.val * 128 + d.val, by omega⟩ else 0) * X b k ⟨1024 + (h.val * 128 + d.val), by omega⟩ : ℝ) : EReal) := fun d => by
    rw [queries_apply, hL.k, EReal.coe_mul]
    congr 1
    split
    · exact hL.q a d
    · rfl
  simp only [e, ← coe_sum]
  rw [half_sum mp (fun d => X b (query q a) ⟨h.val * 128 + d.val, by omega⟩) (fun d => X b k ⟨1024 + (h.val * 128 + d.val), by omega⟩)]
  refine congrArg (fun z : ℝ => (z : EReal)) (Finset.sum_congr rfl fun d _ => ?_)
  exact congrArg₂ (fun c c' => X b (query q a) c * X b k c') (Fin.ext (by show h.val * 128 + (mp.val * 64 + d.val) = h.val * 128 + mp.val * 64 + d.val; omega))
    (Fin.ext (by show 1024 + (h.val * 128 + (mp.val * 64 + d.val)) = 1024 + (h.val * 128 + mp.val * 64 + d.val); omega))

/-- A load of `n` keys, or values, from key `a` on. -/
theorem ld_near (x : Vec Ideal S1x4096x128 .bf16) (off : Fin 3 → ℕ) (a : ℕ) (ho : off = ![0, a, 0]) (inb : ∀ d, off d + S1x512x128.size d ≤ S1x4096x128.size d) (k : Fin 512) (l : Fin 128) :
    View.ld x (Rect.unit off S1x512x128.size inb) (ix3 0 k l) = x (ix3 0 (key (a + k.val)) l) := by
  have h1 : a + 512 ≤ 4096 := by have := inb 1; rw [ho] at this; exact this
  subst ho
  refine View.ld_unit_apply_of x _ _ inb _ _ fun d => ?_
  match d with
  | ⟨0, _⟩ => exact (Nat.zero_add 0).symm
  | ⟨1, _⟩ => exact key_val (a + k.val) (by omega)
  | ⟨2, _⟩ => exact (Nat.zero_add l.val).symm

theorem ld_far (x : Vec Ideal S1x4096x128 .bf16) (off : Fin 3 → ℕ) (a : ℕ) (ho : off = ![0, a, 0]) (inb : ∀ d, off d + S1x1024x128.size d ≤ S1x4096x128.size d) (k : Fin 1024) (l : Fin 128) :
    View.ld x (Rect.unit off S1x1024x128.size inb) (ix3 0 k l) = x (ix3 0 (key (a + k.val)) l) := by
  have h1 : a + 1024 ≤ 4096 := by have := inb 1; rw [ho] at this; exact this
  subst ho
  refine View.ld_unit_apply_of x _ _ inb _ _ fun d => ?_
  match d with
  | ⟨0, _⟩ => exact (Nat.zero_add 0).symm
  | ⟨1, _⟩ => exact key_val (a + k.val) (by omega)
  | ⟨2, _⟩ => exact (Nat.zero_add l.val).symm

/-- A load of one bias tile. -/
theorem ld_bias (x : Vec Ideal S1x5x512x512 .f32) (off : Fin 4 → ℕ) (t : ℕ) (ht : t < 5) (ho : off = ![0, t, 0, 0]) (inb : ∀ d, off d + S1x1x512x512.size d ≤ S1x5x512x512.size d) (a k : Fin 512) :
    View.ld x (Rect.unit off S1x1x512x512.size inb) (ix4 0 0 a k) = x (ix4 0 ⟨t, ht⟩ a k) := by
  subst ho
  refine View.ld_unit_apply_of x _ _ inb _ _ fun d => ?_
  fin_cases d
  · rfl
  · rfl
  · show a.val = 0 + a.val; omega
  · show k.val = 0 + k.val; omega

/-- The weighted sum over a chunk, as the steps add it. -/
def part (X : Fin 8 → Fin 4096 → Fin 3072 → ℝ) (B : Fin 32 → Fin 8 → ℝ) (b h : Fin 8) (mp : Fin 2) (r : Fin 4096) (j : Fin 256) (k : Fin 4096) : ℝ :=
  pow2 (score X B b h mp r k) * withOnes (vals X b h) j k

theorem nearTile_lt (q : Fin 8) (t : Fin 4) : nearTile q t < 5 := by unfold nearTile; omega

/-- A near chunk on a row. -/
theorem near_row_holds (hL : Loaded X B b h q x0 x1 x2 x3 x4) (t : Fin 4) (ok ob) (hk : ok = ![0, nearKey q t, 0]) (hb : ob = ![0, nearTile q t, 0, 0]) (ik ib)
    (mp : Fin 2) (a : Fin 512) (s : State Ideal) (S : Fin 256 → ℝ) (hs : Holds s ⟨512 * mp.val + a.val, by omega⟩ S) :
    Holds (nearStep (View.ld x1 (Rect.unit ok S1x512x128.size ik)) (View.ld x2 (Rect.unit ok S1x512x128.size ik))
        (View.ld x3 (Rect.unit ob S1x1x512x512.size ib)) (queries x0) s) ⟨512 * mp.val + a.val, by omega⟩
      (fun j => S j + chunk (part X B b h mp (query q a) j) (nearKey q t) 512) := by
  refine near_holds _ _ _ _ _ _ S hs (fun x => score X B b h mp (query q a) (key (nearKey q t + x.val))) (fun x => ?_)
    (fun x l => vals X b h (key (nearKey q t + x.val)) l) (fun x l => ?_)
  · rw [near_dot_apply, ld_bias x3 ob _ (nearTile_lt q t) hb ib, hL.near]
    simp only [ld_near x1 ok _ hk ik]
    rw [dot_eq hL, ← EReal.coe_mul, ← EReal.coe_add]
    unfold score
    rw [near_row q t a x (query q a) rfl]
  · rw [ld_near x2 ok _ hk ik, hL.v]

/-- The number added to the scores of a far chunk. -/
theorem far_bias (hL : Loaded X B b h q x0 x1 x2 x3 x4) (t : Fin 2) (w : BitVec 32) (hw : Scalar.cmpi .sgt w 0#32 = if t.val < before q then 1#1 else 0#1)
    (i0 i1) (l : Fin 128) :
    k0_pay15 (F := Ideal) w (View.ld x4 (Rect.unit ![0, 0, 0, 0] S1x1x1x128.size i0)) (View.ld x4 (Rect.unit ![0, 1, 0, 0] S1x1x1x128.size i1)) (ix2 0 l)
      = ((B (farRow q t) h * (Real.log 2)⁻¹ : ℝ) : EReal) := by
  have e0 : View.ld x4 (Rect.unit ![0, 0, 0, 0] S1x1x1x128.size i0) (ix4 0 0 0 l) = x4 (ix4 0 0 0 l) := by
    refine View.ld_unit_apply_of x4 _ _ i0 _ _ fun d => ?_
    fin_cases d
    · rfl
    · rfl
    · rfl
    · show l.val = 0 + l.val; omega
  have e1 : View.ld x4 (Rect.unit ![0, 1, 0, 0] S1x1x1x128.size i1) (ix4 0 0 0 l) = x4 (ix4 0 1 0 l) := by
    refine View.ld_unit_apply_of x4 _ _ i1 _ _ fun d => ?_
    fin_cases d
    · rfl
    · rfl
    · rfl
    · show l.val = 0 + l.val; omega
  rw [far_bias_apply, hw, e0, e1, hL.far, hL.far, EReal.coe_mul]
  unfold farRow
  split <;> rfl

/-- A far chunk's scores on a row. -/
theorem far_scores (hL : Loaded X B b h q x0 x1 x2 x3 x4) (t : Fin 2) (ok) (hk : ok = ![0, farKey q t, 0]) (ik) (mp : Fin 2) (a : Fin 512) (x : Fin 1024) :
    k0_pay12 (F := Ideal) (View.ld x1 (Rect.unit ok S1x1024x128.size ik)) (queries x0) (ix2 ⟨512 * mp.val + a.val, by omega⟩ x)
      = ((score X B b h mp (query q a) (key (farKey q t + x.val)) - B (farRow q t) h * (Real.log 2)⁻¹ : ℝ) : EReal) := by
  rw [far_dot_apply]
  simp only [ld_far x1 ok _ hk ik]
  rw [dot_eq hL]
  unfold score
  rw [far_row q t a x (query q a) rfl, add_sub_cancel_right]

/-- The first far chunk on a row. -/
theorem first_row_holds (hL : Loaded X B b h q x0 x1 x2 x3 x4) (t : Fin 2) (w : BitVec 32) (hw : Scalar.cmpi .sgt w 0#32 = if t.val < before q then 1#1 else 0#1)
    (i0 i1) (ok) (hk : ok = ![0, farKey q t, 0]) (ik) (mp : Fin 2) (a : Fin 512) :
    Holds (farStep w (View.ld x4 (Rect.unit ![0, 0, 0, 0] S1x1x1x128.size i0)) (View.ld x4 (Rect.unit ![0, 1, 0, 0] S1x1x1x128.size i1))
        (View.ld x1 (Rect.unit ok S1x1024x128.size ik)) (View.ld x2 (Rect.unit ok S1x1024x128.size ik)) (queries x0) start) ⟨512 * mp.val + a.val, by omega⟩
      (fun j => chunk (part X B b h mp (query q a) j) (farKey q t) 1024) := by
  have H := first_holds w (View.ld x4 (Rect.unit ![0, 0, 0, 0] S1x1x1x128.size i0)) (View.ld x4 (Rect.unit ![0, 1, 0, 0] S1x1x1x128.size i1))
    (View.ld x1 (Rect.unit ok S1x1024x128.size ik)) (View.ld x2 (Rect.unit ok S1x1024x128.size ik)) (queries x0) ⟨512 * mp.val + a.val, by omega⟩
    _ (far_scores hL t ok hk ik mp a) _ (far_bias hL t w hw i0 i1)
    (fun x l => vals X b h (key (farKey q t + x.val)) l) (fun x l => by rw [ld_far x2 ok _ hk ik, hL.v])
  simp only [sub_add_cancel] at H
  exact H

/-- A later far chunk on a row. -/
theorem far_row_holds (hL : Loaded X B b h q x0 x1 x2 x3 x4) (t : Fin 2) (w : BitVec 32) (hw : Scalar.cmpi .sgt w 0#32 = if t.val < before q then 1#1 else 0#1)
    (i0 i1) (ok) (hk : ok = ![0, farKey q t, 0]) (ik) (mp : Fin 2) (a : Fin 512) (s : State Ideal) (S : Fin 256 → ℝ) (hs : Holds s ⟨512 * mp.val + a.val, by omega⟩ S) :
    Holds (farStep w (View.ld x4 (Rect.unit ![0, 0, 0, 0] S1x1x1x128.size i0)) (View.ld x4 (Rect.unit ![0, 1, 0, 0] S1x1x1x128.size i1))
        (View.ld x1 (Rect.unit ok S1x1024x128.size ik)) (View.ld x2 (Rect.unit ok S1x1024x128.size ik)) (queries x0) s) ⟨512 * mp.val + a.val, by omega⟩
      (fun j => S j + chunk (part X B b h mp (query q a) j) (farKey q t) 1024) := by
  have H := far_holds w (View.ld x4 (Rect.unit ![0, 0, 0, 0] S1x1x1x128.size i0)) (View.ld x4 (Rect.unit ![0, 1, 0, 0] S1x1x1x128.size i1))
    (View.ld x1 (Rect.unit ok S1x1024x128.size ik)) (View.ld x2 (Rect.unit ok S1x1024x128.size ik)) (queries x0) s ⟨512 * mp.val + a.val, by omega⟩ S hs
    _ (far_scores hL t ok hk ik mp a) _ (far_bias hL t w hw i0 i1)
    (fun x l => vals X b h (key (farKey q t + x.val)) l) (fun x l => by rw [ld_far x2 ok _ hk ik, hL.v])
  simp only [sub_add_cancel] at H
  exact H

theorem first_choice : ∀ q : Fin 8, Scalar.cmpi .sgt (BitVec.ofNat 32 (before q)) 0#32 = if (0 : Fin 2).val < before q then 1#1 else 0#1 := by decide +kernel
theorem second_choice : ∀ q : Fin 8, Scalar.cmpi .sgt (second (BitVec.ofNat 32 (before q))) 0#32 = if (1 : Fin 2).val < before q then 1#1 else 0#1 := by decide +kernel

/-- After all six steps a row holds the sums over every key. -/
theorem final_holds (hL : Loaded X B b h q x0 x1 x2 x3 x4) (i : Cert.KernelIdeal.grid0.Coords) (hq : i 2 = q) (mp : Fin 2) (a : Fin 512) :
    Holds (finalState (kernelRun0_A.sl.v62 i) i x0 x1 x2 x3 x4) ⟨512 * mp.val + a.val, by omega⟩ (total X B b h mp (query q a)) := by
  have H := near_row_holds hL 3 _ _ (off2_eq i q hq 3) (off3_eq i q hq 3) (k0_off2_inb i 3) (k0_off3_inb i 3) mp a _ _
    (near_row_holds hL 2 _ _ (off2_eq i q hq 2) (off3_eq i q hq 2) (k0_off2_inb i 2) (k0_off3_inb i 2) mp a _ _
    (near_row_holds hL 1 _ _ (off2_eq i q hq 1) (off3_eq i q hq 1) (k0_off2_inb i 1) (k0_off3_inb i 1) mp a _ _
    (near_row_holds hL 0 _ _ (off2_eq i q hq 0) (off3_eq i q hq 0) (k0_off2_inb i 0) (k0_off3_inb i 0) mp a _ _
    (far_row_holds hL 1 _ (second_choice q) (by decide) (by decide) _ (off1_eq i q hq).2 (k0_off1_inb i 1) mp a _ _
    (first_row_holds hL 0 _ (first_choice q) (by decide) (by decide) _ (off1_eq i q hq).1 (k0_off1_inb i 0) mp a)))))
  simp only [chunks (part X B b h mp (query q a) _) q] at H
  rw [before_eq i q hq]
  exact H

end Cert.Attn
-- ==== Proof.Finish.lean ====
module

public import proofs.«01_k».proof.Proof.Rows

@[expose] public section

set_option maxRecDepth 16384

noncomputable section

/-! The output block of one query tile. -/

namespace Cert.Attn

open Cert.KernelIdeal Cert.KernelIdeal.Gen Idealize.ShloMosaic

/-- The output block at an index, from the four parts of the sums it reads. -/
theorem out_apply (x5 x6 x7 x8 : Vec Ideal S1x64 .f32) (o0 n0 o1 n1 : Vec Ideal S512x128 .f32) (x9 : Vec Ideal S1x128 .f32) (a : Fin 512) (l : Fin 128) :
    k0_pay1 (F := Ideal) (k0_pay70 (k0_pay69 x5) x6 x7 x8 o0 n0 o1 n1 x9) (FloatOps.ofBits FTy.f32 1061997773#32) (ix3 0 a l)
      = tail (fun l => Ideal.div (o0 (ix2 a l)) (n0 (ix2 a l))
          - mix (fun l => x5 (ix2 0 l)) (fun l => x6 (ix2 0 l)) (fun l => x7 (ix2 0 l)) (fun l => x8 (ix2 0 l)) * Ideal.div (o1 (ix2 a l)) (n1 (ix2 a l)))
        (x9 (ix2 0 l)) l := by
  pointwise [k0_pay1, k0_pay70, k0_pay69]
  rfl

/-- A load of a part of the sums: rows from `512 * mp` on, columns from `j0` on. -/
theorem ld_sums (acc : Vec Ideal S1024x256 .f32) (r0 j0 : ℕ) (inb : ∀ d, ![r0, j0] d + S512x128.size d ≤ S1024x256.size d) (mp : Fin 2) (hr : r0 = 512 * mp.val)
    (a : Fin 512) (l : Fin 128) (j : Fin 256) (hj : j.val = j0 + l.val) :
    View.ld acc (Rect.unit ![r0, j0] S512x128.size inb) (ix2 a l) = acc (ix2 ⟨512 * mp.val + a.val, by omega⟩ j) := by
  subst hr
  refine View.ld_unit_apply_of acc _ _ inb _ _ fun d => ?_
  match d with
  | ⟨0, _⟩ => rfl
  | ⟨1, _⟩ => exact hj

variable {X : Fin 8 → Fin 4096 → Fin 3072 → ℝ} {B : Fin 32 → Fin 8 → ℝ} {b h q : Fin 8}
  {x0 : Vec Ideal S1x512x128 .bf16} {x1 x2 : Vec Ideal S1x4096x128 .bf16} {x3 : Vec Ideal S1x5x512x512 .f32} {x4 : Vec Ideal S1x2x1x128 .f32}

/-- The output block at an index: the normalised difference of the two maps' attentions. -/
theorem tile_apply (hL : Loaded X B b h q x0 x1 x2 x3 x4) (i : Cert.KernelIdeal.grid0.Coords) (hq : i 2 = q)
    (x5 x6 x7 x8 : Vec Ideal S1x64 .f32) (x9 : Vec Ideal S1x128 .f32) (lam : ℝ)
    (hl : mix (fun l => x5 (ix2 0 l)) (fun l => x6 (ix2 0 l)) (fun l => x7 (ix2 0 l)) (fun l => x8 (ix2 0 l)) = (lam : EReal))
    (a : Fin 512) (l : Fin 128) :
    finish (finalState (kernelRun0_A.sl.v62 i) i x0 x1 x2 x3 x4).acc x5 x6 x7 x8 x9 (ix3 0 a l)
      = tail (fun l => ((attend X B lam b h (query q a) l : ℝ) : EReal)) (x9 (ix2 0 l)) l := by
  unfold finish
  rw [out_apply, hl]
  congr 1
  funext l
  obtain ⟨μ, -, h0⟩ := final_holds hL i hq 0 a
  obtain ⟨ν, -, h1⟩ := final_holds hL i hq 1 a
  rw [ld_sums _ 0 0 _ 0 rfl a l ⟨l.val, by omega⟩ (Nat.zero_add _).symm, ld_sums _ 0 128 _ 0 rfl a l ⟨128 + l.val, by omega⟩ rfl,
    ld_sums _ 512 0 _ 1 rfl a l ⟨l.val, by omega⟩ (Nat.zero_add _).symm, ld_sums _ 512 128 _ 1 rfl a l ⟨128 + l.val, by omega⟩ rfl, h0, h0, h1, h1,
    div_scaled _ _ _ (total_pos X B b h 0 _ _ (Nat.le_add_right 128 l.val)).ne', div_scaled _ _ _ (total_pos X B b h 1 _ _ (Nat.le_add_right 128 l.val)).ne',
    ← EReal.coe_mul, ← EReal.coe_sub]
  rfl

end Cert.Attn
-- ==== Proof.HostBias.lean ====
module

public import proofs.«01_k».proof.Proof.Gen.KernelIdeal.Value
public import Idealize.ShloMosaic.Lib.StableHlo.ReadAt
public import Idealize.ShloMosaic.Lib.Pointwise
public import Idealize.ShloMosaic.Lib.Tactic.IndexArith

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- The leading columns of each row. -/
theorem cut_apply (x : Vec F S8x512x1023 .f32) (h : Fin 8) (r k : Fin 512) :
    extractStridedSlice S8x512x512 ![0, 0, 0] x slices_S8x512x1023_S8x512x512_0_0_0 (ix3 h r k) = x (ix3 h r ⟨k.val, by omega⟩) := by
  pointwise

/-- A line cut into rows of 1023. -/
theorem rows_apply (x : Vec F S8x523776 .f32) (h : Fin 8) (r : Fin 512) (k : Fin 1023) :
    shapeCast S8x512x1023 x shapeCasts_S8x523776_S8x512x1023 (ix3 h r k) = x (ix2 h ⟨r.val * 1023 + k.val, by omega⟩) := by
  refine shapeCast_apply _ _ _ _ ?_
  rw [Shape.rowMajor_val_two, Shape.rowMajor_val_three]
  show h.val * 523776 + (r.val * 1023 + k.val) = (h.val * 512 + r.val) * 1023 + k.val
  omega

/-- A line without its last entries. -/
theorem trim_apply (x : Vec F S8x524288 .f32) (h : Fin 8) (p : ℕ) (hp : p < 523776) :
    extractStridedSlice S8x523776 ![0, 0] x slices_S8x524288_S8x523776_0_0 (ix2 h ⟨p, hp⟩) = x (ix2 h ⟨p, by omega⟩) := by
  unfold extractStridedSlice
  congr 1
  funext a
  apply Fin.ext
  match a with
  | 0 => exact Nat.zero_add _
  | 1 => exact Nat.zero_add _

/-- The rows laid end to end. -/
theorem flat_apply (x : Vec F S1x8x512x1024 .f32) (h : Fin 8) (p : ℕ) (hp : p < 524288) :
    shapeCast S8x524288 x shapeCasts_S1x8x512x1024_S8x524288 (ix2 h ⟨p, hp⟩) = x (ix4 0 h ⟨p / 1024, by omega⟩ ⟨p % 1024, by omega⟩) := by
  refine shapeCast_apply _ _ _ _ ?_
  rw [Shape.rowMajor_val_two, Shape.rowMajor_val_four]
  show ((0 * 8 + h.val) * 512 + p / 1024) * 1024 + p % 1024 = h.val * 524288 + p
  omega

/-- Every row the same. -/
theorem spread_apply (x : Vec F S1x8x1x1024 .f32) (h : Fin 8) (a : Fin 512) (b : Fin 1024) :
    broadcastInDim S1x8x512x1024 ![0, 1, 2, 3] bcast_S1x8x1x1024_S1x8x512x1024_0_1_2_3 x (ix4 0 h a b) = x (ix4 0 h 0 b) := by
  pointwise

/-- Two stretches end to end. -/
theorem join_apply (t1 t0 : Vec F S8x512 .f32) (h : Fin 8) (b : Fin 1024) :
    shapeCast S1x8x1x1024 (concatenate S8x1024 1 [⟨S8x512, t1⟩, ⟨S8x512, t0⟩] concatenates_S8x512_S8x512_S8x1024_d1) shapeCasts_S8x1024_S1x8x1x1024 (ix4 0 h 0 b)
      = if hb : b.val < 512 then t1 (ix2 h ⟨b.val, hb⟩) else t0 (ix2 h ⟨b.val - 512, by omega⟩) := by
  pointwise

/-- Two neighbouring stretches of 512 biases, laid out as a tile whose rows are each shifted by one from the row above. -/
def skew (t1 t0 : Vec F S8x512 .f32) : Vec F S8x512x512 .f32 :=
  extractStridedSlice S8x512x512 ![0, 0, 0] (shapeCast S8x512x1023 (extractStridedSlice S8x523776 ![0, 0] (shapeCast S8x524288
    (broadcastInDim S1x8x512x1024 ![0, 1, 2, 3] bcast_S1x8x1x1024_S1x8x512x1024_0_1_2_3 (shapeCast S1x8x1x1024
      (concatenate S8x1024 1 [⟨S8x512, t1⟩, ⟨S8x512, t0⟩] concatenates_S8x512_S8x512_S8x1024_d1)
      shapeCasts_S8x1024_S1x8x1x1024)) shapeCasts_S1x8x512x1024_S8x524288) slices_S8x524288_S8x523776_0_0) shapeCasts_S8x523776_S8x512x1023)
    slices_S8x512x1023_S8x512x512_0_0_0

/-- The tile's entry at row `r` and column `k` is the bias at distance `k - r` from where the later stretch begins. -/
theorem skew_apply (t1 t0 : Vec F S8x512 .f32) (h : Fin 8) (r k : Fin 512) :
    skew t1 t0 (ix3 h r k) = if hk : r.val ≤ k.val then t1 (ix2 h ⟨k.val - r.val, by omega⟩) else t0 (ix2 h ⟨512 + k.val - r.val, by omega⟩) := by
  have hr := r.isLt
  have hk := k.isLt
  have hp : r.val * 1023 + k.val < 523776 := by omega
  unfold skew
  rw [cut_apply, rows_apply, trim_apply _ h _ hp, flat_apply _ h _ (by omega), spread_apply, join_apply]
  by_cases hrk : r.val ≤ k.val
  · have e : (r.val * 1023 + k.val) % 1024 = k.val - r.val := by omega
    simp only [e]
    rw [dif_pos (by omega), dif_pos hrk]
  · have e : (r.val * 1023 + k.val) % 1024 = 1024 + k.val - r.val := by omega
    simp only [e]
    rw [dif_neg (by omega), dif_neg hrk]
    congr 2
    apply Fin.ext
    show 1024 + k.val - r.val - 512 = 512 + k.val - r.val
    omega

/-- Five tiles, one after another. -/
def five (a b c d e : Vec F S8x512x512 .f32) : Vec F S8x5x512x512 .f32 :=
  concatenate S8x5x512x512 1
    [⟨S8x1x512x512, broadcastInDim S8x1x512x512 ![0, 2, 3] bcast_S8x512x512_S8x1x512x512_0_2_3 a⟩,
     ⟨S8x1x512x512, broadcastInDim S8x1x512x512 ![0, 2, 3] bcast_S8x512x512_S8x1x512x512_0_2_3 b⟩,
     ⟨S8x1x512x512, broadcastInDim S8x1x512x512 ![0, 2, 3] bcast_S8x512x512_S8x1x512x512_0_2_3 c⟩,
     ⟨S8x1x512x512, broadcastInDim S8x1x512x512 ![0, 2, 3] bcast_S8x512x512_S8x1x512x512_0_2_3 d⟩,
     ⟨S8x1x512x512, broadcastInDim S8x1x512x512 ![0, 2, 3] bcast_S8x512x512_S8x1x512x512_0_2_3 e⟩]
    concatenates_S8x1x512x512_S8x1x512x512_S8x1x512x512_S8x1x512x512_S8x1x512x512_S8x5x512x512_d1

/-- Each of them, at an index. -/
theorem five_apply (a b c d e : Vec F S8x512x512 .f32) (h : Fin 8) (t : Fin 5) (r k : Fin 512) :
    five a b c d e (ix4 h t r k) = (match t with | 0 => a | 1 => b | 2 => c | 3 => d | 4 => e) (ix3 h r k) := by
  fin_cases t <;> pointwise [five]

/-- The stretch of 512 biases from `o` on. -/
def stretch (T : Vec F S8x3072 .f32) (o : ℕ) (ho : o + 512 ≤ 3072) : Vec F S8x512 .f32 := fun j => T (ix2 (j 0) ⟨o + (j 1).val, by
  have : (j 1).val < 512 := (j 1).isLt
  omega⟩)

/-- The five tiles of biases, from the table. -/
def tiles (T : Vec F S8x3072 .f32) : Vec F S8x5x512x512 .f32 :=
  five (skew (stretch T 512 (by omega)) (stretch T 0 (by omega))) (skew (stretch T 1024 (by omega)) (stretch T 512 (by omega)))
    (skew (stretch T 1536 (by omega)) (stretch T 1024 (by omega))) (skew (stretch T 2048 (by omega)) (stretch T 1536 (by omega)))
    (skew (stretch T 2560 (by omega)) (stretch T 2048 (by omega)))

theorem skew_stretch (T : Vec F S8x3072 .f32) (o : ℕ) (h1 : o + 512 + 512 ≤ 3072) (h0 : o + 512 ≤ 3072) (h : Fin 8) (r k : Fin 512) :
    skew (stretch T (o + 512) h1) (stretch T o h0) (ix3 h r k) = T (ix2 h ⟨o + 512 + k.val - r.val, by omega⟩) := by
  have key : ∀ (a b : ℕ) (ha : a < 3072) (hb : b < 3072), a = b → T (ix2 h ⟨a, ha⟩) = T (ix2 h ⟨b, hb⟩) := by
    intro a b ha hb e; subst e; rfl
  rw [skew_apply]
  split
  · exact key _ _ _ _ (by show o + 512 + (k.val - r.val) = _; omega)
  · exact key _ _ _ _ (by show o + (512 + k.val - r.val) = _; omega)

/-- Tile `t` holds at row `r` and column `k` the table's entry for distance `512 (t - 2) + k - r`. -/
theorem tiles_apply (T : Vec F S8x3072 .f32) (h : Fin 8) (t : Fin 5) (r k : Fin 512) :
    tiles T (ix4 h t r k) = T (ix2 h ⟨512 * (t.val + 1) + k.val - r.val, by omega⟩) := by
  unfold tiles
  rw [five_apply]
  match t with
  | 0 => exact skew_stretch T 0 _ _ h r k
  | 1 => exact skew_stretch T 512 _ _ h r k
  | 2 => exact skew_stretch T 1024 _ _ h r k
  | 3 => exact skew_stretch T 1536 _ _ h r k
  | 4 => exact skew_stretch T 2048 _ _ h r k

theorem stretch_eq (T : Vec F S8x3072 .f32) (o : ℕ) (ho : o + 512 ≤ 3072) (hs : S8x3072.Slices ![0, o] S8x512) :
    extractStridedSlice S8x512 ![0, o] T hs = stretch T o ho := by
  funext j
  unfold extractStridedSlice stretch
  congr 1
  funext a
  apply Fin.ext
  match a with
  | 0 => exact Nat.zero_add _
  | 1 => rfl

end Cert.Attn
-- ==== Proof.HostRead.lean ====
module

public import proofs.«01_k».proof.Proof.Gen.KernelIdeal.Value
public import proofs.«01_k».proof.Proof.HostBias
public import Idealize.ShloMosaic.Lib.StableHlo.ReadAt
public import Idealize.ShloMosaic.Lib.Pointwise
public import Idealize.ShloMosaic.Lib.Tactic.IndexArith

@[expose] public section

set_option maxRecDepth 16384

noncomputable section

/-! What the host gives the kernel: the five tiles of biases, read off the host's operations. -/

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ)

/-- The buffers once the table of biases is made. -/
def half (c : Dev nD) : Valuation τ sig (Elt F) :=
  StableHlo.after (hostOps0_2.take 11) (StableHlo.after hostOps0_1 (StableHlo.after hostOps0 (fun b => m (c, b))))

/-- The buffers once the five tiles are made. -/
def tiled (c : Dev nD) : Valuation τ sig (Elt F) :=
  StableHlo.after ((hostOps0_2.drop 11).take 52) (half m c)

/-- The launch's buffers, from those. -/
theorem V_tiled (c : Dev nD) (b) : V m c b = StableHlo.after (hostOps0_2.drop 63) (tiled m c) (Proc.devRef .tc b) := by
  unfold V tiled half
  rw [← StableHlo.after_append, ← StableHlo.after_append,
    show (hostOps0_2 : List (HloOp τ sig (Elt F))).take 11 ++ ((hostOps0_2.drop 11).take 52 ++ hostOps0_2.drop 63) = hostOps0_2 from rfl]
  simp only [List.flatten_cons, List.flatten_nil, List.append_nil, StableHlo.after_append]

/-- The tile that starts its later stretch at 512. -/
theorem tiled_v51 (c : Dev nD) : tiled m c main_v51 = skew (stretch (half m c main_v35) 512 (by omega)) (stretch (half m c main_v35) 0 (by omega)) := by
  rw [← stretch_eq _ _ _ slices_S8x3072_S8x512_0_512, ← stretch_eq _ _ _ slices_S8x3072_S8x512_0_0]
  unfold tiled
  generalize half m c = W
  after_reads_simp
  refine Eq.trans (b := skew (StableHlo.upto ((hostOps0_2.drop 11).take 52) W 9 (Proc.devRef .tc main_v43)) (StableHlo.upto ((hostOps0_2.drop 11).take 52) W 9 (Proc.devRef .tc main_v44))) rfl ?_
  congr 1 <;> after_reads_simp

/-- The tile that starts its later stretch at 1024. -/
theorem tiled_v60 (c : Dev nD) : tiled m c main_v60 = skew (stretch (half m c main_v35) 1024 (by omega)) (stretch (half m c main_v35) 512 (by omega)) := by
  rw [← stretch_eq _ _ _ slices_S8x3072_S8x512_0_1024, ← stretch_eq _ _ _ slices_S8x3072_S8x512_0_512]
  unfold tiled
  generalize half m c = W
  after_reads_simp
  refine Eq.trans (b := skew (StableHlo.upto ((hostOps0_2.drop 11).take 52) W 18 (Proc.devRef .tc main_v52)) (StableHlo.upto ((hostOps0_2.drop 11).take 52) W 18 (Proc.devRef .tc main_v53))) rfl ?_
  congr 1 <;> after_reads_simp

/-- The tile that starts its later stretch at 1536. -/
theorem tiled_v69 (c : Dev nD) : tiled m c main_v69 = skew (stretch (half m c main_v35) 1536 (by omega)) (stretch (half m c main_v35) 1024 (by omega)) := by
  rw [← stretch_eq _ _ _ slices_S8x3072_S8x512_0_1536, ← stretch_eq _ _ _ slices_S8x3072_S8x512_0_1024]
  unfold tiled
  generalize half m c = W
  after_reads_simp
  refine Eq.trans (b := skew (StableHlo.upto ((hostOps0_2.drop 11).take 52) W 27 (Proc.devRef .tc main_v61)) (StableHlo.upto ((hostOps0_2.drop 11).take 52) W 27 (Proc.devRef .tc main_v62))) rfl ?_
  congr 1 <;> after_reads_simp

/-- The tile that starts its later stretch at 2048. -/
theorem tiled_v78 (c : Dev nD) : tiled m c main_v78 = skew (stretch (half m c main_v35) 2048 (by omega)) (stretch (half m c main_v35) 1536 (by omega)) := by
  rw [← stretch_eq _ _ _ slices_S8x3072_S8x512_0_2048, ← stretch_eq _ _ _ slices_S8x3072_S8x512_0_1536]
  unfold tiled
  generalize half m c = W
  have e1 : StableHlo.upto ((hostOps0_2.drop 11).take 52) W 36 (Proc.devRef .tc main_v70) = extractStridedSlice S8x512 ![0, 2048] (W (Proc.devRef .tc main_v35)) slices_S8x3072_S8x512_0_2048 := by
    after_reads_simp
  have e2 : StableHlo.upto ((hostOps0_2.drop 11).take 52) W 36 (Proc.devRef .tc main_v71) = extractStridedSlice S8x512 ![0, 1536] (W (Proc.devRef .tc main_v35)) slices_S8x3072_S8x512_0_1536 := by
    after_reads_simp
  after_reads_simp
  generalize StableHlo.upto ((hostOps0_2.drop 11).take 52) W 36 (Proc.devRef .tc main_v70) = a at e1 ⊢
  generalize StableHlo.upto ((hostOps0_2.drop 11).take 52) W 36 (Proc.devRef .tc main_v71) = b at e2 ⊢
  rw [← e1, ← e2]
  rfl

/-- The tile that starts its later stretch at 2560. -/
theorem tiled_v87 (c : Dev nD) : tiled m c main_v87 = skew (stretch (half m c main_v35) 2560 (by omega)) (stretch (half m c main_v35) 2048 (by omega)) := by
  rw [← stretch_eq _ _ _ slices_S8x3072_S8x512_0_2560, ← stretch_eq _ _ _ slices_S8x3072_S8x512_0_2048]
  unfold tiled
  generalize half m c = W
  after_reads_simp
  refine Eq.trans (b := skew (StableHlo.upto ((hostOps0_2.drop 11).take 52) W 45 (Proc.devRef .tc main_v79)) (StableHlo.upto ((hostOps0_2.drop 11).take 52) W 45 (Proc.devRef .tc main_v80))) rfl ?_
  congr 1 <;> after_reads_simp

/-- The array of tiles the kernel is given. -/
theorem V_v93 (c : Dev nD) : V m c main_v93 = tiles (half m c main_v35) := by
  have e : V m c main_v93 = five (tiled m c main_v51) (tiled m c main_v60) (tiled m c main_v69) (tiled m c main_v78) (tiled m c main_v87) := by
    rw [V_tiled]
    generalize tiled m c = W
    unfold five
    after_reads_simp
    try rfl
  rw [e, tiled_v51, tiled_v60, tiled_v69, tiled_v78, tiled_v87]
  rfl

end Cert.Attn
-- ==== Proof.HostTable.lean ====
module

public import proofs.«01_k».proof.Proof.HostRead
public import proofs.«01_k».proof.Proof.Bucket

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The two constants of the far keys: the first and the last column of the table. -/
theorem V_v42 (c : Dev nD) (h : Fin 8) (t : Fin 2) (l : Fin 128) :
    V m c main_v42 (ix4 h t 0 l) = half m c main_v35 (ix2 h (if t.val = 0 then 0 else ⟨3071, by omega⟩)) := by
  rw [V_tiled, tiled]
  generalize half m c = W
  have e1 : StableHlo.upto ((hostOps0_2.drop 11).take 52) W 4 (Proc.devRef .tc main_v38) (ix3 h 0 0) = W (Proc.devRef .tc main_v35) (ix2 h 0) := by
    after_reads_at
  have e2 : StableHlo.upto ((hostOps0_2.drop 11).take 52) W 4 (Proc.devRef .tc main_v39) (ix3 h 0 0) = W (Proc.devRef .tc main_v35) (ix2 h ⟨3071, by omega⟩) := by
    after_reads_at
  after_reads_at
  generalize StableHlo.upto ((hostOps0_2.drop 11).take 52) W 4 (Proc.devRef .tc main_v38) = a at e1 ⊢
  generalize StableHlo.upto ((hostOps0_2.drop 11).take 52) W 4 (Proc.devRef .tc main_v39) = b at e2 ⊢
  fin_cases t
  · exact e1
  · exact e2

/-- The four vectors of the mixing weight, as rows. -/
theorem V_v94 (c : Dev nD) (l : Fin 64) : V m c main_v94 (ix2 0 l) = m (c, main_arg2) (ix1 l) := by
  rw [V_tiled, tiled, half]
  after_reads_at

theorem V_v95 (c : Dev nD) (l : Fin 64) : V m c main_v95 (ix2 0 l) = m (c, main_arg3) (ix1 l) := by
  rw [V_tiled, tiled, half]
  after_reads_at

theorem V_v96 (c : Dev nD) (l : Fin 64) : V m c main_v96 (ix2 0 l) = m (c, main_arg4) (ix1 l) := by
  rw [V_tiled, tiled, half]
  after_reads_at

theorem V_v97 (c : Dev nD) (l : Fin 64) : V m c main_v97 (ix2 0 l) = m (c, main_arg5) (ix1 l) := by
  rw [V_tiled, tiled, half]
  after_reads_at

/-- The gain, as a row. -/
theorem V_v98 (c : Dev nD) (l : Fin 128) : V m c main_v98 (ix2 0 l) = m (c, main_arg6) (ix1 l) := by
  rw [V_tiled, tiled, half]
  after_reads_at

/-- The queries, keys and values are the argument itself. -/
theorem V_arg0 (c : Dev nD) : V m c main_arg0 = m (c, main_arg0) := by
  rw [V_tiled, tiled, half]
  after_reads_simp

/-- The table of biases holds, for each head, the bias of the distance from -1536 up. -/
theorem half_v35 (c : Dev nD) (h : Fin 8) (p : Fin 3072) :
    half m c main_v35 (ix2 h p) = m (c, main_arg1) (ix2 (row (4294965760#32 + BitVec.ofNat 32 p.val)) h) := by
  unfold half
  after_reads_at
  refine (gatherK_apply _ _ p h).trans ?_
  refine congrArg (fun z => m (c, main_arg1) (ix2 z h)) (Fin.ext ?_)
  rfl

/-- The whole array of tiles: its entry depends on how far the key lies from the query. -/
theorem V_v93_apply (c : Dev nD) (h : Fin 8) (t : Fin 5) (r k : Fin 512) :
    V m c main_v93 (ix4 h t r k) = m (c, main_arg1) (ix2 (row (4294965760#32 + BitVec.ofNat 32 (512 * (t.val + 1) + k.val - r.val))) h) := by
  rw [V_v93, tiles_apply, half_v35]

end Cert.Attn
-- ==== Proof.Whole.lean ====
module

public import proofs.«01_k».proof.Proof.Finish
public import proofs.«01_k».proof.Proof.HostTable

@[expose] public section

set_option maxRecDepth 16384

noncomputable section

/-! The kernel's whole result, from its arguments. -/

namespace Cert.Attn

open Cert.KernelIdeal Cert.KernelIdeal.Gen Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The head, the batch and the query tile of a grid point. -/
def headOf (t : Fin grid0.N) : Fin 8 := grid0.coords t 0
def batchOf (t : Fin grid0.N) : Fin 8 := grid0.coords t 1
def tileOf (t : Fin grid0.N) : Fin 8 := grid0.coords t 2

/-! Which block of its array each window stages at a grid point. -/

theorem idx0 : ∀ t : Fin cfg0.N, win0_0.index t (0 : Fin 3) = (batchOf t).val ∧ win0_0.index t (1 : Fin 3) = (tileOf t).val ∧ win0_0.index t (2 : Fin 3) = (headOf t).val :=
  (by decide +kernel : ∀ t : Fin grid0.N, _)
theorem idx1 : ∀ t : Fin cfg0.N, win0_1.index t (0 : Fin 3) = (batchOf t).val ∧ win0_1.index t (1 : Fin 3) = 0 ∧ win0_1.index t (2 : Fin 3) = 8 + (headOf t).val :=
  (by decide +kernel : ∀ t : Fin grid0.N, _)
theorem idx2 : ∀ t : Fin cfg0.N, win0_2.index t (0 : Fin 3) = (batchOf t).val ∧ win0_2.index t (1 : Fin 3) = 0 ∧ win0_2.index t (2 : Fin 3) = 16 + (headOf t).val :=
  (by decide +kernel : ∀ t : Fin grid0.N, _)
theorem idx3 : ∀ t : Fin cfg0.N, win0_3.index t (0 : Fin 4) = (headOf t).val ∧ win0_3.index t (1 : Fin 4) = 0 ∧ win0_3.index t (2 : Fin 4) = 0 ∧ win0_3.index t (3 : Fin 4) = 0 :=
  (by decide +kernel : ∀ t : Fin grid0.N, _)
theorem idx4 : ∀ t : Fin cfg0.N, win0_4.index t (0 : Fin 4) = (headOf t).val ∧ win0_4.index t (1 : Fin 4) = 0 ∧ win0_4.index t (2 : Fin 4) = 0 ∧ win0_4.index t (3 : Fin 4) = 0 :=
  (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 3) = (batchOf t).val ∧ win0_10.index t (1 : Fin 3) = (tileOf t).val ∧ win0_10.index t (2 : Fin 3) = (headOf t).val :=
  (by decide +kernel : ∀ t : Fin grid0.N, _)

/-! Where an index of a block lies in the array. -/

theorem emb0 (t : Fin cfg0.N) (a : Fin 512) (l : Fin 128) :
    ((cfg0.win 0).blk t).view.emb (ix3 0 a l : S1x512x128.Idx) = (ix3 (batchOf t) (query (tileOf t) a) ⟨(headOf t).val * 128 + l.val, by omega⟩ : S8x4096x3072.Idx) := by
  obtain ⟨e0, e1, e2⟩ := idx0 t
  funext d; apply Fin.ext
  match d with
  | ⟨0, _⟩ => show win0_0.index t (0 : Fin 3) * 1 + 1 * 0 = (batchOf t).val; omega
  | ⟨1, _⟩ => show win0_0.index t (1 : Fin 3) * 512 + 1 * a.val = 512 * (tileOf t).val + a.val; omega
  | ⟨2, _⟩ => show win0_0.index t (2 : Fin 3) * 128 + 1 * l.val = (headOf t).val * 128 + l.val; omega

theorem emb1 (t : Fin cfg0.N) (k : Fin 4096) (l : Fin 128) :
    ((cfg0.win 1).blk t).view.emb (ix3 0 k l : S1x4096x128.Idx) = (ix3 (batchOf t) k ⟨1024 + ((headOf t).val * 128 + l.val), by omega⟩ : S8x4096x3072.Idx) := by
  obtain ⟨e0, e1, e2⟩ := idx1 t
  funext d; apply Fin.ext
  match d with
  | ⟨0, _⟩ => show win0_1.index t (0 : Fin 3) * 1 + 1 * 0 = (batchOf t).val; omega
  | ⟨1, _⟩ => show win0_1.index t (1 : Fin 3) * 4096 + 1 * k.val = k.val; omega
  | ⟨2, _⟩ => show win0_1.index t (2 : Fin 3) * 128 + 1 * l.val = 1024 + ((headOf t).val * 128 + l.val); omega

theorem emb2 (t : Fin cfg0.N) (k : Fin 4096) (l : Fin 128) :
    ((cfg0.win 2).blk t).view.emb (ix3 0 k l : S1x4096x128.Idx) = (ix3 (batchOf t) k ⟨2048 + ((headOf t).val * 128 + l.val), by omega⟩ : S8x4096x3072.Idx) := by
  obtain ⟨e0, e1, e2⟩ := idx2 t
  funext d; apply Fin.ext
  match d with
  | ⟨0, _⟩ => show win0_2.index t (0 : Fin 3) * 1 + 1 * 0 = (batchOf t).val; omega
  | ⟨1, _⟩ => show win0_2.index t (1 : Fin 3) * 4096 + 1 * k.val = k.val; omega
  | ⟨2, _⟩ => show win0_2.index t (2 : Fin 3) * 128 + 1 * l.val = 2048 + ((headOf t).val * 128 + l.val); omega

theorem emb3 (t : Fin cfg0.N) (b : Fin 5) (r k : Fin 512) :
    ((cfg0.win 3).blk t).view.emb (ix4 0 b r k : S1x5x512x512.Idx) = (ix4 (headOf t) b r k : S8x5x512x512.Idx) := by
  obtain ⟨e0, e1, e2, e3⟩ := idx3 t
  funext d; apply Fin.ext
  match d with
  | ⟨0, _⟩ => show win0_3.index t (0 : Fin 4) * 1 + 1 * 0 = (headOf t).val; omega
  | ⟨1, _⟩ => show win0_3.index t (1 : Fin 4) * 5 + 1 * b.val = b.val; omega
  | ⟨2, _⟩ => show win0_3.index t (2 : Fin 4) * 512 + 1 * r.val = r.val; omega
  | ⟨3, _⟩ => show win0_3.index t (3 : Fin 4) * 512 + 1 * k.val = k.val; omega

theorem emb4 (t : Fin cfg0.N) (b : Fin 2) (l : Fin 128) :
    ((cfg0.win 4).blk t).view.emb (ix4 0 b 0 l : S1x2x1x128.Idx) = (ix4 (headOf t) b 0 l : S8x2x1x128.Idx) := by
  obtain ⟨e0, e1, e2, e3⟩ := idx4 t
  funext d; apply Fin.ext
  match d with
  | ⟨0, _⟩ => show win0_4.index t (0 : Fin 4) * 1 + 1 * 0 = (headOf t).val; omega
  | ⟨1, _⟩ => show win0_4.index t (1 : Fin 4) * 2 + 1 * b.val = b.val; omega
  | ⟨2, _⟩ => show win0_4.index t (2 : Fin 4) * 1 + 1 * 0 = 0; omega
  | ⟨3, _⟩ => show win0_4.index t (3 : Fin 4) * 128 + 1 * l.val = l.val; omega

theorem emb5 (t : Fin cfg0.N) (l : Fin 64) : ((cfg0.win 5).blk t).view.emb (ix2 0 l : S1x64.Idx) = (ix2 0 l : S1x64.Idx) := by
  obtain ⟨e0, e1⟩ := idx5 t
  funext d; apply Fin.ext
  match d with
  | ⟨0, _⟩ => show win0_5.index t (0 : Fin 2) * 1 + 1 * 0 = 0; omega
  | ⟨1, _⟩ => show win0_5.index t (1 : Fin 2) * 64 + 1 * l.val = l.val; omega
theorem emb6 (t : Fin cfg0.N) (l : Fin 64) : ((cfg0.win 6).blk t).view.emb (ix2 0 l : S1x64.Idx) = (ix2 0 l : S1x64.Idx) := by
  obtain ⟨e0, e1⟩ := idx6 t
  funext d; apply Fin.ext
  match d with
  | ⟨0, _⟩ => show win0_6.index t (0 : Fin 2) * 1 + 1 * 0 = 0; omega
  | ⟨1, _⟩ => show win0_6.index t (1 : Fin 2) * 64 + 1 * l.val = l.val; omega
theorem emb7 (t : Fin cfg0.N) (l : Fin 64) : ((cfg0.win 7).blk t).view.emb (ix2 0 l : S1x64.Idx) = (ix2 0 l : S1x64.Idx) := by
  obtain ⟨e0, e1⟩ := idx7 t
  funext d; apply Fin.ext
  match d with
  | ⟨0, _⟩ => show win0_7.index t (0 : Fin 2) * 1 + 1 * 0 = 0; omega
  | ⟨1, _⟩ => show win0_7.index t (1 : Fin 2) * 64 + 1 * l.val = l.val; omega
theorem emb8 (t : Fin cfg0.N) (l : Fin 64) : ((cfg0.win 8).blk t).view.emb (ix2 0 l : S1x64.Idx) = (ix2 0 l : S1x64.Idx) := by
  obtain ⟨e0, e1⟩ := idx8 t
  funext d; apply Fin.ext
  match d with
  | ⟨0, _⟩ => show win0_8.index t (0 : Fin 2) * 1 + 1 * 0 = 0; omega
  | ⟨1, _⟩ => show win0_8.index t (1 : Fin 2) * 64 + 1 * l.val = l.val; omega
theorem emb9 (t : Fin cfg0.N) (l : Fin 128) : ((cfg0.win 9).blk t).view.emb (ix2 0 l : S1x128.Idx) = (ix2 0 l : S1x128.Idx) := by
  obtain ⟨e0, e1⟩ := idx9 t
  funext d; apply Fin.ext
  match d with
  | ⟨0, _⟩ => show win0_9.index t (0 : Fin 2) * 1 + 1 * 0 = 0; omega
  | ⟨1, _⟩ => show win0_9.index t (1 : Fin 2) * 128 + 1 * l.val = l.val; omega

theorem emb10 (t : Fin cfg0.N) (a : Fin 512) (l : Fin 128) :
    ((cfg0.win 10).blk t).view.emb (ix3 0 a l : S1x512x128.Idx) = (ix3 (batchOf t) (query (tileOf t) a) ⟨(headOf t).val * 128 + l.val, by omega⟩ : S8x4096x1024.Idx) := by
  obtain ⟨e0, e1, e2⟩ := idx10 t
  funext d; apply Fin.ext
  match d with
  | ⟨0, _⟩ => show win0_10.index t (0 : Fin 3) * 1 + 1 * 0 = (batchOf t).val; omega
  | ⟨1, _⟩ => show win0_10.index t (1 : Fin 3) * 512 + 1 * a.val = 512 * (tileOf t).val + a.val; omega
  | ⟨2, _⟩ => show win0_10.index t (2 : Fin 3) * 128 + 1 * l.val = (headOf t).val * 128 + l.val; omega

variable (m : (ℓ : Loc nD τ sig) → Buf (Elt Ideal) ℓ) (c : Dev nD)
  (X : Fin 8 → Fin 4096 → Fin 3072 → ℝ) (hX : ∀ b r d, m (c, main_arg0) (ix3 b r d) = (X b r d : EReal))
  (B : Fin 32 → Fin 8 → ℝ) (hB : ∀ t h, m (c, main_arg1) (ix2 t h) = (B t h : EReal))
  (lam : ℝ) (hl : mix (fun l => m (c, main_arg2) (ix1 l)) (fun l => m (c, main_arg3) (ix1 l)) (fun l => m (c, main_arg4) (ix1 l)) (fun l => m (c, main_arg5) (ix1 l)) = (lam : EReal))

/-- The result: every head's normalised difference of attentions, the heads side by side. -/
def result (X : Fin 8 → Fin 4096 → Fin 3072 → ℝ) (B : Fin 32 → Fin 8 → ℝ) (lam : ℝ) (g : Fin 128 → EReal) : Vec Ideal S8x4096x1024 .bf16 := fun j =>
  tail (fun l => ((attend X B lam (j 0) ⟨(j 2).val / 128, Nat.div_lt_of_lt_mul (j 2).isLt⟩ (j 1) l : ℝ) : EReal)) (g ⟨(j 2).val % 128, Nat.mod_lt _ (by norm_num)⟩)
    ⟨(j 2).val % 128, Nat.mod_lt _ (by norm_num)⟩

/-- The result at a head's lane. -/
theorem result_apply (g : Fin 128 → EReal) (b : Fin 8) (r : Fin 4096) (h : Fin 8) (l : Fin 128) :
    result X B lam g (ix3 b r ⟨h.val * 128 + l.val, by omega⟩) = tail (fun l => ((attend X B lam b h r l : ℝ) : EReal)) (g l) l := by
  have e1 : (⟨(h.val * 128 + l.val) / 128, Nat.div_lt_of_lt_mul (by omega)⟩ : Fin 8) = h := Fin.ext (by show (h.val * 128 + l.val) / 128 = h.val; omega)
  have e2 : (⟨(h.val * 128 + l.val) % 128, Nat.mod_lt _ (by norm_num)⟩ : Fin 128) = l := Fin.ext (by show (h.val * 128 + l.val) % 128 = l.val; omega)
  show tail (fun l' => ((attend X B lam b ⟨(h.val * 128 + l.val) / 128, _⟩ r l' : ℝ) : EReal)) (g ⟨(h.val * 128 + l.val) % 128, _⟩) ⟨(h.val * 128 + l.val) % 128, _⟩ = _
  rw [e1, e2]

/-! The staged blocks at an index. -/

theorem blk0 (t : Fin cfg0.N) (a : Fin 512) (l : Fin 128) : (iblk m c 0 t : Vec Ideal S1x512x128 .bf16) (ix3 0 a l)
    = m (c, main_arg0) (ix3 (batchOf t) (query (tileOf t) a) ⟨(headOf t).val * 128 + l.val, by omega⟩) := by
  show V m c main_arg0 (((cfg0.win 0).blk t).view.emb (ix3 0 a l : S1x512x128.Idx)) = _
  rw [emb0, V_arg0]
theorem blk1 (t : Fin cfg0.N) (k : Fin 4096) (l : Fin 128) : (iblk m c 1 t : Vec Ideal S1x4096x128 .bf16) (ix3 0 k l)
    = m (c, main_arg0) (ix3 (batchOf t) k ⟨1024 + ((headOf t).val * 128 + l.val), by omega⟩) := by
  show V m c main_arg0 (((cfg0.win 1).blk t).view.emb (ix3 0 k l : S1x4096x128.Idx)) = _
  rw [emb1, V_arg0]
theorem blk2 (t : Fin cfg0.N) (k : Fin 4096) (l : Fin 128) : (iblk m c 2 t : Vec Ideal S1x4096x128 .bf16) (ix3 0 k l)
    = m (c, main_arg0) (ix3 (batchOf t) k ⟨2048 + ((headOf t).val * 128 + l.val), by omega⟩) := by
  show V m c main_arg0 (((cfg0.win 2).blk t).view.emb (ix3 0 k l : S1x4096x128.Idx)) = _
  rw [emb2, V_arg0]
theorem blk3 (t : Fin cfg0.N) (b : Fin 5) (r k : Fin 512) : (iblk m c 3 t : Vec Ideal S1x5x512x512 .f32) (ix4 0 b r k)
    = m (c, main_arg1) (ix2 (row (4294965760#32 + BitVec.ofNat 32 (512 * (b.val + 1) + k.val - r.val))) (headOf t)) := by
  show V m c main_v93 (((cfg0.win 3).blk t).view.emb (ix4 0 b r k : S1x5x512x512.Idx)) = _
  rw [emb3, V_v93_apply]
theorem blk4 (t : Fin cfg0.N) (b : Fin 2) (l : Fin 128) : (iblk m c 4 t : Vec Ideal S1x2x1x128 .f32) (ix4 0 b 0 l)
    = m (c, main_arg1) (ix2 (if b.val = 0 then 15 else 31) (headOf t)) := by
  show V m c main_v42 (((cfg0.win 4).blk t).view.emb (ix4 0 b 0 l : S1x2x1x128.Idx)) = _
  rw [emb4, V_v42, half_v35]
  by_cases hb : b.val = 0
  · rw [if_pos hb, if_pos hb]
    exact congrArg (fun z => m (c, main_arg1) (ix2 z (headOf t))) row_first
  · rw [if_neg hb, if_neg hb]
    exact congrArg (fun z => m (c, main_arg1) (ix2 z (headOf t))) row_last
theorem blk5 (t : Fin cfg0.N) (l : Fin 64) : (iblk m c 5 t : Vec Ideal S1x64 .f32) (ix2 0 l) = m (c, main_arg2) (ix1 l) := by
  show V m c main_v94 (((cfg0.win 5).blk t).view.emb (ix2 0 l : S1x64.Idx)) = _
  rw [emb5, V_v94]
theorem blk6 (t : Fin cfg0.N) (l : Fin 64) : (iblk m c 6 t : Vec Ideal S1x64 .f32) (ix2 0 l) = m (c, main_arg3) (ix1 l) := by
  show V m c main_v95 (((cfg0.win 6).blk t).view.emb (ix2 0 l : S1x64.Idx)) = _
  rw [emb6, V_v95]
theorem blk7 (t : Fin cfg0.N) (l : Fin 64) : (iblk m c 7 t : Vec Ideal S1x64 .f32) (ix2 0 l) = m (c, main_arg4) (ix1 l) := by
  show V m c main_v96 (((cfg0.win 7).blk t).view.emb (ix2 0 l : S1x64.Idx)) = _
  rw [emb7, V_v96]
theorem blk8 (t : Fin cfg0.N) (l : Fin 64) : (iblk m c 8 t : Vec Ideal S1x64 .f32) (ix2 0 l) = m (c, main_arg5) (ix1 l) := by
  show V m c main_v97 (((cfg0.win 8).blk t).view.emb (ix2 0 l : S1x64.Idx)) = _
  rw [emb8, V_v97]
theorem blk9 (t : Fin cfg0.N) (l : Fin 128) : (iblk m c 9 t : Vec Ideal S1x128 .f32) (ix2 0 l) = m (c, main_arg6) (ix1 l) := by
  show V m c main_v98 (((cfg0.win 9).blk t).view.emb (ix2 0 l : S1x128.Idx)) = _
  rw [emb9, V_v98]

include hX hB

/-- What the windows stage at a grid point are the queries, keys, values and biases of its head, batch and tile. -/
theorem loaded (t : Fin cfg0.N) :
    Loaded X B (batchOf t) (headOf t) (tileOf t) (iblk m c 0 t) (iblk m c 1 t) (iblk m c 2 t) (iblk m c 3 t) (iblk m c 4 t) :=
  ⟨fun a l => (blk0 m c t a l).trans (hX _ _ _), fun k l => (blk1 m c t k l).trans (hX _ _ _), fun k l => (blk2 m c t k l).trans (hX _ _ _),
    fun b r k => (blk3 m c t b r k).trans (hB _ _), fun b l => (blk4 m c t b l).trans (hB _ _)⟩

include hl

/-- What a grid point writes back is its block of the result. -/
theorem flushed_eq (t : Fin cfg0.N) :
    (dats m 0 c).flushed 10 t = ((cfg0.win 10).blk t).view.read (Elt Ideal) (result X B lam (fun l => m (c, main_arg6) (ix1 l))) := by
  rw [flushed10_A, block_eq]
  funext y
  obtain ⟨a, l, rfl⟩ : ∃ (a : Fin 512) (l : Fin 128), y = (ix3 0 a l : S1x512x128.Idx) := by
    refine ⟨y 1, y 2, ?_⟩
    funext d
    match d with
    | ⟨0, _⟩ => exact Subsingleton.elim (α := Fin 1) _ _
    | ⟨1, _⟩ => rfl
    | ⟨2, _⟩ => rfl
  have H := tile_apply (loaded m c X hX B hB t) (grid0.coords t) rfl (iblk m c 5 t) (iblk m c 6 t) (iblk m c 7 t) (iblk m c 8 t) (iblk m c 9 t) lam
    (by refine Eq.trans ?_ hl; exact congr (congr (congrArg₂ mix (funext (blk5 m c t)) (funext (blk6 m c t))) (funext (blk7 m c t))) (funext (blk8 m c t))) a l
  refine Eq.trans H ?_
  show _ = result X B lam (fun l => m (c, main_arg6) (ix1 l)) (((cfg0.win 10).blk t).view.emb (ix3 0 a l : S1x512x128.Idx))
  rw [emb10, result_apply]
  exact congrArg (fun z => tail _ z l) (blk9 m c t l)

omit hX hB hl in
/-- Every head, batch and tile is a grid point's. -/
theorem point_of : ∀ b h q : Fin 8, ∃ t : Fin grid0.N, batchOf t = b ∧ headOf t = h ∧ tileOf t = q := by
  have hN : grid0.N = 512 := by decide +kernel
  have : ∀ b h q : Fin 8, ∀ hlt : (h.val * 8 + b.val) * 8 + q.val < grid0.N, batchOf ⟨(h.val * 8 + b.val) * 8 + q.val, hlt⟩ = b
      ∧ headOf ⟨(h.val * 8 + b.val) * 8 + q.val, hlt⟩ = h ∧ tileOf ⟨(h.val * 8 + b.val) * 8 + q.val, hlt⟩ = q := by decide +kernel
  exact fun b h q => ⟨_, this b h q (by rw [hN]; omega)⟩

/-- The array after the run is the result. -/
theorem final_eq : (dats m 0 c).arrAt 10 cfg0.N = result X B lam (fun l => m (c, main_arg6) (ix1 l)) := by
  refine (dats m 0 c).arrAt_eq_of_cover 10 (result X B lam (fun l => m (c, main_arg6) (ix1 l))) (fun t _ => flushed_eq m c X hX B hB lam hl t) (fun i => ?_)
  have hi1 : (i 1).val < 4096 := (i 1).isLt
  have hi2 : (i 2).val < 1024 := (i 2).isLt
  obtain ⟨t, e0, e1, e2⟩ := point_of (i 0) ⟨(i 2).val / 128, by omega⟩ ⟨(i 1).val / 512, by omega⟩
  refine ⟨t, flush0_10 t, ?_⟩
  have h := ((cfg0.win 10).blk t).view.emb_mem_set (ix3 0 ⟨(i 1).val % 512, by omega⟩ ⟨(i 2).val % 128, by omega⟩ : S1x512x128.Idx)
  rw [emb10] at h
  have v0 := congrArg Fin.val e0
  have v1 := congrArg Fin.val e1
  have v2 := congrArg Fin.val e2
  have e : (ix3 (batchOf t) (query (tileOf t) ⟨(i 1).val % 512, by omega⟩) ⟨(headOf t).val * 128 + (i 2).val % 128, by omega⟩ : S8x4096x1024.Idx) = i := by
    funext d; apply Fin.ext
    match d with
    | ⟨0, _⟩ => exact v0
    | ⟨1, _⟩ => show 512 * (tileOf t).val + (i 1).val % 512 = (i 1).val; rw [v2]; show 512 * ((i 1).val / 512) + (i 1).val % 512 = (i 1).val; omega
    | ⟨2, _⟩ => show (headOf t).val * 128 + (i 2).val % 128 = (i 2).val; rw [v1]; show (i 2).val / 128 * 128 + (i 2).val % 128 = (i 2).val; omega
  exact e ▸ h

end Cert.Attn
-- ==== Proof.Finite.lean ====
module

public import proofs.«01_k».proof.Defs
public import proofs.«01_k».proof.Proof.Spec
public import proofs.«01_k».proof.Proof.Online

@[expose] public section

noncomputable section

/-! What the precondition says of the arguments: each of their entries is a real number. -/

namespace Cert.Attn

open Idealize.ShloMosaic

/-- The shape relations the precondition's text states. -/
instance finite_facts : Cert.Pre_finite.Facts where
  bitsLt_bf16_f32 := by decide
  bcast_S_S8x4096x3072 := by decide
  bcast_S_S32x8 := by decide
  bcast_S_S64 := by decide

/-- The bits the precondition compares with denote the greatest extended real. -/
theorem top_bits : Ideal.ofBits FTy.f32 0x7F800000#32 = (⊤ : EReal) := by
  simp [Ideal.ofBits, Ideal.ieee]

/-- A value whose magnitude compares below the greatest extended real is a real number. -/
theorem real_of_cmp (x : EReal) (h : Ideal.cmp .olt (max x (-x)) (Ideal.ofBits FTy.f32 0x7F800000#32) = 1#1) : ∃ r : ℝ, x = (r : EReal) := by
  rw [top_bits] at h
  refine real_of_abs_lt x ?_
  by_contra hn
  exact absurd h (by simp [Ideal.cmp, hn])

variable (x0 : FVec Ideal Cert.Pre_finite.S8x4096x3072 .bf16) (x1 : FVec Ideal Cert.Pre_finite.S32x8 .f32)
  (x2 x3 x4 x5 : FVec Ideal Cert.Pre_finite.S64 .f32) (x6 : FVec Ideal Cert.Pre_finite.S128 .f32)

/-- The projections the precondition bounds hold real numbers. -/
theorem real0 (h : (Cert.Pre_finite.fn (F := Ideal) x0 x1 x2 x3 x4 x5 x6).1 = (fun _ => 1#1)) (i) : ∃ r : ℝ, x0 i = (r : EReal) :=
  real_of_cmp _ (congrFun h i)

/-- So does the table of biases. -/
theorem real1 (h : (Cert.Pre_finite.fn (F := Ideal) x0 x1 x2 x3 x4 x5 x6).2.1 = (fun _ => 1#1)) (i) : ∃ r : ℝ, x1 i = (r : EReal) :=
  real_of_cmp _ (congrFun h i)

/-- So does the first query vector of the mixing weight. -/
theorem real2 (h : (Cert.Pre_finite.fn (F := Ideal) x0 x1 x2 x3 x4 x5 x6).2.2.1 = (fun _ => 1#1)) (i) : ∃ r : ℝ, x2 i = (r : EReal) :=
  real_of_cmp _ (congrFun h i)

/-- So does its first key vector. -/
theorem real3 (h : (Cert.Pre_finite.fn (F := Ideal) x0 x1 x2 x3 x4 x5 x6).2.2.2.1 = (fun _ => 1#1)) (i) : ∃ r : ℝ, x3 i = (r : EReal) :=
  real_of_cmp _ (congrFun h i)

/-- So does its second query vector. -/
theorem real4 (h : (Cert.Pre_finite.fn (F := Ideal) x0 x1 x2 x3 x4 x5 x6).2.2.2.2.1 = (fun _ => 1#1)) (i) : ∃ r : ℝ, x4 i = (r : EReal) :=
  real_of_cmp _ (congrFun h i)

/-- So does its second key vector. -/
theorem real5 (h : (Cert.Pre_finite.fn (F := Ideal) x0 x1 x2 x3 x4 x5 x6).2.2.2.2.2 = (fun _ => 1#1)) (i) : ∃ r : ℝ, x5 i = (r : EReal) :=
  real_of_cmp _ (congrFun h i)

end Cert.Attn

end
-- ==== Proof.Hidden.lean ====
module

public import Idealize.ShloMosaic.Lib.Pointwise
public import Idealize.ShloMosaic.Lib.ValueIdx
public import Idealize.ShloMosaic.PureOps.Ideal.Laws

@[expose] public section

noncomputable section

/-! One row of the gated two-layer network: its hidden values, and the second product summed over the hidden values in
blocks or all at once. -/

namespace Cert.Mlp

open Idealize.ShloMosaic

/-- What a row is multiplied by to have unit mean square, the small constant added. -/
def rowScale (v : Fin 2048 → EReal) : EReal :=
  Ideal.rsqrt (Ideal.div (∑ l : Fin 2048, v l * v l) (Ideal.ofBits .f32 0x45000000#32) + Ideal.ofBits .f32 0x358637BD#32)

/-- The row normalised and scaled lane by lane. -/
def rowNorm (v g : Fin 2048 → EReal) (l : Fin 2048) : EReal := v l * rowScale v * g l

/-- A gate passed through its own logistic, times the value it gates. -/
def gated (a b : EReal) : EReal := a * Ideal.logistic a * b

/-- The hidden values of a row: gate columns first, gated columns after them. -/
def hidden (y : Fin 2048 → EReal) (W : Fin 2048 → Fin 11264 → EReal) (h : Fin 5632) : EReal :=
  gated (∑ k : Fin 2048, y k * W k ⟨h.val, by omega⟩) (∑ k : Fin 2048, y k * W k ⟨5632 + h.val, by omega⟩)

/-- The share of one hidden value in lane `l` of the second product, zero past the last hidden value. -/
def share (y : Fin 2048 → EReal) (W : Fin 2048 → Fin 11264 → EReal) (U : Fin 5632 → Fin 2048 → EReal) (l : Fin 2048) (h : ℕ) : EReal :=
  if p : h < 5632 then hidden y W ⟨h, p⟩ * U ⟨h, p⟩ l else 0

/-- The shares of the first `n` hidden values. -/
def upto (y : Fin 2048 → EReal) (W : Fin 2048 → Fin 11264 → EReal) (U : Fin 5632 → Fin 2048 → EReal) (l : Fin 2048) (n : ℕ) : EReal :=
  ∑ h ∈ Finset.range n, share y W U l h

/-- The bits of one denote one. -/
theorem one_bits : Ideal.ofBits FTy.f32 0x3F800000#32 = (1 : EReal) := by
  simp [Ideal.ofBits, Ideal.ieee]
  rw [← EReal.coe_mul]
  norm_num

variable (y : Fin 2048 → EReal) (W : Fin 2048 → Fin 11264 → EReal) (U : Fin 5632 → Fin 2048 → EReal) (l : Fin 2048)

theorem upto_zero : upto y W U l 0 = 0 := by simp [upto]

/-- Adding a block of 512 hidden values. -/
theorem upto_add (n : ℕ) : upto y W U l (n + 512) = upto y W U l n + ∑ r : Fin 512, share y W U l (n + r.val) := by
  unfold upto
  rw [Finset.sum_range_add, ← Finset.sum_range (fun r => share y W U l (n + r))]

/-- All the hidden values. -/
theorem upto_full : upto y W U l 5632 = ∑ h : Fin 5632, hidden y W h * U h l := by
  unfold upto
  rw [Finset.sum_range]
  exact Finset.sum_congr rfl fun h _ => by rw [share, dif_pos h.isLt]

/-- A block's share from the block's own columns and rows. -/
theorem block_share (n : ℕ) (hn : n + 512 ≤ 5632) (A B : Fin 2048 → Fin 512 → EReal) (C : Fin 512 → Fin 2048 → EReal)
    (hA : ∀ k r, A k r = W k ⟨n + r.val, by omega⟩) (hB : ∀ k r, B k r = W k ⟨5632 + (n + r.val), by omega⟩)
    (hC : ∀ r k, C r k = U ⟨n + r.val, by omega⟩ k) :
    ∑ r : Fin 512, gated (∑ k : Fin 2048, y k * A k r) (∑ k : Fin 2048, y k * B k r) * C r l
      = ∑ r : Fin 512, share y W U l (n + r.val) :=
  Finset.sum_congr rfl fun r _ => by
    rw [share, dif_pos (show n + r.val < 5632 by omega), hC]
    unfold hidden
    simp only [hA, hB]

end Cert.Mlp
-- ==== Proof.FirstTile.lean ====
module

public import proofs.«01_k».proof.Proof.Hidden
public import proofs.«01_k».proof.Proof.Gen.FfnIdeal.Value
public import Idealize.ShloMosaic.Lib.StableHlo.ReadAt
public import Idealize.ShloMosaic.Lib.Tactic.IndexArith

@[expose] public section

set_option maxRecDepth 16384

noncomputable section

/-! The first feed-forward kernel's grid point: what each case of its body leaves behind. -/

namespace Cert.Mlp.First

open Cert.FfnIdeal Cert.FfnIdeal.Gen Cert.FfnIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem z2 : (![0, 0] : Fin 2 → Nat) = fun _ => 0 := funext fun a => by fin_cases a <;> rfl

/-- At the first hidden block, the normalised rows are stored. -/
theorem norm_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (hc0 : cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) : sout0_A_0 c i arg2 harg2 arg3 harg3 arg4 harg4 arg5 harg5 arg6 harg6 arg7 harg7 arg8 harg8 arg9 harg9 hc0 hc1 x0 x1 x2 x3 x4 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x2048) z2]
  simp (disch := decide) only [View.readAt_eq_ld, Memref.IsWhole.read_unread, View.ld_unit_zero (S := S512x2048) z2, View.ld_unit_zero (S := S2048x512) z2, View.ld_unit_zero (S := S1x2048) z2, View.readCov_unit_zero (S := S512x2048) _ z2]

/-- There the running sum starts from zero. -/
theorem acc_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (hc0 : cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) : sout0_A_1 c i arg2 harg2 arg3 harg3 arg4 harg4 arg5 harg5 arg6 harg6 arg7 harg7 arg8 harg8 arg9 harg9 hc0 hc1 x0 x1 x2 x3 x4 = k0_pay3 (k0_pay1 x0 x1) x2 x3 k0_pay2 x4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x2048) z2]
  simp (disch := decide) only [View.readAt_eq_ld, Memref.IsWhole.read_unread, View.ld_unit_zero (S := S512x2048) z2, View.ld_unit_zero (S := S2048x512) z2, View.ld_unit_zero (S := S1x2048) z2, View.readCov_unit_zero (S := S512x2048) _ z2]

/-- At a middle hidden block the normalised rows are kept. -/
theorem norm_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (hc0 : ¬cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (xs0 : Vec F S512x2048 .bf16) (xs1 : Vec F S512x2048 .f32) : sout0_B_0 c i arg2 harg2 arg3 harg3 arg4 harg4 arg5 harg5 arg6 harg6 arg7 harg7 arg8 harg8 arg9 harg9 hc0 hc1 x0 x1 x2 x3 x4 xs0 xs1 = xs0 := by
  rfl

/-- There the running sum grows. -/
theorem acc_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (hc0 : ¬cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (xs0 : Vec F S512x2048 .bf16) (xs1 : Vec F S512x2048 .f32) : sout0_B_1 c i arg2 harg2 arg3 harg3 arg4 harg4 arg5 harg5 arg6 harg6 arg7 harg7 arg8 harg8 arg9 harg9 hc0 hc1 x0 x1 x2 x3 x4 xs0 xs1 = k0_pay3 xs0 x2 x3 xs1 x4 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_cons_unit_zero (S := S512x2048) z2]
  simp (disch := decide) only [View.readAt_eq_ld, Memref.IsWhole.read_unread, View.ld_unit_zero (S := S512x2048) z2, View.ld_unit_zero (S := S2048x512) z2, View.ld_unit_zero (S := S1x2048) z2, View.readCov_unit_zero (S := S512x2048) _ z2]

/-- At the last hidden block the finished sum is added to the row. -/
theorem out_C (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (hc0 : ¬cond0_0 i) (hc1 : cond0_1 i)
    (x0 : Vec F S512x2048 .f32) (x1 : Vec F S1x2048 .f32) (x2 : Vec F S2048x512 .bf16) (x3 : Vec F S2048x512 .bf16) (x4 : Vec F S512x2048 .bf16) (xs0 : Vec F S512x2048 .bf16) (xs1 : Vec F S512x2048 .f32) : out0_C_5 c i arg2 harg2 arg3 harg3 arg4 harg4 arg5 harg5 arg6 harg6 arg7 harg7 arg8 harg8 arg9 harg9 hc0 hc1 x0 x1 x2 x3 x4 xs0 xs1 = k0_pay4 x0 (k0_pay3 xs0 x2 x3 xs1 x4) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_cons_unit_zero (S := S512x2048) z2]
  simp (disch := decide) only [View.readAt_eq_ld, Memref.IsWhole.read_unread, View.ld_unit_zero (S := S512x2048) z2, View.ld_unit_zero (S := S2048x512) z2, View.ld_unit_zero (S := S1x2048) z2, View.readCov_unit_zero (S := S512x2048) _ z2]

/-! The stored vectors at an index. -/

theorem pay1_apply (x : Vec Ideal S512x2048 .f32) (g : Vec Ideal S1x2048 .f32) (a : Fin 512) (l : Fin 2048) :
    k0_pay1 x g (ix2 a l) = rowNorm (fun k => x (ix2 a k)) (fun k => g (ix2 0 k)) l := by
  pointwise [k0_pay1, rowNorm, rowScale]

theorem pay2_apply (a : Fin 512) (l : Fin 2048) : k0_pay2 (F := Ideal) (ix2 a l) = 0 := by
  pointwise [k0_pay2]

theorem pay3_apply (y : Vec Ideal S512x2048 .bf16) (A B : Vec Ideal S2048x512 .bf16) (s : Vec Ideal S512x2048 .f32) (C : Vec Ideal S512x2048 .bf16)
    (a : Fin 512) (l : Fin 2048) : k0_pay3 y A B s C (ix2 a l)
      = s (ix2 a l) + ∑ r : Fin 512, gated (∑ k : Fin 2048, y (ix2 a k) * A (ix2 k r)) (∑ k : Fin 2048, y (ix2 a k) * B (ix2 k r)) * C (ix2 r l) := by
  pointwise [k0_pay3, gated]

theorem pay4_apply (x s : Vec Ideal S512x2048 .f32) (a : Fin 512) (l : Fin 2048) :
    k0_pay4 x s (ix2 a l) = x (ix2 a l) + Ideal.ofBits .f32 0x3F000000#32 * s (ix2 a l) := by
  pointwise [k0_pay4]

/-! The host's copies of the arguments, at an index. -/

variable (m : (ℓ : Loc nD τ sig) → Buf (Elt Ideal) ℓ) (c : Dev nD)

theorem V_v0 (k : Fin 2048) (h : Fin 11264) : V m c main_v0 (ix2 k h) = m (c, main_arg2) (ix2 k h) := by
  unfold V
  after_reads_at
theorem V_v1 (h : Fin 5632) (l : Fin 2048) : V m c main_v1 (ix2 h l) = m (c, main_arg3) (ix2 h l) := by
  unfold V
  after_reads_at
theorem V_v2 (l : Fin 2048) : V m c main_v2 (ix2 0 l) = m (c, main_arg1) (ix1 l) := by
  unfold V
  after_reads_at

end Cert.Mlp.First
-- ==== Proof.FirstWhole.lean ====
module

public import proofs.«01_k».proof.Proof.FirstTile

@[expose] public section

set_option maxRecDepth 16384

noncomputable section

/-! The first feed-forward kernel's whole result, from its arguments. -/

namespace Cert.Mlp.First

open Cert.FfnIdeal Cert.FfnIdeal.Gen Cert.FfnIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! Which block of its array each window stages at a grid point. -/

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 11 :=
  (by decide +kernel : ∀ t : Fin grid0.N, _)
theorem idx3 : ∀ t : Fin cfg0.N, win0_3.index t (0 : Fin 2) = 0 ∧ win0_3.index t (1 : Fin 2) = t.val % 11 + 11 :=
  (by decide +kernel : ∀ t : Fin grid0.N, _)
theorem idx4 : ∀ t : Fin cfg0.N, win0_4.index t (0 : Fin 2) = t.val % 11 ∧ win0_4.index t (1 : Fin 2) = 0 :=
  (by decide +kernel : ∀ t : Fin grid0.N, _)

/-- A grid point's row tile is one of 64. -/
theorem tile_lt (t : Fin cfg0.N) : t.val / 11 < 64 := by
  have h : t.val < 704 := lt_of_lt_of_eq t.isLt N_0
  omega

/-- The row of the array that row `a` of tile `q` is. -/
def rowOf (q : ℕ) (hq : q < 64) (a : Fin 512) : Fin 32768 := ⟨512 * q + a.val, by omega⟩

variable (m : (ℓ : Loc nD τ sig) → Buf (Elt Ideal) ℓ) (c : Dev nD)

/-! The arguments as plain functions. -/

def xs (r : Fin 32768) (k : Fin 2048) : EReal := m (c, main_arg0) (ix2 r k)
def gs (k : Fin 2048) : EReal := m (c, main_arg1) (ix1 k)
def ws (k : Fin 2048) (h : Fin 11264) : EReal := m (c, main_arg2) (ix2 k h)
def us (h : Fin 5632) (l : Fin 2048) : EReal := m (c, main_arg3) (ix2 h l)

/-! The staged blocks at an index. -/

theorem blk0 (t : Fin cfg0.N) (a : Fin 512) (k : Fin 2048) :
    (iblk m c 0 t : Vec Ideal S512x2048 .f32) (ix2 a k) = xs m c (rowOf (t.val / 11) (tile_lt t) a) k := by
  obtain ⟨e0, e1⟩ := idx0 t
  show V m c main_arg0 (((cfg0.win 0).blk t).view.emb (ix2 a k : S512x2048.Idx)) = _
  rw [V_main_arg0]
  show m (c, main_arg0) _ = m (c, main_arg0) _
  congr 1
  funext d; apply Fin.ext
  match d with
  | ⟨0, _⟩ => show win0_0.index t (0 : Fin 2) * 512 + 1 * a.val = 512 * (t.val / 11) + a.val; omega
  | ⟨1, _⟩ => show win0_0.index t (1 : Fin 2) * 2048 + 1 * k.val = k.val; omega

theorem blk1 (t : Fin cfg0.N) (k : Fin 2048) : (iblk m c 1 t : Vec Ideal S1x2048 .f32) (ix2 0 k) = gs m c k := by
  obtain ⟨e0, e1⟩ := idx1 t
  have e : ((cfg0.win 1).blk t).view.emb (ix2 0 k : S1x2048.Idx) = (ix2 0 k : S1x2048.Idx) := by
    funext d; apply Fin.ext
    match d with
    | ⟨0, _⟩ => show win0_1.index t (0 : Fin 2) * 1 + 1 * 0 = 0; omega
    | ⟨1, _⟩ => show win0_1.index t (1 : Fin 2) * 2048 + 1 * k.val = k.val; omega
  show V m c main_v2 (((cfg0.win 1).blk t).view.emb (ix2 0 k : S1x2048.Idx)) = _
  rw [e, V_v2]
  rfl

theorem blk2 (t : Fin cfg0.N) (k : Fin 2048) (r : Fin 512) :
    (iblk m c 2 t : Vec Ideal S2048x512 .bf16) (ix2 k r) = ws m c k ⟨512 * (t.val % 11) + r.val, by omega⟩ := by
  obtain ⟨e0, e1⟩ := idx2 t
  have e : ((cfg0.win 2).blk t).view.emb (ix2 k r : S2048x512.Idx) = (ix2 k ⟨512 * (t.val % 11) + r.val, by omega⟩ : S2048x11264.Idx) := by
    funext d; apply Fin.ext
    match d with
    | ⟨0, _⟩ => show win0_2.index t (0 : Fin 2) * 2048 + 1 * k.val = k.val; omega
    | ⟨1, _⟩ => show win0_2.index t (1 : Fin 2) * 512 + 1 * r.val = 512 * (t.val % 11) + r.val; omega
  show V m c main_v0 (((cfg0.win 2).blk t).view.emb (ix2 k r : S2048x512.Idx)) = _
  rw [e, V_v0]
  rfl

theorem blk3 (t : Fin cfg0.N) (k : Fin 2048) (r : Fin 512) :
    (iblk m c 3 t : Vec Ideal S2048x512 .bf16) (ix2 k r) = ws m c k ⟨5632 + (512 * (t.val % 11) + r.val), by omega⟩ := by
  obtain ⟨e0, e1⟩ := idx3 t
  have e : ((cfg0.win 3).blk t).view.emb (ix2 k r : S2048x512.Idx) = (ix2 k ⟨5632 + (512 * (t.val % 11) + r.val), by omega⟩ : S2048x11264.Idx) := by
    funext d; apply Fin.ext
    match d with
    | ⟨0, _⟩ => show win0_3.index t (0 : Fin 2) * 2048 + 1 * k.val = k.val; omega
    | ⟨1, _⟩ => show win0_3.index t (1 : Fin 2) * 512 + 1 * r.val = 5632 + (512 * (t.val % 11) + r.val); omega
  show V m c main_v0 (((cfg0.win 3).blk t).view.emb (ix2 k r : S2048x512.Idx)) = _
  rw [e, V_v0]
  rfl

theorem blk4 (t : Fin cfg0.N) (r : Fin 512) (l : Fin 2048) :
    (iblk m c 4 t : Vec Ideal S512x2048 .bf16) (ix2 r l) = us m c ⟨512 * (t.val % 11) + r.val, by omega⟩ l := by
  obtain ⟨e0, e1⟩ := idx4 t
  have e : ((cfg0.win 4).blk t).view.emb (ix2 r l : S512x2048.Idx) = (ix2 ⟨512 * (t.val % 11) + r.val, by omega⟩ l : S5632x2048.Idx) := by
    funext d; apply Fin.ext
    match d with
    | ⟨0, _⟩ => show win0_4.index t (0 : Fin 2) * 512 + 1 * r.val = 512 * (t.val % 11) + r.val; omega
    | ⟨1, _⟩ => show win0_4.index t (1 : Fin 2) * 2048 + 1 * l.val = l.val; omega
  show V m c main_v1 (((cfg0.win 4).blk t).view.emb (ix2 r l : S512x2048.Idx)) = _
  rw [e, V_v1]
  rfl

/-- The normalised row. -/
def ys (r : Fin 32768) : Fin 2048 → EReal := rowNorm (xs m c r) (gs m c)

/-- A point's addition to the running sum is its hidden block's shares. -/
theorem step_apply (t : Fin cfg0.N) (y : Vec Ideal S512x2048 .bf16) (s : Vec Ideal S512x2048 .f32) (a : Fin 512) (l : Fin 2048)
    (hy : ∀ k, y (ix2 a k) = ys m c (rowOf (t.val / 11) (tile_lt t) a) k)
    (hs : s (ix2 a l) = upto (ys m c (rowOf (t.val / 11) (tile_lt t) a)) (ws m c) (us m c) l (512 * (t.val % 11))) :
    k0_pay3 y (iblk m c 2 t) (iblk m c 3 t) s (iblk m c 4 t) (ix2 a l)
      = upto (ys m c (rowOf (t.val / 11) (tile_lt t) a)) (ws m c) (us m c) l (512 * (t.val % 11) + 512) := by
  rw [pay3_apply, hs, upto_add]
  congr 1
  simp only [hy]
  exact block_share _ (ws m c) (us m c) l (512 * (t.val % 11)) (by omega) (fun k r => (iblk m c 2 t : Vec Ideal S2048x512 .bf16) (ix2 k r))
    (fun k r => (iblk m c 3 t : Vec Ideal S2048x512 .bf16) (ix2 k r)) (fun r k => (iblk m c 4 t : Vec Ideal S512x2048 .bf16) (ix2 r k))
    (blk2 m c t) (blk3 m c t) (blk4 m c t)

/-- At a tile's first point the stored rows are the tile's normalised rows. -/
theorem fresh_norm (t : Fin cfg0.N) (a : Fin 512) (k : Fin 2048) :
    k0_pay1 (iblk m c 0 t : Vec Ideal S512x2048 .f32) (iblk m c 1 t) (ix2 a k) = ys m c (rowOf (t.val / 11) (tile_lt t) a) k := by
  rw [pay1_apply]
  simp only [blk0, blk1]
  rfl

/-- After point `n` the scratch holds the tile's normalised rows and the shares of the hidden blocks so far. -/
theorem carried (n : ℕ) (hn : n < cfg0.N) :
    (∀ (a : Fin 512) (k : Fin 2048), (outsAt0 m c n hn).2.1 (ix2 a k) = ys m c (rowOf (n / 11) (tile_lt ⟨n, hn⟩) a) k)
    ∧ (n % 11 ≠ 10 → ∀ (a : Fin 512) (l : Fin 2048), (outsAt0 m c n hn).2.2 (ix2 a l)
        = upto (ys m c (rowOf (n / 11) (tile_lt ⟨n, hn⟩) a)) (ws m c) (us m c) l (512 * (n % 11) + 512)) := by
  induction n with
  | zero =>
    have h := outsAt0_A m c ⟨0, hn⟩ (Nat.zero_mod _) (by show ¬0 % 11 = 10; omega)
    rw [norm_A, acc_A] at h
    rw [show outsAt0 m c 0 hn = _ from h]
    refine ⟨fun a k => fresh_norm m c ⟨0, hn⟩ a k, fun _ a l => step_apply m c ⟨0, hn⟩ _ _ a l (fun k => fresh_norm m c ⟨0, hn⟩ a k) ?_⟩
    rw [pay2_apply]
    exact (upto_zero _ _ _ _).symm
  | succ n ih =>
    obtain ⟨ih0, ih1⟩ := ih (Nat.lt_of_succ_lt hn)
    by_cases h0 : (n + 1) % 11 = 0
    · have h := outsAt0_A m c ⟨n + 1, hn⟩ h0 (by show ¬(n + 1) % 11 = 10; omega)
      rw [norm_A, acc_A] at h
      rw [show outsAt0 m c (n + 1) hn = _ from h]
      refine ⟨fun a k => fresh_norm m c ⟨n + 1, hn⟩ a k, fun _ a l => step_apply m c ⟨n + 1, hn⟩ _ _ a l (fun k => fresh_norm m c ⟨n + 1, hn⟩ a k) ?_⟩
      rw [pay2_apply]
      show _ = upto _ _ _ _ (512 * ((n + 1) % 11))
      rw [h0]
      exact (upto_zero _ _ _ _).symm
    · have eq : (n + 1) / 11 = n / 11 := by omega
      have em : (n + 1) % 11 = n % 11 + 1 := by omega
      have hr : ∀ a, rowOf ((n + 1) / 11) (tile_lt ⟨n + 1, hn⟩) a = rowOf (n / 11) (tile_lt ⟨n, Nat.lt_of_succ_lt hn⟩) a :=
        fun a => Fin.ext (by show 512 * ((n + 1) / 11) + a.val = 512 * (n / 11) + a.val; rw [eq])
      by_cases h1 : (n + 1) % 11 = 10
      · have h := outsAt0_C m c ⟨n + 1, hn⟩ h0 h1
        rw [show outsAt0 m c (n + 1) hn = _ from h]
        refine ⟨fun a k => ?_, fun hne => absurd h1 hne⟩
        rw [hr a]
        exact ih0 a k
      · have h := outsAt0_B m c ⟨n + 1, hn⟩ h0 h1
        rw [norm_B, acc_B] at h
        rw [show outsAt0 m c (n + 1) hn = _ from h]
        refine ⟨fun a k => (ih0 a k).trans (by rw [hr a]), fun _ a l => step_apply m c ⟨n + 1, hn⟩ _ _ a l (fun k => (ih0 a k).trans ?_) ((ih1 (by omega) a l).trans ?_)⟩
        · show ys m c (rowOf (n / 11) _ a) k = ys m c (rowOf ((n + 1) / 11) _ a) k
          rw [hr a]
        · show upto (ys m c (rowOf (n / 11) _ a)) _ _ l (512 * (n % 11) + 512) = upto (ys m c (rowOf ((n + 1) / 11) _ a)) _ _ l (512 * ((n + 1) % 11))
          rw [hr a, em]
          rfl

/-- A row's result: the row plus half its feed-forward. -/
def value (r : Fin 32768) (l : Fin 2048) : EReal :=
  xs m c r l + Ideal.ofBits .f32 0x3F000000#32 * ∑ h : Fin 5632, hidden (ys m c r) (ws m c) h * us m c h l

/-- What the last point of a tile leaves in the output's block. -/
theorem written (n : ℕ) (hn : n + 1 < cfg0.N) (h1 : (n + 1) % 11 = 10) (a : Fin 512) (l : Fin 2048) :
    (outsAt0 m c (n + 1) hn).1 (ix2 a l) = value m c (rowOf ((n + 1) / 11) (tile_lt ⟨n + 1, hn⟩) a) l := by
  obtain ⟨ih0, ih1⟩ := carried m c n (Nat.lt_of_succ_lt hn)
  have eq : (n + 1) / 11 = n / 11 := by omega
  have hr : rowOf (n / 11) (tile_lt ⟨n, Nat.lt_of_succ_lt hn⟩) a = rowOf ((n + 1) / 11) (tile_lt ⟨n + 1, hn⟩) a :=
    Fin.ext (by show 512 * (n / 11) + a.val = 512 * ((n + 1) / 11) + a.val; rw [eq])
  have h := outsAt0_C m c ⟨n + 1, hn⟩ (by show ¬(n + 1) % 11 = 0; omega) h1
  rw [out_C] at h
  rw [show outsAt0 m c (n + 1) hn = _ from h]
  show k0_pay4 _ (k0_pay3 (outsAt0 m c n _).2.1 _ _ (outsAt0 m c n _).2.2 _) (ix2 a l) = _
  have e := step_apply m c ⟨n + 1, hn⟩ (outsAt0 m c n (Nat.lt_of_succ_lt hn)).2.1 (outsAt0 m c n (Nat.lt_of_succ_lt hn)).2.2 a l
    (fun k => (ih0 a k).trans (by rw [hr])) ((ih1 (by omega) a l).trans (by rw [hr]; congr 1; show 512 * (n % 11) + 512 = 512 * ((n + 1) % 11); omega))
  rw [pay4_apply, e, blk0]
  unfold value
  congr 2
  rw [show 512 * ((⟨n + 1, hn⟩ : Fin cfg0.N).val % 11) + 512 = 5632 by show 512 * ((n + 1) % 11) + 512 = 5632; omega]
  exact upto_full _ _ _ _

/-- The array after the run. -/
theorem final_eq : (dats m 0 c).arrAt 5 cfg0.N = (fun i => value m c (i 0) (i 1) : Vec Ideal S32768x2048 .f32) := by
  refine (dats m 0 c).arrAt_eq_of_cover 5 (fun i => value m c (i 0) (i 1) : Vec Ideal S32768x2048 .f32) (fun t hf => ?_) (fun i => (covered_iff5 i).2 ?_)
  · have hm : t.val % 11 = 10 := (flush0_5 t).mp hf
    obtain ⟨e0, e1, e2⟩ := idx_facts5 t
    show (cfg0.win 5).cut (grid0.coords t) ((dats m 0 c).after 5 t) = _
    rw [after0_5]
    obtain ⟨n, hn⟩ := t
    obtain ⟨n, rfl⟩ : ∃ k, n = k + 1 := ⟨n - 1, by have : n % 11 = 10 := hm; omega⟩
    funext y
    obtain ⟨a, l, rfl⟩ : ∃ (a : Fin 512) (l : Fin 2048), y = (ix2 a l : S512x2048.Idx) :=
      ⟨y 0, y 1, funext fun d => match d with | ⟨0, _⟩ => rfl | ⟨1, _⟩ => rfl⟩
    refine (written m c n hn hm a l).trans ?_
    show _ = value m c (((cfg0.win 5).blk ⟨n + 1, hn⟩).view.emb (ix2 a l : S512x2048.Idx) 0) (((cfg0.win 5).blk ⟨n + 1, hn⟩).view.emb (ix2 a l : S512x2048.Idx) 1)
    congr 1
    · apply Fin.ext
      show 512 * ((n + 1) / 11) + a.val = win0_5.index ⟨n + 1, hn⟩ (0 : Fin 2) * 512 + 1 * a.val
      dsimp only at e2
      omega
    · apply Fin.ext
      show l.val = win0_5.index ⟨n + 1, hn⟩ (1 : Fin 2) * 2048 + 1 * l.val
      omega
  · have h0 : (i 0).val < 32768 := (i 0).isLt
    have h1 : (i 1).val < 2048 := (i 1).isLt
    omega

end Cert.Mlp.First
-- ==== Proof.FirstRef.lean ====
module

public import proofs.«01_k».proof.Proof.Hidden
public import proofs.«01_k».proof.Proof.Gen.FfnReferenceIdeal.Read

@[expose] public section

set_option maxRecDepth 16384

noncomputable section

/-! The first feed-forward's reference at an index. -/

namespace Cert.Mlp.FirstRef

open Cert.FfnReferenceIdeal Cert.FfnReferenceIdeal.Gen Cert.FfnReferenceIdeal.Read Idealize.ShloMosaic Idealize.ShloMosaic.TcCoe

variable (x0 : (⟨S32768x2048, .f32⟩ : BufTy).Contents (Elt Ideal)) (x1 : (⟨S2048, .f32⟩ : BufTy).Contents (Elt Ideal))
  (x2 : (⟨S2048x11264, .f32⟩ : BufTy).Contents (Elt Ideal)) (x3 : (⟨S5632x2048, .f32⟩ : BufTy).Contents (Elt Ideal))

/-- The normalised row. -/
theorem v12_at (r : Fin 32768) (k : Fin 2048) :
    val_main_v12 (F := Ideal) x0 x1 (ix2 r k) = rowNorm (fun l => x0 (ix2 r l)) (fun l => x1 (ix1 l)) k := by
  have e1 : ∀ l, idx_main_v1 (idx_main_v2 (idx_main_v8 (ix2 r k))) l = ix2 r l := fun l => by funext a; fin_cases a <;> rfl
  have e2 : idx_main_v10 (idx_main_v11 (ix2 r k)) = ix1 k := by funext a; fin_cases a; rfl
  have z : (FloatOps.ofBits FTy.f32 0x00000000#32 : Ideal .f32) = (0 : EReal) := Ideal.ofBits_zero _
  rw [val_main_v12_apply, val_main_v9_apply, val_main_v8_apply, val_main_v7_apply, val_main_v6_apply, val_main_v4_apply, val_main_v2_apply,
    val_main_v1_apply, val_main_cst_apply, val_main_v3_apply, val_main_cst_0_apply, val_main_v5_apply, val_main_cst_1_apply,
    val_main_v11_apply, val_main_v10_apply, e2, z]
  simp only [e1, val_main_v0_apply]
  unfold rowNorm rowScale
  rw [← zero_add (∑ l : Fin 2048, x0 (ix2 r l) * x0 (ix2 r l))]
  rfl

/-- The first product. -/
theorem v13_at (r : Fin 32768) (h : Fin 11264) :
    val_main_v13 (F := Ideal) x0 x1 x2 (ix2 r h) = ∑ k : Fin 2048, rowNorm (fun l => x0 (ix2 r l)) (fun l => x1 (ix1 l)) k * x2 (ix2 k h) := by
  rw [val_main_v13_apply]
  refine Finset.sum_congr rfl fun k _ => ?_
  have el : lidx_main_v13 (ix2 r h) k = ix2 r k := by funext a; fin_cases a <;> rfl
  have er : ridx_main_v13 (ix2 r h) k = ix2 k h := by funext a; fin_cases a <;> rfl
  rw [el, er, v12_at]

/-- The hidden values. -/
theorem v17_at (r : Fin 32768) (h : Fin 5632) :
    val_main_v17 (F := Ideal) x0 x1 x2 (ix2 r h)
      = hidden (rowNorm (fun l => x0 (ix2 r l)) (fun l => x1 (ix1 l))) (fun k h => x2 (ix2 k h)) h := by
  have e1 : idx_main_v14 (ix2 r h) = ix2 r ⟨h.val, by omega⟩ := by funext a; fin_cases a <;> rfl
  have e2 : idx_main_v15 (ix2 r h) = ix2 r ⟨5632 + h.val, by omega⟩ := by
    funext a; apply Fin.ext
    match a with
    | ⟨0, _⟩ => rfl
    | ⟨1, _⟩ => first | rfl | (show h.val + 5632 = 5632 + h.val; omega)
  have o : (FloatOps.ofBits FTy.f32 0x3F800000#32 : Ideal .f32) = (1 : EReal) := one_bits
  rw [val_main_v17_apply, val_main_v16_apply, val_main_call0_v5_apply, val_main_call0_v4_apply, val_main_call0_cst_0_apply,
    val_main_call0_v3_apply, val_main_call0_v2_apply, val_main_call0_cst_apply, val_main_call0_v1_apply, val_main_call0_v0_apply,
    val_main_v14_apply, val_main_v15_apply, e1, e2, v13_at, v13_at, o]
  rfl

/-- The result. -/
theorem v21_at (r : Fin 32768) (l : Fin 2048) :
    val_main_v21 (F := Ideal) x0 x1 x2 x3 (ix2 r l)
      = x0 (ix2 r l) + Ideal.ofBits .f32 0x3F000000#32 * ∑ h : Fin 5632,
          hidden (rowNorm (fun l => x0 (ix2 r l)) (fun l => x1 (ix1 l))) (fun k h => x2 (ix2 k h)) h * x3 (ix2 h l) := by
  rw [val_main_v21_apply, val_main_v20_apply, val_main_v19_apply, val_main_cst_2_apply, val_main_v18_apply]
  have e : ∀ h, val_main_v17 (F := Ideal) x0 x1 x2 (lidx_main_v18 (ix2 r l) h) * x3 (ridx_main_v18 (ix2 r l) h)
      = hidden (rowNorm (fun l => x0 (ix2 r l)) (fun l => x1 (ix1 l))) (fun k h => x2 (ix2 k h)) h * x3 (ix2 h l) := fun h => by
    have el : lidx_main_v18 (ix2 r l) h = ix2 r h := by funext a; fin_cases a <;> rfl
    have er : ridx_main_v18 (ix2 r l) h = ix2 h l := by funext a; fin_cases a <;> rfl
    rw [el, er, v17_at]
  rw [Finset.sum_congr rfl fun h _ => e h]
  rfl

end Cert.Mlp.FirstRef
-- ==== Proof.LastTile.lean ====
module

public import proofs.«01_k».proof.Proof.Hidden
public import proofs.«01_k».proof.Proof.Gen.LastIdeal.Value
public import Idealize.ShloMosaic.Lib.StableHlo.ReadAt
public import Idealize.ShloMosaic.Lib.Tactic.IndexArith

@[expose] public section

set_option maxRecDepth 16384

noncomputable section

/-! The last feed-forward kernel's grid point: what each case of its body leaves behind. -/

namespace Cert.Mlp.Last

open Cert.LastIdeal Cert.LastIdeal.Gen Cert.LastIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem z2 : (![0, 0] : Fin 2 → Nat) = fun _ => 0 := funext fun a => by fin_cases a <;> rfl

/-- At the first hidden block the running sum starts from zero. -/
theorem acc_A (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : cond0_0 i) (hc1 : ¬cond0_1 i)
    (x0 : Vec F S512x2048 .f32) (x1 : Vec F S512x2048 .bf16) (x2 : Vec F S2048x512 .bf16) (x3 : Vec F S2048x512 .bf16) (x4 : Vec F S512x2048 .bf16) (x5 : Vec F S1x2048 .f32) : sout0_A_0 c i arg2 harg2 arg3 harg3 arg4 harg4 arg5 harg5 arg6 harg6 arg7 harg7 arg8 harg8 arg9 harg9 hc0 hc1 x0 x1 x2 x3 x4 x5 = k0_pay2 x1 x2 x3 k0_pay1 x4 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x2048) z2]
  simp (disch := decide) only [View.readAt_eq_ld, Memref.IsWhole.read_unread, View.ld_unit_zero (S := S512x2048) z2, View.ld_unit_zero (S := S2048x512) z2, View.ld_unit_zero (S := S1x2048) z2, View.readCov_unit_zero (S := S512x2048) _ z2]

/-- At a middle hidden block the running sum grows. -/
theorem acc_B (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i)
    (x0 : Vec F S512x2048 .f32) (x1 : Vec F S512x2048 .bf16) (x2 : Vec F S2048x512 .bf16) (x3 : Vec F S2048x512 .bf16) (x4 : Vec F S512x2048 .bf16) (x5 : Vec F S1x2048 .f32) (xs : Vec F S512x2048 .f32) : sout0_B_0 c i arg2 harg2 arg3 harg3 arg4 harg4 arg5 harg5 arg6 harg6 arg7 harg7 arg8 harg8 arg9 harg9 hc0 hc1 x0 x1 x2 x3 x4 x5 xs = k0_pay2 x1 x2 x3 xs x4 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs)]
  unfold kernelRun0_B
  dsimp only
  sl_unfold_words
  rw [View.canon_cons_unit_zero (S := S512x2048) z2]
  simp (disch := decide) only [View.readAt_eq_ld, Memref.IsWhole.read_unread, View.ld_unit_zero (S := S512x2048) z2, View.ld_unit_zero (S := S2048x512) z2, View.ld_unit_zero (S := S1x2048) z2, View.readCov_unit_zero (S := S512x2048) _ z2]

/-- At the last hidden block the finished sum is added to the row and the row normalised. -/
theorem out_C (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : cond0_1 i)
    (x0 : Vec F S512x2048 .f32) (x1 : Vec F S512x2048 .bf16) (x2 : Vec F S2048x512 .bf16) (x3 : Vec F S2048x512 .bf16) (x4 : Vec F S512x2048 .bf16) (x5 : Vec F S1x2048 .f32) (xs : Vec F S512x2048 .f32) : out0_C_6 c i arg2 harg2 arg3 harg3 arg4 harg4 arg5 harg5 arg6 harg6 arg7 harg7 arg8 harg8 arg9 harg9 hc0 hc1 x0 x1 x2 x3 x4 x5 xs = k0_pay3 x0 (k0_pay2 x1 x2 x3 xs x4) x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs)]
  unfold kernelRun0_C
  dsimp only
  sl_unfold_words
  rw [View.canon_cons_unit_zero (S := S512x2048) z2]
  simp (disch := decide) only [View.readAt_eq_ld, Memref.IsWhole.read_unread, View.ld_unit_zero (S := S512x2048) z2, View.ld_unit_zero (S := S2048x512) z2, View.ld_unit_zero (S := S1x2048) z2, View.readCov_unit_zero (S := S512x2048) _ z2]

/-! The stored vectors at an index. -/

theorem pay1_apply (a : Fin 512) (l : Fin 2048) : k0_pay1 (F := Ideal) (ix2 a l) = 0 := by
  pointwise [k0_pay1]

theorem pay2_apply (y : Vec Ideal S512x2048 .bf16) (A B : Vec Ideal S2048x512 .bf16) (s : Vec Ideal S512x2048 .f32) (C : Vec Ideal S512x2048 .bf16)
    (a : Fin 512) (l : Fin 2048) : k0_pay2 y A B s C (ix2 a l)
      = s (ix2 a l) + ∑ r : Fin 512, gated (∑ k : Fin 2048, y (ix2 a k) * A (ix2 k r)) (∑ k : Fin 2048, y (ix2 a k) * B (ix2 k r)) * C (ix2 r l) := by
  pointwise [k0_pay2, gated]

theorem pay3_apply (x s : Vec Ideal S512x2048 .f32) (g : Vec Ideal S1x2048 .f32) (a : Fin 512) (l : Fin 2048) :
    k0_pay3 x s g (ix2 a l) = rowNorm (fun k => x (ix2 a k) + Ideal.ofBits .f32 0x3F000000#32 * s (ix2 a k)) (fun k => g (ix2 0 k)) l := by
  pointwise [k0_pay3, rowNorm, rowScale]

/-! The host's copies of the arguments, at an index. -/

variable (m : (ℓ : Loc nD τ sig) → Buf (Elt Ideal) ℓ) (c : Dev nD)

theorem V_v0 (k : Fin 2048) (h : Fin 11264) : V m c main_v0 (ix2 k h) = m (c, main_arg2) (ix2 k h) := by
  unfold V
  after_reads_at
theorem V_v1 (h : Fin 5632) (l : Fin 2048) : V m c main_v1 (ix2 h l) = m (c, main_arg3) (ix2 h l) := by
  unfold V
  after_reads_at
theorem V_v2 (l : Fin 2048) : V m c main_v2 (ix2 0 l) = m (c, main_arg4) (ix1 l) := by
  unfold V
  after_reads_at

end Cert.Mlp.Last
-- ==== Proof.LastWhole.lean ====
module

public import proofs.«01_k».proof.Proof.LastTile

@[expose] public section

set_option maxRecDepth 16384

noncomputable section

/-! The last feed-forward kernel's whole result, from its arguments. -/

namespace Cert.Mlp.Last

open Cert.LastIdeal Cert.LastIdeal.Gen Cert.LastIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! Which block of its array each window stages at a grid point. -/

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = t.val / 11 ∧ win0_1.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx2 : ∀ t : Fin cfg0.N, win0_2.index t (0 : Fin 2) = 0 ∧ win0_2.index t (1 : Fin 2) = t.val % 11 :=
  (by decide +kernel : ∀ t : Fin grid0.N, _)
theorem idx3 : ∀ t : Fin cfg0.N, win0_3.index t (0 : Fin 2) = 0 ∧ win0_3.index t (1 : Fin 2) = t.val % 11 + 11 :=
  (by decide +kernel : ∀ t : Fin grid0.N, _)
theorem idx4 : ∀ t : Fin cfg0.N, win0_4.index t (0 : Fin 2) = t.val % 11 ∧ win0_4.index t (1 : Fin 2) = 0 :=
  (by decide +kernel : ∀ t : Fin grid0.N, _)

/-- A grid point's row tile is one of 64. -/
theorem tile_lt (t : Fin cfg0.N) : t.val / 11 < 64 := by
  have h : t.val < 704 := lt_of_lt_of_eq t.isLt N_0
  omega

/-- The row of the array that row `a` of tile `q` is. -/
def rowOf (q : ℕ) (hq : q < 64) (a : Fin 512) : Fin 32768 := ⟨512 * q + a.val, by omega⟩

variable (m : (ℓ : Loc nD τ sig) → Buf (Elt Ideal) ℓ) (c : Dev nD)

/-! The arguments as plain functions. -/

def xs (r : Fin 32768) (k : Fin 2048) : EReal := m (c, main_arg0) (ix2 r k)
def ys (r : Fin 32768) (k : Fin 2048) : EReal := m (c, main_arg1) (ix2 r k)
def gs (k : Fin 2048) : EReal := m (c, main_arg4) (ix1 k)
def ws (k : Fin 2048) (h : Fin 11264) : EReal := m (c, main_arg2) (ix2 k h)
def us (h : Fin 5632) (l : Fin 2048) : EReal := m (c, main_arg3) (ix2 h l)

/-! The staged blocks at an index. -/

theorem blk0 (t : Fin cfg0.N) (a : Fin 512) (k : Fin 2048) :
    (iblk m c 0 t : Vec Ideal S512x2048 .f32) (ix2 a k) = xs m c (rowOf (t.val / 11) (tile_lt t) a) k := by
  obtain ⟨e0, e1⟩ := idx0 t
  show V m c main_arg0 (((cfg0.win 0).blk t).view.emb (ix2 a k : S512x2048.Idx)) = _
  rw [V_main_arg0]
  show m (c, main_arg0) _ = m (c, main_arg0) _
  congr 1
  funext d; apply Fin.ext
  match d with
  | ⟨0, _⟩ => show win0_0.index t (0 : Fin 2) * 512 + 1 * a.val = 512 * (t.val / 11) + a.val; omega
  | ⟨1, _⟩ => show win0_0.index t (1 : Fin 2) * 2048 + 1 * k.val = k.val; omega

theorem blk1 (t : Fin cfg0.N) (a : Fin 512) (k : Fin 2048) :
    (iblk m c 1 t : Vec Ideal S512x2048 .bf16) (ix2 a k) = ys m c (rowOf (t.val / 11) (tile_lt t) a) k := by
  obtain ⟨e0, e1⟩ := idx1 t
  show V m c main_arg1 (((cfg0.win 1).blk t).view.emb (ix2 a k : S512x2048.Idx)) = _
  rw [V_main_arg1]
  show m (c, main_arg1) _ = m (c, main_arg1) _
  congr 1
  funext d; apply Fin.ext
  match d with
  | ⟨0, _⟩ => show win0_1.index t (0 : Fin 2) * 512 + 1 * a.val = 512 * (t.val / 11) + a.val; omega
  | ⟨1, _⟩ => show win0_1.index t (1 : Fin 2) * 2048 + 1 * k.val = k.val; omega

theorem blk5 (t : Fin cfg0.N) (k : Fin 2048) : (iblk m c 5 t : Vec Ideal S1x2048 .f32) (ix2 0 k) = gs m c k := by
  obtain ⟨e0, e1⟩ := idx5 t
  have e : ((cfg0.win 5).blk t).view.emb (ix2 0 k : S1x2048.Idx) = (ix2 0 k : S1x2048.Idx) := by
    funext d; apply Fin.ext
    match d with
    | ⟨0, _⟩ => show win0_5.index t (0 : Fin 2) * 1 + 1 * 0 = 0; omega
    | ⟨1, _⟩ => show win0_5.index t (1 : Fin 2) * 2048 + 1 * k.val = k.val; omega
  show V m c main_v2 (((cfg0.win 5).blk t).view.emb (ix2 0 k : S1x2048.Idx)) = _
  rw [e, V_v2]
  rfl

theorem blk2 (t : Fin cfg0.N) (k : Fin 2048) (r : Fin 512) :
    (iblk m c 2 t : Vec Ideal S2048x512 .bf16) (ix2 k r) = ws m c k ⟨512 * (t.val % 11) + r.val, by omega⟩ := by
  obtain ⟨e0, e1⟩ := idx2 t
  have e : ((cfg0.win 2).blk t).view.emb (ix2 k r : S2048x512.Idx) = (ix2 k ⟨512 * (t.val % 11) + r.val, by omega⟩ : S2048x11264.Idx) := by
    funext d; apply Fin.ext
    match d with
    | ⟨0, _⟩ => show win0_2.index t (0 : Fin 2) * 2048 + 1 * k.val = k.val; omega
    | ⟨1, _⟩ => show win0_2.index t (1 : Fin 2) * 512 + 1 * r.val = 512 * (t.val % 11) + r.val; omega
  show V m c main_v0 (((cfg0.win 2).blk t).view.emb (ix2 k r : S2048x512.Idx)) = _
  rw [e, V_v0]
  rfl

theorem blk3 (t : Fin cfg0.N) (k : Fin 2048) (r : Fin 512) :
    (iblk m c 3 t : Vec Ideal S2048x512 .bf16) (ix2 k r) = ws m c k ⟨5632 + (512 * (t.val % 11) + r.val), by omega⟩ := by
  obtain ⟨e0, e1⟩ := idx3 t
  have e : ((cfg0.win 3).blk t).view.emb (ix2 k r : S2048x512.Idx) = (ix2 k ⟨5632 + (512 * (t.val % 11) + r.val), by omega⟩ : S2048x11264.Idx) := by
    funext d; apply Fin.ext
    match d with
    | ⟨0, _⟩ => show win0_3.index t (0 : Fin 2) * 2048 + 1 * k.val = k.val; omega
    | ⟨1, _⟩ => show win0_3.index t (1 : Fin 2) * 512 + 1 * r.val = 5632 + (512 * (t.val % 11) + r.val); omega
  show V m c main_v0 (((cfg0.win 3).blk t).view.emb (ix2 k r : S2048x512.Idx)) = _
  rw [e, V_v0]
  rfl

theorem blk4 (t : Fin cfg0.N) (r : Fin 512) (l : Fin 2048) :
    (iblk m c 4 t : Vec Ideal S512x2048 .bf16) (ix2 r l) = us m c ⟨512 * (t.val % 11) + r.val, by omega⟩ l := by
  obtain ⟨e0, e1⟩ := idx4 t
  have e : ((cfg0.win 4).blk t).view.emb (ix2 r l : S512x2048.Idx) = (ix2 ⟨512 * (t.val % 11) + r.val, by omega⟩ l : S5632x2048.Idx) := by
    funext d; apply Fin.ext
    match d with
    | ⟨0, _⟩ => show win0_4.index t (0 : Fin 2) * 512 + 1 * r.val = 512 * (t.val % 11) + r.val; omega
    | ⟨1, _⟩ => show win0_4.index t (1 : Fin 2) * 2048 + 1 * l.val = l.val; omega
  show V m c main_v1 (((cfg0.win 4).blk t).view.emb (ix2 r l : S512x2048.Idx)) = _
  rw [e, V_v1]
  rfl

/-- A point's addition to the running sum is its hidden block's shares. -/
theorem step_apply (t : Fin cfg0.N) (s : Vec Ideal S512x2048 .f32) (a : Fin 512) (l : Fin 2048)
    (hs : s (ix2 a l) = upto (ys m c (rowOf (t.val / 11) (tile_lt t) a)) (ws m c) (us m c) l (512 * (t.val % 11))) :
    k0_pay2 (iblk m c 1 t) (iblk m c 2 t) (iblk m c 3 t) s (iblk m c 4 t) (ix2 a l)
      = upto (ys m c (rowOf (t.val / 11) (tile_lt t) a)) (ws m c) (us m c) l (512 * (t.val % 11) + 512) := by
  rw [pay2_apply, hs, upto_add]
  congr 1
  simp only [blk1]
  exact block_share _ (ws m c) (us m c) l (512 * (t.val % 11)) (by omega) (fun k r => (iblk m c 2 t : Vec Ideal S2048x512 .bf16) (ix2 k r))
    (fun k r => (iblk m c 3 t : Vec Ideal S2048x512 .bf16) (ix2 k r)) (fun r k => (iblk m c 4 t : Vec Ideal S512x2048 .bf16) (ix2 r k))
    (blk2 m c t) (blk3 m c t) (blk4 m c t)

/-- After point `n` the scratch holds the shares of the hidden blocks so far. -/
theorem carried (n : ℕ) (hn : n < cfg0.N) (hne : n % 11 ≠ 10) (a : Fin 512) (l : Fin 2048) :
    (outsAt0 m c n hn).2 (ix2 a l)
      = upto (ys m c (rowOf (n / 11) (tile_lt ⟨n, hn⟩) a)) (ws m c) (us m c) l (512 * (n % 11) + 512) := by
  induction n with
  | zero =>
    have h := outsAt0_A m c ⟨0, hn⟩ (Nat.zero_mod _) (by show ¬0 % 11 = 10; omega)
    rw [acc_A] at h
    rw [show outsAt0 m c 0 hn = _ from h]
    refine step_apply m c ⟨0, hn⟩ _ a l ?_
    rw [pay1_apply]
    exact (upto_zero _ _ _ _).symm
  | succ n ih =>
    by_cases h0 : (n + 1) % 11 = 0
    · have h := outsAt0_A m c ⟨n + 1, hn⟩ h0 (by show ¬(n + 1) % 11 = 10; omega)
      rw [acc_A] at h
      rw [show outsAt0 m c (n + 1) hn = _ from h]
      refine step_apply m c ⟨n + 1, hn⟩ _ a l ?_
      rw [pay1_apply]
      show _ = upto _ _ _ _ (512 * ((n + 1) % 11))
      rw [h0]
      exact (upto_zero _ _ _ _).symm
    · have ih1 := ih (Nat.lt_of_succ_lt hn) (by omega)
      have eq : (n + 1) / 11 = n / 11 := by omega
      have em : (n + 1) % 11 = n % 11 + 1 := by omega
      have hr : rowOf ((n + 1) / 11) (tile_lt ⟨n + 1, hn⟩) a = rowOf (n / 11) (tile_lt ⟨n, Nat.lt_of_succ_lt hn⟩) a :=
        Fin.ext (by show 512 * ((n + 1) / 11) + a.val = 512 * (n / 11) + a.val; rw [eq])
      have h := outsAt0_B m c ⟨n + 1, hn⟩ h0 hne
      rw [acc_B] at h
      rw [show outsAt0 m c (n + 1) hn = _ from h]
      refine step_apply m c ⟨n + 1, hn⟩ _ a l (ih1.trans ?_)
      show upto (ys m c (rowOf (n / 11) _ a)) _ _ l (512 * (n % 11) + 512) = upto (ys m c (rowOf ((n + 1) / 11) _ a)) _ _ l (512 * ((n + 1) % 11))
      rw [hr, em]
      rfl

/-- A row before its normalisation: the row plus half its feed-forward. -/
def plain (r : Fin 32768) (l : Fin 2048) : EReal :=
  xs m c r l + Ideal.ofBits .f32 0x3F000000#32 * ∑ h : Fin 5632, hidden (ys m c r) (ws m c) h * us m c h l

/-- A row's result. -/
def value (r : Fin 32768) (l : Fin 2048) : EReal := rowNorm (plain m c r) (gs m c) l

/-- What the last point of a tile leaves in the output's block. -/
theorem written (n : ℕ) (hn : n + 1 < cfg0.N) (h1 : (n + 1) % 11 = 10) (a : Fin 512) (l : Fin 2048) :
    (outsAt0 m c (n + 1) hn).1 (ix2 a l) = value m c (rowOf ((n + 1) / 11) (tile_lt ⟨n + 1, hn⟩) a) l := by
  have ih1 := carried m c n (Nat.lt_of_succ_lt hn) (by omega) a
  have eq : (n + 1) / 11 = n / 11 := by omega
  have hr : rowOf (n / 11) (tile_lt ⟨n, Nat.lt_of_succ_lt hn⟩) a = rowOf ((n + 1) / 11) (tile_lt ⟨n + 1, hn⟩) a :=
    Fin.ext (by show 512 * (n / 11) + a.val = 512 * ((n + 1) / 11) + a.val; rw [eq])
  have h := outsAt0_C m c ⟨n + 1, hn⟩ (by show ¬(n + 1) % 11 = 0; omega) h1
  rw [out_C] at h
  rw [show outsAt0 m c (n + 1) hn = _ from h]
  show k0_pay3 _ (k0_pay2 _ _ _ (outsAt0 m c n _).2 _) _ (ix2 a l) = _
  have e := fun k => step_apply m c ⟨n + 1, hn⟩ (outsAt0 m c n (Nat.lt_of_succ_lt hn)).2 a k
    ((ih1 k).trans (by rw [hr]; congr 1; show 512 * (n % 11) + 512 = 512 * ((n + 1) % 11); omega))
  rw [show 512 * ((⟨n + 1, hn⟩ : Fin cfg0.N).val % 11) + 512 = 5632 by show 512 * ((n + 1) % 11) + 512 = 5632; omega] at e
  rw [pay3_apply]
  simp only [e, upto_full, blk0, blk5]
  rfl

/-- The array after the run. -/
theorem final_eq : (dats m 0 c).arrAt 6 cfg0.N = (fun i => value m c (i 0) (i 1) : Vec Ideal S32768x2048 .f32) := by
  refine (dats m 0 c).arrAt_eq_of_cover 6 (fun i => value m c (i 0) (i 1) : Vec Ideal S32768x2048 .f32) (fun t hf => ?_) (fun i => (covered_iff6 i).2 ?_)
  · have hm : t.val % 11 = 10 := (flush0_6 t).mp hf
    obtain ⟨e0, e1, e2⟩ := idx_facts6 t
    show (cfg0.win 6).cut (grid0.coords t) ((dats m 0 c).after 6 t) = _
    rw [after0_6]
    obtain ⟨n, hn⟩ := t
    obtain ⟨n, rfl⟩ : ∃ k, n = k + 1 := ⟨n - 1, by have : n % 11 = 10 := hm; omega⟩
    funext y
    obtain ⟨a, l, rfl⟩ : ∃ (a : Fin 512) (l : Fin 2048), y = (ix2 a l : S512x2048.Idx) :=
      ⟨y 0, y 1, funext fun d => match d with | ⟨0, _⟩ => rfl | ⟨1, _⟩ => rfl⟩
    refine (written m c n hn hm a l).trans ?_
    show _ = value m c (((cfg0.win 6).blk ⟨n + 1, hn⟩).view.emb (ix2 a l : S512x2048.Idx) 0) (((cfg0.win 6).blk ⟨n + 1, hn⟩).view.emb (ix2 a l : S512x2048.Idx) 1)
    congr 1
    · apply Fin.ext
      show 512 * ((n + 1) / 11) + a.val = win0_6.index ⟨n + 1, hn⟩ (0 : Fin 2) * 512 + 1 * a.val
      dsimp only at e2
      omega
    · apply Fin.ext
      show l.val = win0_6.index ⟨n + 1, hn⟩ (1 : Fin 2) * 2048 + 1 * l.val
      omega
  · have h0 : (i 0).val < 32768 := (i 0).isLt
    have h1 : (i 1).val < 2048 := (i 1).isLt
    omega

end Cert.Mlp.Last
-- ==== Proof.LastRef.lean ====
module

public import proofs.«01_k».proof.Proof.Hidden
public import proofs.«01_k».proof.Proof.Gen.LastReferenceIdeal.Read

@[expose] public section

set_option maxRecDepth 16384

noncomputable section

/-! The last feed-forward's reference at an index. -/

namespace Cert.Mlp.LastRef

open Cert.LastReferenceIdeal Cert.LastReferenceIdeal.Gen Cert.LastReferenceIdeal.Read Idealize.ShloMosaic Idealize.ShloMosaic.TcCoe

variable (x0 : (⟨S32768x2048, .f32⟩ : BufTy).Contents (Elt Ideal)) (x1 : (⟨S32768x2048, .bf16⟩ : BufTy).Contents (Elt Ideal))
  (x2 : (⟨S2048x11264, .f32⟩ : BufTy).Contents (Elt Ideal)) (x3 : (⟨S5632x2048, .f32⟩ : BufTy).Contents (Elt Ideal))
  (x4 : (⟨S2048, .f32⟩ : BufTy).Contents (Elt Ideal))

/-- The first product. -/
theorem v1_at (r : Fin 32768) (h : Fin 11264) :
    val_main_v1 (F := Ideal) x1 x2 (ix2 r h) = ∑ k : Fin 2048, x1 (ix2 r k) * x2 (ix2 k h) := by
  rw [val_main_v1_apply]
  refine Finset.sum_congr rfl fun k _ => ?_
  have el : lidx_main_v1 (ix2 r h) k = ix2 r k := by funext a; fin_cases a <;> rfl
  have er : ridx_main_v1 (ix2 r h) k = ix2 k h := by funext a; fin_cases a <;> rfl
  rw [el, er, val_main_v0_apply]
  rfl

/-- The hidden values. -/
theorem v5_at (r : Fin 32768) (h : Fin 5632) :
    val_main_v5 (F := Ideal) x1 x2 (ix2 r h) = hidden (fun l => x1 (ix2 r l)) (fun k h => x2 (ix2 k h)) h := by
  have e1 : idx_main_v2 (ix2 r h) = ix2 r ⟨h.val, by omega⟩ := by funext a; fin_cases a <;> rfl
  have e2 : idx_main_v3 (ix2 r h) = ix2 r ⟨5632 + h.val, by omega⟩ := by
    funext a; apply Fin.ext
    match a with
    | ⟨0, _⟩ => rfl
    | ⟨1, _⟩ => first | rfl | (show h.val + 5632 = 5632 + h.val; omega)
  have o : (FloatOps.ofBits FTy.f32 0x3F800000#32 : Ideal .f32) = (1 : EReal) := one_bits
  rw [val_main_v5_apply, val_main_v4_apply, val_main_call0_v5_apply, val_main_call0_v4_apply, val_main_call0_cst_0_apply,
    val_main_call0_v3_apply, val_main_call0_v2_apply, val_main_call0_cst_apply, val_main_call0_v1_apply, val_main_call0_v0_apply,
    val_main_v2_apply, val_main_v3_apply, e1, e2, v1_at, v1_at, o]
  rfl

/-- A row before its normalisation: the row plus half its feed-forward. -/
def plain (r : Fin 32768) (l : Fin 2048) : EReal :=
  x0 (ix2 r l) + Ideal.ofBits .f32 0x3F000000#32 * ∑ h : Fin 5632, hidden (fun l => x1 (ix2 r l)) (fun k h => x2 (ix2 k h)) h * x3 (ix2 h l)

theorem v9_at (r : Fin 32768) (l : Fin 2048) : val_main_v9 (F := Ideal) x0 x1 x2 x3 (ix2 r l) = plain x0 x1 x2 x3 r l := by
  rw [val_main_v9_apply, val_main_v8_apply, val_main_v7_apply, val_main_cst_apply, val_main_v6_apply]
  have e : ∀ h, val_main_v5 (F := Ideal) x1 x2 (lidx_main_v6 (ix2 r l) h) * x3 (ridx_main_v6 (ix2 r l) h)
      = hidden (fun l => x1 (ix2 r l)) (fun k h => x2 (ix2 k h)) h * x3 (ix2 h l) := fun h => by
    have el : lidx_main_v6 (ix2 r l) h = ix2 r h := by funext a; fin_cases a <;> rfl
    have er : ridx_main_v6 (ix2 r l) h = ix2 h l := by funext a; fin_cases a <;> rfl
    rw [el, er, v5_at]
  rw [Finset.sum_congr rfl fun h _ => e h]
  rfl

/-- The result: the row normalised. -/
theorem v22_at (r : Fin 32768) (l : Fin 2048) :
    val_main_v22 (F := Ideal) x0 x1 x2 x3 x4 (ix2 r l) = rowNorm (plain x0 x1 x2 x3 r) (fun l => x4 (ix1 l)) l := by
  have e1 : ∀ k, idx_main_v11 (idx_main_v12 (idx_main_v18 (ix2 r l))) k = ix2 r k := fun k => by funext a; fin_cases a <;> rfl
  have e2 : idx_main_v20 (idx_main_v21 (ix2 r l)) = ix1 l := by funext a; fin_cases a; rfl
  have z : (FloatOps.ofBits FTy.f32 0x00000000#32 : Ideal .f32) = (0 : EReal) := Ideal.ofBits_zero _
  rw [val_main_v22_apply, val_main_v19_apply, val_main_v18_apply, val_main_v17_apply, val_main_v16_apply, val_main_v14_apply, val_main_v12_apply,
    val_main_v11_apply, val_main_cst_0_apply, val_main_v13_apply, val_main_cst_1_apply, val_main_v15_apply, val_main_cst_2_apply,
    val_main_v21_apply, val_main_v20_apply, e2, z]
  simp only [e1, val_main_v10_apply, v9_at]
  unfold rowNorm rowScale
  rw [← zero_add (∑ k : Fin 2048, plain x0 x1 x2 x3 r k * plain x0 x1 x2 x3 r k)]
  rfl

end Cert.Mlp.LastRef
-- ==== Proof.SampleTile.lean ====
module

public import proofs.«01_k».proof.Proof.LastTile
public import proofs.«01_k».proof.Proof.Gen.LastSampleIdeal.Value
public import Idealize.ShloMosaic.Lib.StableHlo.ReadAt
public import Idealize.ShloMosaic.Lib.Tactic.IndexArith

@[expose] public section

set_option maxRecDepth 16384

noncomputable section

/-! The last feed-forward kernel at the sample's shape: what each case of its body leaves behind at a grid point. -/

namespace Cert.Mlp.Sample

open Cert.LastSampleIdeal Cert.LastSampleIdeal.Gen Cert.LastSampleIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- At the first hidden block the running sum starts from zero. -/
theorem acc_A (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : cond0_0 i) (hc1 : ¬cond0_1 i)
    (x0 : Vec F S512x2048 .f32) (x1 : Vec F S512x2048 .bf16) (x2 : Vec F S2048x512 .bf16) (x3 : Vec F S2048x512 .bf16) (x4 : Vec F S512x2048 .bf16) (x5 : Vec F S1x2048 .f32) : sout0_A_0 c i arg2 harg2 arg3 harg3 arg4 harg4 arg5 harg5 arg6 harg6 arg7 harg7 arg8 harg8 arg9 harg9 hc0 hc1 x0 x1 x2 x3 x4 x5 = k0_pay2 x1 x2 x3 k0_pay1 x4 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x2048) Last.z2]
  simp (disch := decide) only [View.readAt_eq_ld, Memref.IsWhole.read_unread, View.ld_unit_zero (S := S512x2048) Last.z2, View.ld_unit_zero (S := S2048x512) Last.z2, View.ld_unit_zero (S := S1x2048) Last.z2, View.readCov_unit_zero (S := S512x2048) _ Last.z2]

/-- At a middle hidden block the running sum grows. -/
theorem acc_B (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i)
    (x0 : Vec F S512x2048 .f32) (x1 : Vec F S512x2048 .bf16) (x2 : Vec F S2048x512 .bf16) (x3 : Vec F S2048x512 .bf16) (x4 : Vec F S512x2048 .bf16) (x5 : Vec F S1x2048 .f32) (xs : Vec F S512x2048 .f32) : sout0_B_0 c i arg2 harg2 arg3 harg3 arg4 harg4 arg5 harg5 arg6 harg6 arg7 harg7 arg8 harg8 arg9 harg9 hc0 hc1 x0 x1 x2 x3 x4 x5 xs = k0_pay2 x1 x2 x3 xs x4 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs)]
  unfold kernelRun0_B
  dsimp only
  sl_unfold_words
  rw [View.canon_cons_unit_zero (S := S512x2048) Last.z2]
  simp (disch := decide) only [View.readAt_eq_ld, Memref.IsWhole.read_unread, View.ld_unit_zero (S := S512x2048) Last.z2, View.ld_unit_zero (S := S2048x512) Last.z2, View.ld_unit_zero (S := S1x2048) Last.z2, View.readCov_unit_zero (S := S512x2048) _ Last.z2]

/-- At the last hidden block the finished sum is added to the row and the row normalised. -/
theorem out_C (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : cond0_1 i)
    (x0 : Vec F S512x2048 .f32) (x1 : Vec F S512x2048 .bf16) (x2 : Vec F S2048x512 .bf16) (x3 : Vec F S2048x512 .bf16) (x4 : Vec F S512x2048 .bf16) (x5 : Vec F S1x2048 .f32) (xs : Vec F S512x2048 .f32) : out0_C_6 c i arg2 harg2 arg3 harg3 arg4 harg4 arg5 harg5 arg6 harg6 arg7 harg7 arg8 harg8 arg9 harg9 hc0 hc1 x0 x1 x2 x3 x4 x5 xs = k0_pay3 x0 (k0_pay2 x1 x2 x3 xs x4) x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs)]
  unfold kernelRun0_C
  dsimp only
  sl_unfold_words
  rw [View.canon_cons_unit_zero (S := S512x2048) Last.z2]
  simp (disch := decide) only [View.readAt_eq_ld, Memref.IsWhole.read_unread, View.ld_unit_zero (S := S512x2048) Last.z2, View.ld_unit_zero (S := S2048x512) Last.z2, View.ld_unit_zero (S := S1x2048) Last.z2, View.readCov_unit_zero (S := S512x2048) _ Last.z2]

/-! The stored vectors at an index: the body is that of the other shape. -/

theorem pay1_apply (a : Fin 512) (l : Fin 2048) : k0_pay1 (F := Ideal) (ix2 a l) = 0 :=
  Last.pay1_apply a l

theorem pay2_apply (y : Vec Ideal S512x2048 .bf16) (A B : Vec Ideal S2048x512 .bf16) (s : Vec Ideal S512x2048 .f32) (C : Vec Ideal S512x2048 .bf16)
    (a : Fin 512) (l : Fin 2048) : k0_pay2 y A B s C (ix2 a l)
      = s (ix2 a l) + ∑ r : Fin 512, gated (∑ k : Fin 2048, y (ix2 a k) * A (ix2 k r)) (∑ k : Fin 2048, y (ix2 a k) * B (ix2 k r)) * C (ix2 r l) :=
  Last.pay2_apply y A B s C a l

theorem pay3_apply (x s : Vec Ideal S512x2048 .f32) (g : Vec Ideal S1x2048 .f32) (a : Fin 512) (l : Fin 2048) :
    k0_pay3 x s g (ix2 a l) = rowNorm (fun k => x (ix2 a k) + Ideal.ofBits .f32 0x3F000000#32 * s (ix2 a k)) (fun k => g (ix2 0 k)) l :=
  Last.pay3_apply x s g a l

/-! The host's copies of the arguments, at an index. -/

variable (m : (ℓ : Loc nD τ sig) → Buf (Elt Ideal) ℓ) (c : Dev nD)

theorem V_v0 (k : Fin 2048) (h : Fin 11264) : V m c main_v0 (ix2 k h) = m (c, main_arg2) (ix2 k h) := by
  unfold V
  after_reads_at
theorem V_v1 (h : Fin 5632) (l : Fin 2048) : V m c main_v1 (ix2 h l) = m (c, main_arg3) (ix2 h l) := by
  unfold V
  after_reads_at
theorem V_v2 (l : Fin 2048) : V m c main_v2 (ix2 0 l) = m (c, main_arg4) (ix1 l) := by
  unfold V
  after_reads_at

end Cert.Mlp.Sample
-- ==== Proof.SampleWhole.lean ====
module

public import proofs.«01_k».proof.Proof.SampleTile

@[expose] public section

set_option maxRecDepth 16384

noncomputable section

/-! The last feed-forward kernel's whole result at the sample's shape, from its arguments. -/

namespace Cert.Mlp.Sample

open Cert.LastSampleIdeal Cert.LastSampleIdeal.Gen Cert.LastSampleIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! Which block of its array each window stages at a grid point. -/

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = t.val / 11 ∧ win0_1.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx2 : ∀ t : Fin cfg0.N, win0_2.index t (0 : Fin 2) = 0 ∧ win0_2.index t (1 : Fin 2) = t.val % 11 :=
  (by decide +kernel : ∀ t : Fin grid0.N, _)
theorem idx3 : ∀ t : Fin cfg0.N, win0_3.index t (0 : Fin 2) = 0 ∧ win0_3.index t (1 : Fin 2) = t.val % 11 + 11 :=
  (by decide +kernel : ∀ t : Fin grid0.N, _)
theorem idx4 : ∀ t : Fin cfg0.N, win0_4.index t (0 : Fin 2) = t.val % 11 ∧ win0_4.index t (1 : Fin 2) = 0 :=
  (by decide +kernel : ∀ t : Fin grid0.N, _)

/-- A grid point's row tile is one of 32. -/
theorem tile_lt (t : Fin cfg0.N) : t.val / 11 < 32 := by
  have h : t.val < 352 := lt_of_lt_of_eq t.isLt N_0
  omega

/-- The row of the array that row `a` of tile `q` is. -/
def rowOf (q : ℕ) (hq : q < 32) (a : Fin 512) : Fin 16384 := ⟨512 * q + a.val, by omega⟩

variable (m : (ℓ : Loc nD τ sig) → Buf (Elt Ideal) ℓ) (c : Dev nD)

/-! The arguments as plain functions. -/

def xs (r : Fin 16384) (k : Fin 2048) : EReal := m (c, main_arg0) (ix2 r k)
def ys (r : Fin 16384) (k : Fin 2048) : EReal := m (c, main_arg1) (ix2 r k)
def gs (k : Fin 2048) : EReal := m (c, main_arg4) (ix1 k)
def ws (k : Fin 2048) (h : Fin 11264) : EReal := m (c, main_arg2) (ix2 k h)
def us (h : Fin 5632) (l : Fin 2048) : EReal := m (c, main_arg3) (ix2 h l)

/-! The staged blocks at an index. -/

theorem blk0 (t : Fin cfg0.N) (a : Fin 512) (k : Fin 2048) :
    (iblk m c 0 t : Vec Ideal S512x2048 .f32) (ix2 a k) = xs m c (rowOf (t.val / 11) (tile_lt t) a) k := by
  obtain ⟨e0, e1⟩ := idx0 t
  show V m c main_arg0 (((cfg0.win 0).blk t).view.emb (ix2 a k : S512x2048.Idx)) = _
  rw [V_main_arg0]
  show m (c, main_arg0) _ = m (c, main_arg0) _
  congr 1
  funext d; apply Fin.ext
  match d with
  | ⟨0, _⟩ => show win0_0.index t (0 : Fin 2) * 512 + 1 * a.val = 512 * (t.val / 11) + a.val; omega
  | ⟨1, _⟩ => show win0_0.index t (1 : Fin 2) * 2048 + 1 * k.val = k.val; omega

theorem blk1 (t : Fin cfg0.N) (a : Fin 512) (k : Fin 2048) :
    (iblk m c 1 t : Vec Ideal S512x2048 .bf16) (ix2 a k) = ys m c (rowOf (t.val / 11) (tile_lt t) a) k := by
  obtain ⟨e0, e1⟩ := idx1 t
  show V m c main_arg1 (((cfg0.win 1).blk t).view.emb (ix2 a k : S512x2048.Idx)) = _
  rw [V_main_arg1]
  show m (c, main_arg1) _ = m (c, main_arg1) _
  congr 1
  funext d; apply Fin.ext
  match d with
  | ⟨0, _⟩ => show win0_1.index t (0 : Fin 2) * 512 + 1 * a.val = 512 * (t.val / 11) + a.val; omega
  | ⟨1, _⟩ => show win0_1.index t (1 : Fin 2) * 2048 + 1 * k.val = k.val; omega

theorem blk5 (t : Fin cfg0.N) (k : Fin 2048) : (iblk m c 5 t : Vec Ideal S1x2048 .f32) (ix2 0 k) = gs m c k := by
  obtain ⟨e0, e1⟩ := idx5 t
  have e : ((cfg0.win 5).blk t).view.emb (ix2 0 k : S1x2048.Idx) = (ix2 0 k : S1x2048.Idx) := by
    funext d; apply Fin.ext
    match d with
    | ⟨0, _⟩ => show win0_5.index t (0 : Fin 2) * 1 + 1 * 0 = 0; omega
    | ⟨1, _⟩ => show win0_5.index t (1 : Fin 2) * 2048 + 1 * k.val = k.val; omega
  show V m c main_v2 (((cfg0.win 5).blk t).view.emb (ix2 0 k : S1x2048.Idx)) = _
  rw [e, V_v2]
  rfl

theorem blk2 (t : Fin cfg0.N) (k : Fin 2048) (r : Fin 512) :
    (iblk m c 2 t : Vec Ideal S2048x512 .bf16) (ix2 k r) = ws m c k ⟨512 * (t.val % 11) + r.val, by omega⟩ := by
  obtain ⟨e0, e1⟩ := idx2 t
  have e : ((cfg0.win 2).blk t).view.emb (ix2 k r : S2048x512.Idx) = (ix2 k ⟨512 * (t.val % 11) + r.val, by omega⟩ : S2048x11264.Idx) := by
    funext d; apply Fin.ext
    match d with
    | ⟨0, _⟩ => show win0_2.index t (0 : Fin 2) * 2048 + 1 * k.val = k.val; omega
    | ⟨1, _⟩ => show win0_2.index t (1 : Fin 2) * 512 + 1 * r.val = 512 * (t.val % 11) + r.val; omega
  show V m c main_v0 (((cfg0.win 2).blk t).view.emb (ix2 k r : S2048x512.Idx)) = _
  rw [e, V_v0]
  rfl

theorem blk3 (t : Fin cfg0.N) (k : Fin 2048) (r : Fin 512) :
    (iblk m c 3 t : Vec Ideal S2048x512 .bf16) (ix2 k r) = ws m c k ⟨5632 + (512 * (t.val % 11) + r.val), by omega⟩ := by
  obtain ⟨e0, e1⟩ := idx3 t
  have e : ((cfg0.win 3).blk t).view.emb (ix2 k r : S2048x512.Idx) = (ix2 k ⟨5632 + (512 * (t.val % 11) + r.val), by omega⟩ : S2048x11264.Idx) := by
    funext d; apply Fin.ext
    match d with
    | ⟨0, _⟩ => show win0_3.index t (0 : Fin 2) * 2048 + 1 * k.val = k.val; omega
    | ⟨1, _⟩ => show win0_3.index t (1 : Fin 2) * 512 + 1 * r.val = 5632 + (512 * (t.val % 11) + r.val); omega
  show V m c main_v0 (((cfg0.win 3).blk t).view.emb (ix2 k r : S2048x512.Idx)) = _
  rw [e, V_v0]
  rfl

theorem blk4 (t : Fin cfg0.N) (r : Fin 512) (l : Fin 2048) :
    (iblk m c 4 t : Vec Ideal S512x2048 .bf16) (ix2 r l) = us m c ⟨512 * (t.val % 11) + r.val, by omega⟩ l := by
  obtain ⟨e0, e1⟩ := idx4 t
  have e : ((cfg0.win 4).blk t).view.emb (ix2 r l : S512x2048.Idx) = (ix2 ⟨512 * (t.val % 11) + r.val, by omega⟩ l : S5632x2048.Idx) := by
    funext d; apply Fin.ext
    match d with
    | ⟨0, _⟩ => show win0_4.index t (0 : Fin 2) * 512 + 1 * r.val = 512 * (t.val % 11) + r.val; omega
    | ⟨1, _⟩ => show win0_4.index t (1 : Fin 2) * 2048 + 1 * l.val = l.val; omega
  show V m c main_v1 (((cfg0.win 4).blk t).view.emb (ix2 r l : S512x2048.Idx)) = _
  rw [e, V_v1]
  rfl

/-- A point's addition to the running sum is its hidden block's shares. -/
theorem step_apply (t : Fin cfg0.N) (s : Vec Ideal S512x2048 .f32) (a : Fin 512) (l : Fin 2048)
    (hs : s (ix2 a l) = upto (ys m c (rowOf (t.val / 11) (tile_lt t) a)) (ws m c) (us m c) l (512 * (t.val % 11))) :
    k0_pay2 (iblk m c 1 t) (iblk m c 2 t) (iblk m c 3 t) s (iblk m c 4 t) (ix2 a l)
      = upto (ys m c (rowOf (t.val / 11) (tile_lt t) a)) (ws m c) (us m c) l (512 * (t.val % 11) + 512) := by
  rw [pay2_apply, hs, upto_add]
  congr 1
  simp only [blk1]
  exact block_share _ (ws m c) (us m c) l (512 * (t.val % 11)) (by omega) (fun k r => (iblk m c 2 t : Vec Ideal S2048x512 .bf16) (ix2 k r))
    (fun k r => (iblk m c 3 t : Vec Ideal S2048x512 .bf16) (ix2 k r)) (fun r k => (iblk m c 4 t : Vec Ideal S512x2048 .bf16) (ix2 r k))
    (blk2 m c t) (blk3 m c t) (blk4 m c t)

/-- After point `n` the scratch holds the shares of the hidden blocks so far. -/
theorem carried (n : ℕ) (hn : n < cfg0.N) (hne : n % 11 ≠ 10) (a : Fin 512) (l : Fin 2048) :
    (outsAt0 m c n hn).2 (ix2 a l)
      = upto (ys m c (rowOf (n / 11) (tile_lt ⟨n, hn⟩) a)) (ws m c) (us m c) l (512 * (n % 11) + 512) := by
  induction n with
  | zero =>
    have h := outsAt0_A m c ⟨0, hn⟩ (Nat.zero_mod _) (by show ¬0 % 11 = 10; omega)
    rw [acc_A] at h
    rw [show outsAt0 m c 0 hn = _ from h]
    refine step_apply m c ⟨0, hn⟩ _ a l ?_
    rw [pay1_apply]
    exact (upto_zero _ _ _ _).symm
  | succ n ih =>
    by_cases h0 : (n + 1) % 11 = 0
    · have h := outsAt0_A m c ⟨n + 1, hn⟩ h0 (by show ¬(n + 1) % 11 = 10; omega)
      rw [acc_A] at h
      rw [show outsAt0 m c (n + 1) hn = _ from h]
      refine step_apply m c ⟨n + 1, hn⟩ _ a l ?_
      rw [pay1_apply]
      show _ = upto _ _ _ _ (512 * ((n + 1) % 11))
      rw [h0]
      exact (upto_zero _ _ _ _).symm
    · have ih1 := ih (Nat.lt_of_succ_lt hn) (by omega)
      have eq : (n + 1) / 11 = n / 11 := by omega
      have em : (n + 1) % 11 = n % 11 + 1 := by omega
      have hr : rowOf ((n + 1) / 11) (tile_lt ⟨n + 1, hn⟩) a = rowOf (n / 11) (tile_lt ⟨n, Nat.lt_of_succ_lt hn⟩) a :=
        Fin.ext (by show 512 * ((n + 1) / 11) + a.val = 512 * (n / 11) + a.val; rw [eq])
      have h := outsAt0_B m c ⟨n + 1, hn⟩ h0 hne
      rw [acc_B] at h
      rw [show outsAt0 m c (n + 1) hn = _ from h]
      refine step_apply m c ⟨n + 1, hn⟩ _ a l (ih1.trans ?_)
      show upto (ys m c (rowOf (n / 11) _ a)) _ _ l (512 * (n % 11) + 512) = upto (ys m c (rowOf ((n + 1) / 11) _ a)) _ _ l (512 * ((n + 1) % 11))
      rw [hr, em]
      rfl

/-- A row before its normalisation: the row plus half its feed-forward. -/
def plain (r : Fin 16384) (l : Fin 2048) : EReal :=
  xs m c r l + Ideal.ofBits .f32 0x3F000000#32 * ∑ h : Fin 5632, hidden (ys m c r) (ws m c) h * us m c h l

/-- A row's result. -/
def value (r : Fin 16384) (l : Fin 2048) : EReal := rowNorm (plain m c r) (gs m c) l

/-- What the last point of a tile leaves in the output's block. -/
theorem written (n : ℕ) (hn : n + 1 < cfg0.N) (h1 : (n + 1) % 11 = 10) (a : Fin 512) (l : Fin 2048) :
    (outsAt0 m c (n + 1) hn).1 (ix2 a l) = value m c (rowOf ((n + 1) / 11) (tile_lt ⟨n + 1, hn⟩) a) l := by
  have ih1 := carried m c n (Nat.lt_of_succ_lt hn) (by omega) a
  have eq : (n + 1) / 11 = n / 11 := by omega
  have hr : rowOf (n / 11) (tile_lt ⟨n, Nat.lt_of_succ_lt hn⟩) a = rowOf ((n + 1) / 11) (tile_lt ⟨n + 1, hn⟩) a :=
    Fin.ext (by show 512 * (n / 11) + a.val = 512 * ((n + 1) / 11) + a.val; rw [eq])
  have h := outsAt0_C m c ⟨n + 1, hn⟩ (by show ¬(n + 1) % 11 = 0; omega) h1
  rw [out_C] at h
  rw [show outsAt0 m c (n + 1) hn = _ from h]
  show k0_pay3 _ (k0_pay2 _ _ _ (outsAt0 m c n _).2 _) _ (ix2 a l) = _
  have e := fun k => step_apply m c ⟨n + 1, hn⟩ (outsAt0 m c n (Nat.lt_of_succ_lt hn)).2 a k
    ((ih1 k).trans (by rw [hr]; congr 1; show 512 * (n % 11) + 512 = 512 * ((n + 1) % 11); omega))
  rw [show 512 * ((⟨n + 1, hn⟩ : Fin cfg0.N).val % 11) + 512 = 5632 by show 512 * ((n + 1) % 11) + 512 = 5632; omega] at e
  rw [pay3_apply]
  simp only [e, upto_full, blk0, blk5]
  rfl

/-- The array after the run. -/
theorem final_eq : (dats m 0 c).arrAt 6 cfg0.N = (fun i => value m c (i 0) (i 1) : Vec Ideal S16384x2048 .f32) := by
  refine (dats m 0 c).arrAt_eq_of_cover 6 (fun i => value m c (i 0) (i 1) : Vec Ideal S16384x2048 .f32) (fun t hf => ?_) (fun i => (covered_iff6 i).2 ?_)
  · have hm : t.val % 11 = 10 := (flush0_6 t).mp hf
    obtain ⟨e0, e1, e2⟩ := idx_facts6 t
    show (cfg0.win 6).cut (grid0.coords t) ((dats m 0 c).after 6 t) = _
    rw [after0_6]
    obtain ⟨n, hn⟩ := t
    obtain ⟨n, rfl⟩ : ∃ k, n = k + 1 := ⟨n - 1, by have : n % 11 = 10 := hm; omega⟩
    funext y
    obtain ⟨a, l, rfl⟩ : ∃ (a : Fin 512) (l : Fin 2048), y = (ix2 a l : S512x2048.Idx) :=
      ⟨y 0, y 1, funext fun d => match d with | ⟨0, _⟩ => rfl | ⟨1, _⟩ => rfl⟩
    refine (written m c n hn hm a l).trans ?_
    show _ = value m c (((cfg0.win 6).blk ⟨n + 1, hn⟩).view.emb (ix2 a l : S512x2048.Idx) 0) (((cfg0.win 6).blk ⟨n + 1, hn⟩).view.emb (ix2 a l : S512x2048.Idx) 1)
    congr 1
    · apply Fin.ext
      show 512 * ((n + 1) / 11) + a.val = win0_6.index ⟨n + 1, hn⟩ (0 : Fin 2) * 512 + 1 * a.val
      dsimp only at e2
      omega
    · apply Fin.ext
      show l.val = win0_6.index ⟨n + 1, hn⟩ (1 : Fin 2) * 2048 + 1 * l.val
      omega
  · have h0 : (i 0).val < 16384 := (i 0).isLt
    have h1 : (i 1).val < 2048 := (i 1).isLt
    omega

end Cert.Mlp.Sample
-- ==== Proof.SampleRef.lean ====
module

public import proofs.«01_k».proof.Proof.Hidden
public import proofs.«01_k».proof.Proof.Gen.LastSampleReferenceIdeal.Read

@[expose] public section

set_option maxRecDepth 16384

noncomputable section

/-! The last feed-forward's reference at the sample's shape, at an index. -/

namespace Cert.Mlp.SampleRef

open Cert.LastSampleReferenceIdeal Cert.LastSampleReferenceIdeal.Gen Cert.LastSampleReferenceIdeal.Read Idealize.ShloMosaic Idealize.ShloMosaic.TcCoe

variable (x0 : (⟨S16384x2048, .f32⟩ : BufTy).Contents (Elt Ideal)) (x1 : (⟨S16384x2048, .bf16⟩ : BufTy).Contents (Elt Ideal))
  (x2 : (⟨S2048x11264, .f32⟩ : BufTy).Contents (Elt Ideal)) (x3 : (⟨S5632x2048, .f32⟩ : BufTy).Contents (Elt Ideal))
  (x4 : (⟨S2048, .f32⟩ : BufTy).Contents (Elt Ideal))

/-- The first product. -/
theorem v1_at (r : Fin 16384) (h : Fin 11264) :
    val_main_v1 (F := Ideal) x1 x2 (ix2 r h) = ∑ k : Fin 2048, x1 (ix2 r k) * x2 (ix2 k h) := by
  rw [val_main_v1_apply]
  refine Finset.sum_congr rfl fun k _ => ?_
  have el : lidx_main_v1 (ix2 r h) k = ix2 r k := by funext a; fin_cases a <;> rfl
  have er : ridx_main_v1 (ix2 r h) k = ix2 k h := by funext a; fin_cases a <;> rfl
  rw [el, er, val_main_v0_apply]
  rfl

/-- The hidden values. -/
theorem v5_at (r : Fin 16384) (h : Fin 5632) :
    val_main_v5 (F := Ideal) x1 x2 (ix2 r h) = hidden (fun l => x1 (ix2 r l)) (fun k h => x2 (ix2 k h)) h := by
  have e1 : idx_main_v2 (ix2 r h) = ix2 r ⟨h.val, by omega⟩ := by funext a; fin_cases a <;> rfl
  have e2 : idx_main_v3 (ix2 r h) = ix2 r ⟨5632 + h.val, by omega⟩ := by
    funext a; apply Fin.ext
    match a with
    | ⟨0, _⟩ => rfl
    | ⟨1, _⟩ => first | rfl | (show h.val + 5632 = 5632 + h.val; omega)
  have o : (FloatOps.ofBits FTy.f32 0x3F800000#32 : Ideal .f32) = (1 : EReal) := one_bits
  rw [val_main_v5_apply, val_main_v4_apply, val_main_call0_v5_apply, val_main_call0_v4_apply, val_main_call0_cst_0_apply,
    val_main_call0_v3_apply, val_main_call0_v2_apply, val_main_call0_cst_apply, val_main_call0_v1_apply, val_main_call0_v0_apply,
    val_main_v2_apply, val_main_v3_apply, e1, e2, v1_at, v1_at, o]
  rfl

/-- A row before its normalisation: the row plus half its feed-forward. -/
def plain (r : Fin 16384) (l : Fin 2048) : EReal :=
  x0 (ix2 r l) + Ideal.ofBits .f32 0x3F000000#32 * ∑ h : Fin 5632, hidden (fun l => x1 (ix2 r l)) (fun k h => x2 (ix2 k h)) h * x3 (ix2 h l)

theorem v9_at (r : Fin 16384) (l : Fin 2048) : val_main_v9 (F := Ideal) x0 x1 x2 x3 (ix2 r l) = plain x0 x1 x2 x3 r l := by
  rw [val_main_v9_apply, val_main_v8_apply, val_main_v7_apply, val_main_cst_apply, val_main_v6_apply]
  have e : ∀ h, val_main_v5 (F := Ideal) x1 x2 (lidx_main_v6 (ix2 r l) h) * x3 (ridx_main_v6 (ix2 r l) h)
      = hidden (fun l => x1 (ix2 r l)) (fun k h => x2 (ix2 k h)) h * x3 (ix2 h l) := fun h => by
    have el : lidx_main_v6 (ix2 r l) h = ix2 r h := by funext a; fin_cases a <;> rfl
    have er : ridx_main_v6 (ix2 r l) h = ix2 h l := by funext a; fin_cases a <;> rfl
    rw [el, er, v5_at]
  rw [Finset.sum_congr rfl fun h _ => e h]
  rfl

/-- The result: the row normalised. -/
theorem v22_at (r : Fin 16384) (l : Fin 2048) :
    val_main_v22 (F := Ideal) x0 x1 x2 x3 x4 (ix2 r l) = rowNorm (plain x0 x1 x2 x3 r) (fun l => x4 (ix1 l)) l := by
  have e1 : ∀ k, idx_main_v11 (idx_main_v12 (idx_main_v18 (ix2 r l))) k = ix2 r k := fun k => by funext a; fin_cases a <;> rfl
  have e2 : idx_main_v20 (idx_main_v21 (ix2 r l)) = ix1 l := by funext a; fin_cases a; rfl
  have z : (FloatOps.ofBits FTy.f32 0x00000000#32 : Ideal .f32) = (0 : EReal) := Ideal.ofBits_zero _
  rw [val_main_v22_apply, val_main_v19_apply, val_main_v18_apply, val_main_v17_apply, val_main_v16_apply, val_main_v14_apply, val_main_v12_apply,
    val_main_v11_apply, val_main_cst_0_apply, val_main_v13_apply, val_main_cst_1_apply, val_main_v15_apply, val_main_cst_2_apply,
    val_main_v21_apply, val_main_v20_apply, e2, z]
  simp only [e1, val_main_v10_apply, v9_at]
  unfold rowNorm rowScale
  rw [← zero_add (∑ k : Fin 2048, plain x0 x1 x2 x3 r k * plain x0 x1 x2 x3 r k)]
  rfl

end Cert.Mlp.SampleRef
-- ==== Proof.InRef.lean ====
module

public import proofs.«01_k».proof.Proof.Hidden
public import proofs.«01_k».proof.Proof.Gen.InProjReferenceIdeal.Read
public import Idealize.ShloMosaic.Lib.Pipeline.Value

@[expose] public section

set_option maxRecDepth 16384

noncomputable section

/-! The input projection: what a normalised row is multiplied into, and the reference at an index. -/

namespace Cert.Mlp

open Idealize.ShloMosaic

/-- One column of a row's product with the input weight. -/
def column (y : Fin 2048 → EReal) (W : Fin 2048 → Fin 5120 → EReal) (j : Fin 5120) : EReal := ∑ k : Fin 2048, y k * W k j

/-- The convolution's input: a column times the logistic of its gate. -/
def opened (y : Fin 2048 → EReal) (W : Fin 2048 → Fin 5120 → EReal) (l : Fin 1024) : EReal :=
  column y W ⟨l.val, by omega⟩ * Ideal.logistic (column y W ⟨1024 + l.val, by omega⟩)

/-- The attention's inputs: the queries scaled, then the keys and the values. -/
def heads (y : Fin 2048 → EReal) (W : Fin 2048 → Fin 5120 → EReal) (j : Fin 3072) : EReal :=
  if j.val < 1024 then column y W ⟨2048 + j.val, by omega⟩ * (((8 * (Real.log 2))⁻¹ : ℝ) : EReal) else column y W ⟨2048 + j.val, by omega⟩

/-- Dividing an eighth of a number by the logarithm of two scales it by the inverse of eight such logarithms. -/
theorem scaled (x : EReal) :
    Ideal.div (x * Ideal.ofBits .f32 0x3E000000#32) (Ideal.log (Ideal.ofBits .f32 0x40000000#32)) = x * (((8 * (Real.log 2))⁻¹ : ℝ) : EReal) := by
  have e8 : Ideal.ofBits FTy.f32 0x3E000000#32 = ((8⁻¹ : ℝ) : EReal) := by
    simp [Ideal.ofBits, Ideal.ieee]
    rw [← EReal.coe_mul]
    norm_num
  have e2 : Ideal.ofBits FTy.f32 0x40000000#32 = ((2 : ℝ) : EReal) := by
    simp [Ideal.ofBits, Ideal.ieee]
    rw [← EReal.coe_mul]
    norm_num
  have hl : Real.log 2 ≠ 0 := ne_of_gt (Real.log_pos (by norm_num))
  have el : Ideal.log ((2 : ℝ) : EReal) = ((Real.log 2 : ℝ) : EReal) := by
    show (if (2 : ℝ) ≤ 0 then ⊥ else ((Real.log 2 : ℝ) : EReal)) = _
    rw [if_neg (by norm_num)]
  rw [e8, e2, el, Ideal.div_coe hl, mul_assoc, ← EReal.coe_mul]
  congr 2
  rw [mul_inv, one_div]

end Cert.Mlp

namespace Cert.Mlp.InRef

open Cert.InProjReferenceIdeal Cert.InProjReferenceIdeal.Gen Cert.InProjReferenceIdeal.Read Idealize.ShloMosaic Idealize.ShloMosaic.TcCoe

variable (x0 : (⟨S32768x2048, .f32⟩ : BufTy).Contents (Elt Ideal)) (x1 : (⟨S2048, .f32⟩ : BufTy).Contents (Elt Ideal))
  (x2 : (⟨S2048x5120, .f32⟩ : BufTy).Contents (Elt Ideal))

/-- The normalised row. -/
theorem v12_at (r : Fin 32768) (k : Fin 2048) :
    val_main_v12 (F := Ideal) x0 x1 (ix2 r k) = rowNorm (fun l => x0 (ix2 r l)) (fun l => x1 (ix1 l)) k := by
  have e1 : ∀ l, idx_main_v1 (idx_main_v2 (idx_main_v8 (ix2 r k))) l = ix2 r l := fun l => by funext a; fin_cases a <;> rfl
  have e2 : idx_main_v10 (idx_main_v11 (ix2 r k)) = ix1 k := by funext a; fin_cases a; rfl
  have z : (FloatOps.ofBits FTy.f32 0x00000000#32 : Ideal .f32) = (0 : EReal) := Ideal.ofBits_zero _
  rw [val_main_v12_apply, val_main_v9_apply, val_main_v8_apply, val_main_v7_apply, val_main_v6_apply, val_main_v4_apply, val_main_v2_apply,
    val_main_v1_apply, val_main_cst_apply, val_main_v3_apply, val_main_cst_0_apply, val_main_v5_apply, val_main_cst_1_apply,
    val_main_v11_apply, val_main_v10_apply, e2, z]
  simp only [e1, val_main_v0_apply]
  unfold rowNorm rowScale
  rw [← zero_add (∑ l : Fin 2048, x0 (ix2 r l) * x0 (ix2 r l))]
  rfl

/-- The whole product. -/
theorem v13_at (r : Fin 32768) (j : Fin 5120) :
    val_main_v13 (F := Ideal) x0 x1 x2 (ix2 r j) = column (rowNorm (fun l => x0 (ix2 r l)) (fun l => x1 (ix1 l))) (fun k j => x2 (ix2 k j)) j := by
  rw [val_main_v13_apply]
  refine Finset.sum_congr rfl fun k _ => ?_
  have el : lidx_main_v13 (ix2 r j) k = ix2 r k := by funext a; fin_cases a <;> rfl
  have er : ridx_main_v13 (ix2 r j) k = ix2 k j := by funext a; fin_cases a <;> rfl
  rw [el, er, v12_at]

/-- The gated half. -/
theorem v25_at (r : Fin 32768) (l : Fin 1024) :
    val_main_v25 (F := Ideal) x0 x1 x2 (ix2 r l) = opened (rowNorm (fun l => x0 (ix2 r l)) (fun l => x1 (ix1 l))) (fun k j => x2 (ix2 k j)) l := by
  have e1 : idx_main_v14 (ix2 r l) = ix2 r ⟨l.val, by omega⟩ := by funext a; fin_cases a <;> rfl
  have e2 : idx_main_v15 (ix2 r l) = ix2 r ⟨1024 + l.val, by omega⟩ := by funext a; fin_cases a <;> rfl
  have o : (FloatOps.ofBits FTy.f32 0x3F800000#32 : Ideal .f32) = (1 : EReal) := one_bits
  rw [val_main_v25_apply, val_main_v24_apply, val_main_v23_apply, val_main_cst_3_apply, val_main_v22_apply, val_main_v21_apply, val_main_cst_2_apply,
    val_main_v20_apply, val_main_v19_apply, val_main_v14_apply, val_main_v15_apply, e1, e2, v13_at, v13_at, o]
  rfl

/-- The scaled queries. -/
theorem v31_at (r : Fin 32768) (l : Fin 1024) :
    val_main_v31 (F := Ideal) x0 x1 x2 (ix2 r l)
      = column (rowNorm (fun l => x0 (ix2 r l)) (fun l => x1 (ix1 l))) (fun k j => x2 (ix2 k j)) ⟨2048 + l.val, by omega⟩ * (((8 * (Real.log 2))⁻¹ : ℝ) : EReal) := by
  have e1 : idx_main_v16 (ix2 r l) = ix2 r ⟨2048 + l.val, by omega⟩ := by funext a; fin_cases a <;> rfl
  rw [val_main_v31_apply, val_main_v27_apply, val_main_v26_apply, val_main_cst_4_apply, val_main_v30_apply, val_main_v29_apply, val_main_v28_apply,
    val_main_cst_5_apply, val_main_v16_apply, e1, v13_at]
  exact scaled _

/-- The queries, keys and values side by side. -/
theorem v33_at (r : Fin 32768) (j : Fin 3072) :
    val_main_v33 (F := Ideal) x0 x1 x2 (ix2 r j) = heads (rowNorm (fun l => x0 (ix2 r l)) (fun l => x1 (ix1 l))) (fun k j => x2 (ix2 k j)) j := by
  rw [val_main_v33_apply]
  show val_main_v32 (F := Ideal) x0 x1 x2 (ix2 r j) = _
  unfold val_main_v32 heads
  split
  · rename_i h
    refine (concatenate_apply_piece (t := S32768x3072) 1 _ _ (ix2 r j) 0 (by simp) S32768x1024 (val_main_v31 (F := Ideal) x0 x1 x2) rfl rfl 0 rfl
      (ix2 r ⟨j.val, h⟩) (fun b => match b with | ⟨0, _⟩ => fun _ => rfl | ⟨1, _⟩ => fun h => absurd rfl h) (by show 0 + j.val = j.val; omega)).trans ?_
    exact v31_at x0 x1 x2 r ⟨j.val, h⟩
  · rename_i h
    by_cases h' : j.val < 2048
    · refine (concatenate_apply_piece (t := S32768x3072) 1 _ _ (ix2 r j) 1 (by simp) S32768x1024 (val_main_v17 (F := Ideal) x0 x1 x2) rfl rfl 1024 rfl
        (ix2 r ⟨j.val - 1024, by omega⟩) (fun b => match b with | ⟨0, _⟩ => fun _ => rfl | ⟨1, _⟩ => fun h => absurd rfl h)
        (by show 1024 + (j.val - 1024) = j.val; omega)).trans ?_
      have e1 : idx_main_v17 (ix2 r ⟨j.val - 1024, by omega⟩) = ix2 r ⟨2048 + j.val, by omega⟩ := by
        funext a; apply Fin.ext
        match a with
        | ⟨0, _⟩ => rfl
        | ⟨1, _⟩ => show 3072 + (j.val - 1024) = 2048 + j.val; omega
      rw [val_main_v17_apply, e1, v13_at]
    · refine (concatenate_apply_piece (t := S32768x3072) 1 _ _ (ix2 r j) 2 (by simp) S32768x1024 (val_main_v18 (F := Ideal) x0 x1 x2) rfl rfl 2048 rfl
        (ix2 r ⟨j.val - 2048, by omega⟩) (fun b => match b with | ⟨0, _⟩ => fun _ => rfl | ⟨1, _⟩ => fun h => absurd rfl h)
        (by show 2048 + (j.val - 2048) = j.val; omega)).trans ?_
      have e1 : idx_main_v18 (ix2 r ⟨j.val - 2048, by omega⟩) = ix2 r ⟨2048 + j.val, by omega⟩ := by
        funext a; apply Fin.ext
        match a with
        | ⟨0, _⟩ => rfl
        | ⟨1, _⟩ => show 4096 + (j.val - 2048) = 2048 + j.val; omega
      rw [val_main_v18_apply, e1, v13_at]

end Cert.Mlp.InRef
-- ==== Proof.InTile.lean ====
module

public import proofs.«01_k».proof.Proof.InRef
public import proofs.«01_k».proof.Proof.Gen.InProjIdeal.Value
public import Idealize.ShloMosaic.Lib.StableHlo.ReadAt
public import Idealize.ShloMosaic.Lib.Tactic.IndexArith

@[expose] public section

set_option maxRecDepth 16384

noncomputable section

/-! The input projection kernel's two results, from its arguments. -/

namespace Cert.Mlp.In

open Cert.InProjIdeal Cert.InProjIdeal.Gen Cert.InProjIdeal.Value
open Idealize.ShloMosaic Idealize.ShloMosaic.TcCoe Idealize.ShloMosaic.Tactic
open Idealize.ShloMosaic.Pipeline (Dat Cfg Window BodyObligation cellOf)

theorem z2 : (![0, 0] : Fin 2 → Nat) = fun _ => 0 := funext fun a => by fin_cases a <;> rfl

/-- The kernel's named constant is the inverse of eight times the logarithm of two. -/
theorem q_scale_value : (Named.named (F := Ideal) (φ := .f32) Cert.InProjIdeal.κ "q_scale" 0x3E38AA3B#32 : Ideal .f32) = (((8 * (Real.log 2))⁻¹ : ℝ) : EReal) :=
  IdealRules.named_const.ideal_named_scalar _ _ _ _ rfl

/-! The stored vectors at an index. -/

theorem pay3_apply (x : Vec Ideal S512x2048 .f32) (g : Vec Ideal S1x2048 .f32) (a : Fin 512) (k : Fin 2048) :
    k0_pay3 x g (ix2 a k) = rowNorm (fun l => x (ix2 a l)) (fun l => g (ix2 0 l)) k := by
  pointwise [k0_pay3, rowNorm, rowScale]

theorem pay1_apply (y : Vec Ideal S512x2048 .bf16) (W : Vec Ideal S2048x1024 .bf16) (a : Fin 512) (l : Fin 1024) :
    k0_pay1 (F := Ideal) y W (ix2 a l) = ∑ k : Fin 2048, y (ix2 a k) * W (ix2 k l) := by
  pointwise [k0_pay1]

theorem pay2_apply (y : Vec Ideal S512x2048 .bf16) (W : Vec Ideal S2048x1024 .bf16) (a : Fin 512) (l : Fin 1024) :
    k0_pay2 (F := Ideal) y W (ix2 a l) = ∑ k : Fin 2048, y (ix2 a k) * W (ix2 k l) := by
  pointwise [k0_pay2]

theorem pay6_eq (W : Vec Ideal S2048x1024 .bf16) (k : Fin 2048) (l : Fin 1024) : k0_pay6 (F := Ideal) W (ix2 k l) = W (ix2 k l) := by
  pointwise [k0_pay6]

theorem pay4_apply (x : Vec Ideal S512x2048 .f32) (g : Vec Ideal S1x2048 .f32) (A B : Vec Ideal S2048x1024 .bf16) (a : Fin 512) (l : Fin 1024) :
    k0_pay4 x g A B (ix2 a l) = (∑ k : Fin 2048, k0_pay3 x g (ix2 a k) * A (ix2 k l)) * Ideal.logistic (∑ k : Fin 2048, k0_pay3 x g (ix2 a k) * B (ix2 k l)) := by
  pointwise [k0_pay4]

theorem pay5_apply (x : Vec Ideal S512x2048 .f32) (g : Vec Ideal S1x2048 .f32) (W : Vec Ideal S2048x1024 .bf16) (a : Fin 512) (l : Fin 1024) :
    k0_pay5 x g W (ix2 a l) = (∑ k : Fin 2048, k0_pay3 x g (ix2 a k) * W (ix2 k l)) * (((8 * (Real.log 2))⁻¹ : ℝ) : EReal) := by
  rw [← q_scale_value]
  pointwise [k0_pay5]

/-! Which block of its array each window stages at a grid point. -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 1 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

theorem tile_lt (t : Fin cfg0.N) : t.val < 64 := lt_of_lt_of_eq t.isLt N_0

/-- The row of the array that row `a` of tile `t` is. -/
def rowOf (t : Fin cfg0.N) (a : Fin 512) : Fin 32768 := ⟨512 * t.val + a.val, by have := tile_lt t; omega⟩

variable (m : (ℓ : Loc nD τ sig) → Buf (Elt Ideal) ℓ) (c : Dev nD)

/-! The host's copies of the arguments, at an index. -/

theorem V_v0 (k : Fin 2048) (j : Fin 5120) : V m c main_v0 (ix2 k j) = m (c, main_arg2) (ix2 k j) := by
  unfold V
  after_reads_at
theorem V_v1 (l : Fin 2048) : V m c main_v1 (ix2 0 l) = m (c, main_arg1) (ix1 l) := by
  unfold V
  after_reads_at
theorem V_v2 (k : Fin 2048) (j : Fin 3072) : V m c main_v2 (ix2 k j) = m (c, main_arg2) (ix2 k ⟨2048 + j.val, by omega⟩) := by
  unfold V
  after_reads_at

/-! The arguments as plain functions. -/

def xs (r : Fin 32768) (k : Fin 2048) : EReal := m (c, main_arg0) (ix2 r k)
def gs (k : Fin 2048) : EReal := m (c, main_arg1) (ix1 k)
def ws (k : Fin 2048) (j : Fin 5120) : EReal := m (c, main_arg2) (ix2 k j)

/-! The staged blocks at an index. -/

theorem blk0 (t : Fin cfg0.N) (a : Fin 512) (k : Fin 2048) : (iblk m c 0 t : Vec Ideal S512x2048 .f32) (ix2 a k) = xs m c (rowOf t a) k := by
  obtain ⟨e0, e1⟩ := idx0 t
  show V m c main_arg0 (((cfg0.win 0).blk t).view.emb (ix2 a k : S512x2048.Idx)) = _
  rw [V_main_arg0]
  show m (c, main_arg0) _ = m (c, main_arg0) _
  congr 1
  funext d; apply Fin.ext
  match d with
  | ⟨0, _⟩ => show win0_0.index t (0 : Fin 2) * 512 + 1 * a.val = 512 * t.val + a.val; omega
  | ⟨1, _⟩ => show win0_0.index t (1 : Fin 2) * 2048 + 1 * k.val = k.val; omega

theorem blk1 (t : Fin cfg0.N) (k : Fin 2048) : (iblk m c 1 t : Vec Ideal S1x2048 .f32) (ix2 0 k) = gs m c k := by
  obtain ⟨e0, e1⟩ := idx1 t
  have e : ((cfg0.win 1).blk t).view.emb (ix2 0 k : S1x2048.Idx) = (ix2 0 k : S1x2048.Idx) := by
    funext d; apply Fin.ext
    match d with
    | ⟨0, _⟩ => show win0_1.index t (0 : Fin 2) * 1 + 1 * 0 = 0; omega
    | ⟨1, _⟩ => show win0_1.index t (1 : Fin 2) * 2048 + 1 * k.val = k.val; omega
  show V m c main_v1 (((cfg0.win 1).blk t).view.emb (ix2 0 k : S1x2048.Idx)) = _
  rw [e, V_v1]
  rfl

theorem blk2 (t : Fin cfg0.N) (k : Fin 2048) (l : Fin 1024) : (iblk m c 2 t : Vec Ideal S2048x1024 .bf16) (ix2 k l) = ws m c k ⟨l.val, by omega⟩ := by
  obtain ⟨e0, e1⟩ := idx2 t
  have e : ((cfg0.win 2).blk t).view.emb (ix2 k l : S2048x1024.Idx) = (ix2 k ⟨l.val, by omega⟩ : S2048x5120.Idx) := by
    funext d; apply Fin.ext
    match d with
    | ⟨0, _⟩ => show win0_2.index t (0 : Fin 2) * 2048 + 1 * k.val = k.val; omega
    | ⟨1, _⟩ => show win0_2.index t (1 : Fin 2) * 1024 + 1 * l.val = l.val; omega
  show V m c main_v0 (((cfg0.win 2).blk t).view.emb (ix2 k l : S2048x1024.Idx)) = _
  rw [e, V_v0]
  rfl

theorem blk3 (t : Fin cfg0.N) (k : Fin 2048) (l : Fin 1024) : (iblk m c 3 t : Vec Ideal S2048x1024 .bf16) (ix2 k l) = ws m c k ⟨1024 + l.val, by omega⟩ := by
  obtain ⟨e0, e1⟩ := idx3 t
  have e : ((cfg0.win 3).blk t).view.emb (ix2 k l : S2048x1024.Idx) = (ix2 k ⟨1024 + l.val, by omega⟩ : S2048x5120.Idx) := by
    funext d; apply Fin.ext
    match d with
    | ⟨0, _⟩ => show win0_3.index t (0 : Fin 2) * 2048 + 1 * k.val = k.val; omega
    | ⟨1, _⟩ => show win0_3.index t (1 : Fin 2) * 1024 + 1 * l.val = 1024 + l.val; omega
  show V m c main_v0 (((cfg0.win 3).blk t).view.emb (ix2 k l : S2048x1024.Idx)) = _
  rw [e, V_v0]
  rfl

theorem blk4 (t : Fin cfg0.N) (k : Fin 2048) (l : Fin 3072) : (iblk m c 4 t : Vec Ideal S2048x3072 .bf16) (ix2 k l) = ws m c k ⟨2048 + l.val, by omega⟩ := by
  obtain ⟨e0, e1⟩ := idx4 t
  have e : ((cfg0.win 4).blk t).view.emb (ix2 k l : S2048x3072.Idx) = (ix2 k l : S2048x3072.Idx) := by
    funext d; apply Fin.ext
    match d with
    | ⟨0, _⟩ => show win0_4.index t (0 : Fin 2) * 2048 + 1 * k.val = k.val; omega
    | ⟨1, _⟩ => show win0_4.index t (1 : Fin 2) * 3072 + 1 * l.val = l.val; omega
  show V m c main_v2 (((cfg0.win 4).blk t).view.emb (ix2 k l : S2048x3072.Idx)) = _
  rw [e, V_v2]
  rfl

/-- A row's first result. -/
def value5 (r : Fin 32768) (l : Fin 1024) : EReal := opened (rowNorm (xs m c r) (gs m c)) (ws m c) l

/-- A row's second result. -/
def value6 (r : Fin 32768) (j : Fin 3072) : EReal := heads (rowNorm (xs m c r) (gs m c)) (ws m c) j

/-- The normalised rows a point works on. -/
theorem normed (t : Fin cfg0.N) (a : Fin 512) (k : Fin 2048) :
    k0_pay3 (iblk m c 0 t) (iblk m c 1 t) (ix2 a k) = rowNorm (xs m c (rowOf t a)) (gs m c) k := by
  rw [pay3_apply]
  simp only [blk0, blk1]

/-- What a point leaves in the first output's block. -/
theorem written5 (t : Fin cfg0.N) (a : Fin 512) (l : Fin 1024) :
    out0_5 (iblk m c 0 t) (iblk m c 1 t) (iblk m c 2 t) (iblk m c 3 t) (iblk m c 4 t) (ix2 a l) = value5 m c (rowOf t a) l := by
  unfold out0_5 r0_0 r0_1 r0_2 r0_3
  rw [View.canon_cons_unit_zero (S := S512x1024) z2]
  simp only [View.ld_unit_zero (S := S512x2048) z2, View.ld_unit_zero (S := S1x2048) z2, View.ld_unit_zero (S := S2048x1024) z2]
  rw [pay4_apply]
  simp only [normed, blk2, blk3]
  rfl

/-- A column of the second output from a point's blocks. -/
def third (x0 : Vec Ideal S512x2048 .f32) (x1 : Vec Ideal S1x2048 .f32) (x4 : Vec Ideal S2048x3072 .bf16) (a : Fin 512) (j : Fin 3072) : EReal :=
  if j.val < 1024 then (∑ k : Fin 2048, k0_pay3 x0 x1 (ix2 a k) * x4 (ix2 k j)) * (((8 * (Real.log 2))⁻¹ : ℝ) : EReal)
  else ∑ k : Fin 2048, k0_pay3 x0 x1 (ix2 a k) * x4 (ix2 k j)

/-- The second output's block: queries, keys and values, each third written by its own store. -/
theorem out6_at (x0 : Vec Ideal S512x2048 .f32) (x1 : Vec Ideal S1x2048 .f32) (x2 x3 : Vec Ideal S2048x1024 .bf16) (x4 : Vec Ideal S2048x3072 .bf16)
    (y : S512x3072.Idx) : out0_6 x0 x1 x2 x3 x4 y = third x0 x1 x4 (y 0) (y 1) := by
  unfold out0_6
  refine View.canon_apply_of_pieces (Val := Elt Ideal) (fun y : S512x3072.Idx => third x0 x1 x4 (y 0) (y 1)) _ ?_ y (cover0_6 _ _ _ y)
  intro pc hpc
  rcases List.mem_cons.mp hpc with rfl | hpc
  · intro x
    obtain ⟨a, l, rfl⟩ : ∃ (a : Fin 512) (l : Fin 1024), x = (ix2 a l : S512x1024.Idx) :=
      ⟨x 0, x 1, funext fun d => match d with | ⟨0, _⟩ => rfl | ⟨1, _⟩ => rfl⟩
    have i0 : r0_9.idx (ix2 a l : S512x1024.Idx) 0 = a := Fin.ext (by show 0 + 1 * a.val = a.val; omega)
    have i1 : r0_9.idx (ix2 a l : S512x1024.Idx) 1 = (⟨2048 + l.val, by omega⟩ : Fin 3072) := Fin.ext (by show 2048 + 1 * l.val = 2048 + l.val; omega)
    have iw : ∀ k, View.ld x4 r0_8 (ix2 k l : S2048x1024.Idx) = x4 (ix2 k ⟨2048 + l.val, by omega⟩) := fun k => by
      show x4 _ = x4 _
      congr 1
      funext d; apply Fin.ext
      match d with
      | ⟨0, _⟩ => show 0 + 1 * k.val = k.val; omega
      | ⟨1, _⟩ => show 2048 + 1 * l.val = 2048 + l.val; omega
    show k0_pay2 (F := Ideal) (k0_pay7 x0 x1 x2 x3 x4) (View.ld x4 r0_8) (ix2 a l) = third x0 x1 x4 (r0_9.idx (ix2 a l : S512x1024.Idx) 0) (r0_9.idx (ix2 a l : S512x1024.Idx) 1)
    rw [i0, i1]
    refine (pay2_apply _ _ a l).trans ?_
    unfold k0_pay7
    rw [View.ld_unit_zero (S := S512x2048) z2, View.ld_unit_zero (S := S1x2048) z2]
    simp only [iw]
    unfold third
    rw [if_neg (by show ¬2048 + l.val < 1024; omega)]
  rcases List.mem_cons.mp hpc with rfl | hpc
  · intro x
    obtain ⟨a, l, rfl⟩ : ∃ (a : Fin 512) (l : Fin 1024), x = (ix2 a l : S512x1024.Idx) :=
      ⟨x 0, x 1, funext fun d => match d with | ⟨0, _⟩ => rfl | ⟨1, _⟩ => rfl⟩
    have i0 : r0_7.idx (ix2 a l : S512x1024.Idx) 0 = a := Fin.ext (by show 0 + 1 * a.val = a.val; omega)
    have i1 : r0_7.idx (ix2 a l : S512x1024.Idx) 1 = (⟨1024 + l.val, by omega⟩ : Fin 3072) := Fin.ext (by show 1024 + 1 * l.val = 1024 + l.val; omega)
    have iw : ∀ k, View.ld x4 r0_6 (ix2 k l : S2048x1024.Idx) = x4 (ix2 k ⟨1024 + l.val, by omega⟩) := fun k => by
      show x4 _ = x4 _
      congr 1
      funext d; apply Fin.ext
      match d with
      | ⟨0, _⟩ => show 0 + 1 * k.val = k.val; omega
      | ⟨1, _⟩ => show 1024 + 1 * l.val = 1024 + l.val; omega
    show k0_pay1 (F := Ideal) (k0_pay7 x0 x1 x2 x3 x4) (k0_pay6 (View.ld x4 r0_6)) (ix2 a l) = third x0 x1 x4 (r0_7.idx (ix2 a l : S512x1024.Idx) 0) (r0_7.idx (ix2 a l : S512x1024.Idx) 1)
    rw [i0, i1]
    refine (pay1_apply _ _ a l).trans ?_
    unfold k0_pay7
    rw [View.ld_unit_zero (S := S512x2048) z2, View.ld_unit_zero (S := S1x2048) z2]
    simp only [pay6_eq]
    simp only [iw]
    unfold third
    rw [if_neg (by show ¬1024 + l.val < 1024; omega)]
  rcases List.mem_cons.mp hpc with rfl | hpc
  · intro x
    obtain ⟨a, l, rfl⟩ : ∃ (a : Fin 512) (l : Fin 1024), x = (ix2 a l : S512x1024.Idx) :=
      ⟨x 0, x 1, funext fun d => match d with | ⟨0, _⟩ => rfl | ⟨1, _⟩ => rfl⟩
    have i0 : r0_5.idx (ix2 a l : S512x1024.Idx) 0 = a := Fin.ext (by show 0 + 1 * a.val = a.val; omega)
    have i1 : r0_5.idx (ix2 a l : S512x1024.Idx) 1 = (⟨l.val, by omega⟩ : Fin 3072) := Fin.ext (by show 0 + 1 * l.val = l.val; omega)
    have iw : ∀ k, View.ld x4 r0_4 (ix2 k l : S2048x1024.Idx) = x4 (ix2 k ⟨l.val, by omega⟩) := fun k => by
      show x4 _ = x4 _
      congr 1
      funext d; apply Fin.ext
      match d with
      | ⟨0, _⟩ => show 0 + 1 * k.val = k.val; omega
      | ⟨1, _⟩ => show 0 + 1 * l.val = l.val; omega
    show k0_pay5 (F := Ideal) (View.ld x0 r0_0) (View.ld x1 r0_1) (View.ld x4 r0_4) (ix2 a l) = third x0 x1 x4 (r0_5.idx (ix2 a l : S512x1024.Idx) 0) (r0_5.idx (ix2 a l : S512x1024.Idx) 1)
    rw [i0, i1]
    refine (pay5_apply _ _ _ a l).trans ?_
    rw [View.ld_unit_zero (S := S512x2048) z2, View.ld_unit_zero (S := S1x2048) z2]
    simp only [iw]
    unfold third
    rw [if_pos (by show l.val < 1024; omega)]
  nomatch hpc

/-- What a point leaves in the second output's block. -/
theorem written6 (t : Fin cfg0.N) (a : Fin 512) (j : Fin 3072) :
    out0_6 (iblk m c 0 t) (iblk m c 1 t) (iblk m c 2 t) (iblk m c 3 t) (iblk m c 4 t) (ix2 a j) = value6 m c (rowOf t a) j := by
  refine (out6_at _ _ _ _ _ _).trans ?_
  show third (iblk m c 0 t) (iblk m c 1 t) (iblk m c 4 t) a j = _
  unfold third
  simp only [normed, blk4]
  rfl

/-- An output block's place in its array. -/
theorem emb5 (t : Fin cfg0.N) (a : Fin 512) (l : Fin 1024) :
    ((cfg0.win 5).blk t).view.emb (ix2 a l : S512x1024.Idx) = (ix2 (rowOf t a) l : S32768x1024.Idx) := by
  obtain ⟨e0, e1⟩ := idx5 t
  funext d; apply Fin.ext
  match d with
  | ⟨0, _⟩ => show win0_5.index t (0 : Fin 2) * 512 + 1 * a.val = 512 * t.val + a.val; omega
  | ⟨1, _⟩ => show win0_5.index t (1 : Fin 2) * 1024 + 1 * l.val = l.val; omega

theorem emb6 (t : Fin cfg0.N) (a : Fin 512) (l : Fin 3072) :
    ((cfg0.win 6).blk t).view.emb (ix2 a l : S512x3072.Idx) = (ix2 (rowOf t a) l : S32768x3072.Idx) := by
  obtain ⟨e0, e1⟩ := idx6 t
  funext d; apply Fin.ext
  match d with
  | ⟨0, _⟩ => show win0_6.index t (0 : Fin 2) * 512 + 1 * a.val = 512 * t.val + a.val; omega
  | ⟨1, _⟩ => show win0_6.index t (1 : Fin 2) * 3072 + 1 * l.val = l.val; omega

/-- Every row of an array is in some tile. -/
theorem tile_of (r : Fin 32768) : ∃ (t : Fin cfg0.N) (a : Fin 512), rowOf t a = r :=
  ⟨⟨r.val / 512, lt_of_lt_of_eq (by omega) N_0.symm⟩, ⟨r.val % 512, by omega⟩, Fin.ext (by show 512 * (r.val / 512) + r.val % 512 = r.val; omega)⟩

/-- The first array after the run. -/
theorem final5 : (dats m 0 c).arrAt 5 cfg0.N = (fun i => value5 m c (i 0) (i 1) : Vec Ideal S32768x1024 .f32) := by
  refine (dats m 0 c).arrAt_eq_of_cover 5 (fun i => value5 m c (i 0) (i 1) : Vec Ideal S32768x1024 .f32) (fun t _ => ?_) (fun i => ?_)
  · rw [flushed5]
    funext y
    obtain ⟨a, l, rfl⟩ : ∃ (a : Fin 512) (l : Fin 1024), y = (ix2 a l : S512x1024.Idx) :=
      ⟨y 0, y 1, funext fun d => match d with | ⟨0, _⟩ => rfl | ⟨1, _⟩ => rfl⟩
    refine (written5 m c t a l).trans ?_
    show _ = value5 m c (((cfg0.win 5).blk t).view.emb (ix2 a l : S512x1024.Idx) 0) (((cfg0.win 5).blk t).view.emb (ix2 a l : S512x1024.Idx) 1)
    rw [emb5]
    rfl
  · obtain ⟨r, l, rfl⟩ : ∃ (r : Fin 32768) (l : Fin 1024), i = (ix2 r l : S32768x1024.Idx) :=
      ⟨i 0, i 1, funext fun d => match d with | ⟨0, _⟩ => rfl | ⟨1, _⟩ => rfl⟩
    obtain ⟨t, a, rfl⟩ := tile_of r
    exact ⟨t, flush0_5 t, emb5 t a l ▸ ((cfg0.win 5).blk t).view.emb_mem_set (ix2 a l : S512x1024.Idx)⟩

/-- The second array after the run. -/
theorem final6 : (dats m 0 c).arrAt 6 cfg0.N = (fun i => value6 m c (i 0) (i 1) : Vec Ideal S32768x3072 .bf16) := by
  refine (dats m 0 c).arrAt_eq_of_cover 6 (fun i => value6 m c (i 0) (i 1) : Vec Ideal S32768x3072 .bf16) (fun t _ => ?_) (fun i => ?_)
  · rw [flushed6]
    funext y
    obtain ⟨a, l, rfl⟩ : ∃ (a : Fin 512) (l : Fin 3072), y = (ix2 a l : S512x3072.Idx) :=
      ⟨y 0, y 1, funext fun d => match d with | ⟨0, _⟩ => rfl | ⟨1, _⟩ => rfl⟩
    refine (written6 m c t a l).trans ?_
    show _ = value6 m c (((cfg0.win 6).blk t).view.emb (ix2 a l : S512x3072.Idx) 0) (((cfg0.win 6).blk t).view.emb (ix2 a l : S512x3072.Idx) 1)
    rw [emb6]
    rfl
  · obtain ⟨r, l, rfl⟩ : ∃ (r : Fin 32768) (l : Fin 3072), i = (ix2 r l : S32768x3072.Idx) :=
      ⟨i 0, i 1, funext fun d => match d with | ⟨0, _⟩ => rfl | ⟨1, _⟩ => rfl⟩
    obtain ⟨t, a, rfl⟩ := tile_of r
    exact ⟨t, flush0_6 t, emb6 t a l ▸ ((cfg0.win 6).blk t).view.emb_mem_set (ix2 a l : S512x3072.Idx)⟩

end Cert.Mlp.In
-- ==== Proof.OutRef.lean ====
module

public import proofs.«01_k».proof.Proof.Hidden
public import proofs.«01_k».proof.Proof.Gen.OutProjReferenceIdeal.Read
public import Idealize.ShloMosaic.Lib.Pipeline.Value

@[expose] public section

set_option maxRecDepth 16384

noncomputable section

/-! The output projection: a row plus its two products, and the reference at an index. -/

namespace Cert.Mlp

/-- A row plus the two products of its mixed halves with the two halves of the output weight. -/
def joined (x : Fin 2048 → EReal) (p q : Fin 1024 → EReal) (W : Fin 2048 → Fin 2048 → EReal) (l : Fin 2048) : EReal :=
  x l + (∑ k : Fin 1024, p k * W ⟨k.val, by omega⟩ l) + ∑ k : Fin 1024, q k * W ⟨1024 + k.val, by omega⟩ l

end Cert.Mlp

namespace Cert.Mlp.OutRef

open Cert.OutProjReferenceIdeal Cert.OutProjReferenceIdeal.Gen Cert.OutProjReferenceIdeal.Read Idealize.ShloMosaic Idealize.ShloMosaic.TcCoe

variable (x0 : (⟨S32768x2048, .f32⟩ : BufTy).Contents (Elt Ideal)) (x1 x2 : (⟨S32768x1024, .bf16⟩ : BufTy).Contents (Elt Ideal))
  (x3 : (⟨S2048x2048, .f32⟩ : BufTy).Contents (Elt Ideal)) (x4 : (⟨S2048, .f32⟩ : BufTy).Contents (Elt Ideal))

/-- The joined rows' first half. -/
theorem v0_left (r : Fin 32768) (k : Fin 1024) : val_main_v0 (F := Ideal) x1 x2 (ix2 r ⟨k.val, by omega⟩) = x1 (ix2 r k) := by
  unfold val_main_v0
  exact concatenate_pair_apply_left (t := S32768x2048) (s₁ := S32768x1024) (s₂ := S32768x1024) 1 x1 x2 _ _ rfl (ix2 r k)
    (fun b => match b with | ⟨0, _⟩ => rfl | ⟨1, _⟩ => rfl)

/-- The joined rows' second half. -/
theorem v0_right (r : Fin 32768) (k : Fin 1024) : val_main_v0 (F := Ideal) x1 x2 (ix2 r ⟨1024 + k.val, by omega⟩) = x2 (ix2 r k) := by
  unfold val_main_v0
  exact concatenate_pair_apply_right (t := S32768x2048) (s₁ := S32768x1024) (s₂ := S32768x1024) 1 x1 x2 _ _ rfl rfl (ix2 r k)
    (fun b => match b with | ⟨0, _⟩ => fun _ => rfl | ⟨1, _⟩ => fun h => absurd rfl h) (Nat.add_comm _ _)

/-- The row before its normalisation. -/
theorem v3_at (r : Fin 32768) (l : Fin 2048) :
    val_main_v3 (F := Ideal) x0 x1 x2 x3 (ix2 r l)
      = joined (fun k => x0 (ix2 r k)) (fun k => x1 (ix2 r k)) (fun k => x2 (ix2 r k)) (fun k l => x3 (ix2 k l)) l := by
  rw [val_main_v3_apply, val_main_v2_apply]
  have e : ∀ k, val_main_v1 (F := Ideal) x1 x2 (lidx_main_v2 (ix2 r l) k) * x3 (ridx_main_v2 (ix2 r l) k)
      = val_main_v0 (F := Ideal) x1 x2 (ix2 r k) * x3 (ix2 k l) := fun k => by
    have el : lidx_main_v2 (ix2 r l) k = ix2 r k := by funext a; fin_cases a <;> rfl
    have er : ridx_main_v2 (ix2 r l) k = ix2 k l := by funext a; fin_cases a <;> rfl
    rw [el, er, val_main_v1_apply]
    rfl
  rw [Finset.sum_congr rfl fun k _ => e k]
  have s : (∑ k : Fin 2048, val_main_v0 (F := Ideal) x1 x2 (ix2 r k) * x3 (ix2 k l))
      = (∑ k : Fin 1024, x1 (ix2 r k) * x3 (ix2 ⟨k.val, by omega⟩ l)) + ∑ k : Fin 1024, x2 (ix2 r k) * x3 (ix2 ⟨1024 + k.val, by omega⟩ l) := by
    refine (Fin.sum_univ_add (a := 1024) (b := 1024) (fun k : Fin (1024 + 1024) => (val_main_v0 (F := Ideal) x1 x2 (ix2 r k) * x3 (ix2 k l) : EReal))).trans ?_
    congr 1
    · exact Finset.sum_congr rfl fun k _ => congrArg (· * (x3 (ix2 ⟨k.val, by omega⟩ l) : EReal)) (v0_left x1 x2 r k)
    · exact Finset.sum_congr rfl fun k _ => congrArg (· * (x3 (ix2 ⟨1024 + k.val, by omega⟩ l) : EReal)) (v0_right x1 x2 r k)
  rw [s]
  unfold joined
  exact (add_assoc (x0 (ix2 r l) : EReal) _ _).symm

/-- The row normalised. -/
theorem v17_at (r : Fin 32768) (l : Fin 2048) :
    val_main_v17 (F := Ideal) x0 x1 x2 x3 x4 (ix2 r l)
      = rowNorm (joined (fun k => x0 (ix2 r k)) (fun k => x1 (ix2 r k)) (fun k => x2 (ix2 r k)) (fun k l => x3 (ix2 k l))) (fun l => x4 (ix1 l)) l := by
  have e1 : ∀ k, idx_main_v5 (idx_main_v6 (idx_main_v12 (ix2 r l))) k = ix2 r k := fun k => by funext a; fin_cases a <;> rfl
  have e2 : idx_main_v14 (idx_main_v15 (ix2 r l)) = ix1 l := by funext a; fin_cases a; rfl
  have z : (FloatOps.ofBits FTy.f32 0x00000000#32 : Ideal .f32) = (0 : EReal) := Ideal.ofBits_zero _
  rw [val_main_v17_apply, val_main_v16_apply, val_main_v13_apply, val_main_v12_apply, val_main_v11_apply, val_main_v10_apply, val_main_v8_apply, val_main_v6_apply,
    val_main_v5_apply, val_main_cst_apply, val_main_v7_apply, val_main_cst_0_apply, val_main_v9_apply, val_main_cst_1_apply,
    val_main_v15_apply, val_main_v14_apply, e2, z]
  simp only [e1, val_main_v4_apply, v3_at]
  unfold rowNorm rowScale
  rw [← zero_add (∑ k : Fin 2048, joined (fun k => x0 (ix2 r k)) (fun k => x1 (ix2 r k)) (fun k => x2 (ix2 r k)) (fun k l => x3 (ix2 k l)) k
    * joined (fun k => x0 (ix2 r k)) (fun k => x1 (ix2 r k)) (fun k => x2 (ix2 r k)) (fun k l => x3 (ix2 k l)) k)]
  rfl

end Cert.Mlp.OutRef
-- ==== Proof.OutTile.lean ====
module

public import proofs.«01_k».proof.Proof.OutRef
public import proofs.«01_k».proof.Proof.Gen.OutProjIdeal.Value
public import Idealize.ShloMosaic.Lib.StableHlo.ReadAt
public import Idealize.ShloMosaic.Lib.Tactic.IndexArith

@[expose] public section

set_option maxRecDepth 16384

noncomputable section

/-! The output projection kernel's two results, from its arguments. -/

namespace Cert.Mlp.Out

open Cert.OutProjIdeal Cert.OutProjIdeal.Gen Cert.OutProjIdeal.Value
open Idealize.ShloMosaic Idealize.ShloMosaic.TcCoe Idealize.ShloMosaic.Tactic
open Idealize.ShloMosaic.Pipeline (Dat Cfg Window BodyObligation cellOf)

theorem z2 : (![0, 0] : Fin 2 → Nat) = fun _ => 0 := funext fun a => by fin_cases a <;> rfl

/-! The stored vectors at an index. -/

theorem pay1_apply (x : Vec Ideal S512x2048 .f32) (p : Vec Ideal S512x1024 .bf16) (A : Vec Ideal S1024x2048 .bf16) (q : Vec Ideal S512x1024 .bf16)
    (B : Vec Ideal S1024x2048 .bf16) (a : Fin 512) (l : Fin 2048) : k0_pay1 x p A q B (ix2 a l)
      = x (ix2 a l) + (∑ k : Fin 1024, p (ix2 a k) * A (ix2 k l)) + ∑ k : Fin 1024, q (ix2 a k) * B (ix2 k l) := by
  pointwise [k0_pay1]

theorem pay2_apply (x : Vec Ideal S512x2048 .f32) (p : Vec Ideal S512x1024 .bf16) (A : Vec Ideal S1024x2048 .bf16) (q : Vec Ideal S512x1024 .bf16)
    (B : Vec Ideal S1024x2048 .bf16) (g : Vec Ideal S1x2048 .f32) (a : Fin 512) (l : Fin 2048) : k0_pay2 x p A q B g (ix2 a l)
      = rowNorm (fun l => x (ix2 a l) + (∑ k : Fin 1024, p (ix2 a k) * A (ix2 k l)) + ∑ k : Fin 1024, q (ix2 a k) * B (ix2 k l)) (fun k => g (ix2 0 k)) l := by
  pointwise [k0_pay2, k0_pay1, rowNorm, rowScale]

/-! Which block of its array each window stages at a grid point. -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 1 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

theorem tile_lt (t : Fin cfg0.N) : t.val < 64 := lt_of_lt_of_eq t.isLt N_0

/-- The row of the array that row `a` of tile `t` is. -/
def rowOf (t : Fin cfg0.N) (a : Fin 512) : Fin 32768 := ⟨512 * t.val + a.val, by have := tile_lt t; omega⟩

variable (m : (ℓ : Loc nD τ sig) → Buf (Elt Ideal) ℓ) (c : Dev nD)

/-! The host's copies of the arguments, at an index. -/

theorem V_v0 (k l : Fin 2048) : V m c main_v0 (ix2 k l) = m (c, main_arg3) (ix2 k l) := by
  unfold V
  after_reads_at
theorem V_v1 (l : Fin 2048) : V m c main_v1 (ix2 0 l) = m (c, main_arg4) (ix1 l) := by
  unfold V
  after_reads_at

/-! The arguments as plain functions. -/

def xs (r : Fin 32768) (k : Fin 2048) : EReal := m (c, main_arg0) (ix2 r k)
def ps (r : Fin 32768) (k : Fin 1024) : EReal := m (c, main_arg1) (ix2 r k)
def qs (r : Fin 32768) (k : Fin 1024) : EReal := m (c, main_arg2) (ix2 r k)
def ws (k l : Fin 2048) : EReal := m (c, main_arg3) (ix2 k l)
def gs (k : Fin 2048) : EReal := m (c, main_arg4) (ix1 k)

/-! The staged blocks at an index. -/

theorem blk0 (t : Fin cfg0.N) (a : Fin 512) (k : Fin 2048) : (iblk m c 0 t : Vec Ideal S512x2048 .f32) (ix2 a k) = xs m c (rowOf t a) k := by
  obtain ⟨e0, e1⟩ := idx0 t
  show V m c main_arg0 (((cfg0.win 0).blk t).view.emb (ix2 a k : S512x2048.Idx)) = _
  rw [V_main_arg0]
  show m (c, main_arg0) _ = m (c, main_arg0) _
  congr 1
  funext d; apply Fin.ext
  match d with
  | ⟨0, _⟩ => show win0_0.index t (0 : Fin 2) * 512 + 1 * a.val = 512 * t.val + a.val; omega
  | ⟨1, _⟩ => show win0_0.index t (1 : Fin 2) * 2048 + 1 * k.val = k.val; omega

theorem blk1 (t : Fin cfg0.N) (a : Fin 512) (k : Fin 1024) : (iblk m c 1 t : Vec Ideal S512x1024 .bf16) (ix2 a k) = ps m c (rowOf t a) k := by
  obtain ⟨e0, e1⟩ := idx1 t
  show V m c main_arg1 (((cfg0.win 1).blk t).view.emb (ix2 a k : S512x1024.Idx)) = _
  rw [V_main_arg1]
  show m (c, main_arg1) _ = m (c, main_arg1) _
  congr 1
  funext d; apply Fin.ext
  match d with
  | ⟨0, _⟩ => show win0_1.index t (0 : Fin 2) * 512 + 1 * a.val = 512 * t.val + a.val; omega
  | ⟨1, _⟩ => show win0_1.index t (1 : Fin 2) * 1024 + 1 * k.val = k.val; omega

theorem blk2 (t : Fin cfg0.N) (a : Fin 512) (k : Fin 1024) : (iblk m c 2 t : Vec Ideal S512x1024 .bf16) (ix2 a k) = qs m c (rowOf t a) k := by
  obtain ⟨e0, e1⟩ := idx2 t
  show V m c main_arg2 (((cfg0.win 2).blk t).view.emb (ix2 a k : S512x1024.Idx)) = _
  rw [V_main_arg2]
  show m (c, main_arg2) _ = m (c, main_arg2) _
  congr 1
  funext d; apply Fin.ext
  match d with
  | ⟨0, _⟩ => show win0_2.index t (0 : Fin 2) * 512 + 1 * a.val = 512 * t.val + a.val; omega
  | ⟨1, _⟩ => show win0_2.index t (1 : Fin 2) * 1024 + 1 * k.val = k.val; omega

theorem blk3 (t : Fin cfg0.N) (k : Fin 1024) (l : Fin 2048) : (iblk m c 3 t : Vec Ideal S1024x2048 .bf16) (ix2 k l) = ws m c ⟨k.val, by omega⟩ l := by
  obtain ⟨e0, e1⟩ := idx3 t
  have e : ((cfg0.win 3).blk t).view.emb (ix2 k l : S1024x2048.Idx) = (ix2 ⟨k.val, by omega⟩ l : S2048x2048.Idx) := by
    funext d; apply Fin.ext
    match d with
    | ⟨0, _⟩ => show win0_3.index t (0 : Fin 2) * 1024 + 1 * k.val = k.val; omega
    | ⟨1, _⟩ => show win0_3.index t (1 : Fin 2) * 2048 + 1 * l.val = l.val; omega
  show V m c main_v0 (((cfg0.win 3).blk t).view.emb (ix2 k l : S1024x2048.Idx)) = _
  rw [e, V_v0]
  rfl

theorem blk4 (t : Fin cfg0.N) (k : Fin 1024) (l : Fin 2048) : (iblk m c 4 t : Vec Ideal S1024x2048 .bf16) (ix2 k l) = ws m c ⟨1024 + k.val, by omega⟩ l := by
  obtain ⟨e0, e1⟩ := idx4 t
  have e : ((cfg0.win 4).blk t).view.emb (ix2 k l : S1024x2048.Idx) = (ix2 ⟨1024 + k.val, by omega⟩ l : S2048x2048.Idx) := by
    funext d; apply Fin.ext
    match d with
    | ⟨0, _⟩ => show win0_4.index t (0 : Fin 2) * 1024 + 1 * k.val = 1024 + k.val; omega
    | ⟨1, _⟩ => show win0_4.index t (1 : Fin 2) * 2048 + 1 * l.val = l.val; omega
  show V m c main_v0 (((cfg0.win 4).blk t).view.emb (ix2 k l : S1024x2048.Idx)) = _
  rw [e, V_v0]
  rfl

theorem blk5 (t : Fin cfg0.N) (k : Fin 2048) : (iblk m c 5 t : Vec Ideal S1x2048 .f32) (ix2 0 k) = gs m c k := by
  obtain ⟨e0, e1⟩ := idx5 t
  have e : ((cfg0.win 5).blk t).view.emb (ix2 0 k : S1x2048.Idx) = (ix2 0 k : S1x2048.Idx) := by
    funext d; apply Fin.ext
    match d with
    | ⟨0, _⟩ => show win0_5.index t (0 : Fin 2) * 1 + 1 * 0 = 0; omega
    | ⟨1, _⟩ => show win0_5.index t (1 : Fin 2) * 2048 + 1 * k.val = k.val; omega
  show V m c main_v1 (((cfg0.win 5).blk t).view.emb (ix2 0 k : S1x2048.Idx)) = _
  rw [e, V_v1]
  rfl

/-- A row before its normalisation. -/
def plain (r : Fin 32768) (l : Fin 2048) : EReal := joined (xs m c r) (ps m c r) (qs m c r) (ws m c) l

/-- A row after it. -/
def value (r : Fin 32768) (l : Fin 2048) : EReal := rowNorm (plain m c r) (gs m c) l

/-- What a point leaves in the first output's block. -/
theorem written6 (t : Fin cfg0.N) (a : Fin 512) (l : Fin 2048) :
    out0_6 (iblk m c 0 t) (iblk m c 1 t) (iblk m c 2 t) (iblk m c 3 t) (iblk m c 4 t) (iblk m c 5 t) (ix2 a l) = plain m c (rowOf t a) l := by
  unfold out0_6 r0_0 r0_1 r0_2
  rw [View.canon_cons_unit_zero (S := S512x2048) z2]
  simp only [View.ld_unit_zero (S := S512x2048) z2, View.ld_unit_zero (S := S512x1024) z2, View.ld_unit_zero (S := S1024x2048) z2]
  rw [pay1_apply]
  simp only [blk0, blk1, blk2, blk3, blk4]
  rfl

/-- What a point leaves in the second output's block. -/
theorem written7 (t : Fin cfg0.N) (a : Fin 512) (l : Fin 2048) :
    out0_7 (iblk m c 0 t) (iblk m c 1 t) (iblk m c 2 t) (iblk m c 3 t) (iblk m c 4 t) (iblk m c 5 t) (ix2 a l) = value m c (rowOf t a) l := by
  unfold out0_7 r0_0 r0_1 r0_2 r0_3
  rw [View.canon_cons_unit_zero (S := S512x2048) z2]
  simp only [View.ld_unit_zero (S := S512x2048) z2, View.ld_unit_zero (S := S512x1024) z2, View.ld_unit_zero (S := S1024x2048) z2, View.ld_unit_zero (S := S1x2048) z2]
  rw [pay2_apply]
  simp only [blk0, blk1, blk2, blk3, blk4, blk5]
  rfl

/-- An output block's place in its array. -/
theorem emb6 (t : Fin cfg0.N) (a : Fin 512) (l : Fin 2048) :
    ((cfg0.win 6).blk t).view.emb (ix2 a l : S512x2048.Idx) = (ix2 (rowOf t a) l : S32768x2048.Idx) := by
  obtain ⟨e0, e1⟩ := idx6 t
  funext d; apply Fin.ext
  match d with
  | ⟨0, _⟩ => show win0_6.index t (0 : Fin 2) * 512 + 1 * a.val = 512 * t.val + a.val; omega
  | ⟨1, _⟩ => show win0_6.index t (1 : Fin 2) * 2048 + 1 * l.val = l.val; omega

theorem emb7 (t : Fin cfg0.N) (a : Fin 512) (l : Fin 2048) :
    ((cfg0.win 7).blk t).view.emb (ix2 a l : S512x2048.Idx) = (ix2 (rowOf t a) l : S32768x2048.Idx) := by
  obtain ⟨e0, e1⟩ := idx7 t
  funext d; apply Fin.ext
  match d with
  | ⟨0, _⟩ => show win0_7.index t (0 : Fin 2) * 512 + 1 * a.val = 512 * t.val + a.val; omega
  | ⟨1, _⟩ => show win0_7.index t (1 : Fin 2) * 2048 + 1 * l.val = l.val; omega

/-- Every row of an array is in some tile. -/
theorem tile_of (i : S32768x2048.Idx) : ∃ (t : Fin cfg0.N) (a : Fin 512) (l : Fin 2048), (ix2 (rowOf t a) l : S32768x2048.Idx) = i := by
  have h0 : (i 0).val < 32768 := (i 0).isLt
  refine ⟨⟨(i 0).val / 512, lt_of_lt_of_eq (by omega) N_0.symm⟩, ⟨(i 0).val % 512, by omega⟩, i 1, ?_⟩
  funext d; apply Fin.ext
  match d with
  | ⟨0, _⟩ => show 512 * ((i 0).val / 512) + (i 0).val % 512 = (i 0).val; omega
  | ⟨1, _⟩ => rfl

/-- The first array after the run. -/
theorem final6 : (dats m 0 c).arrAt 6 cfg0.N = (fun i => plain m c (i 0) (i 1) : Vec Ideal S32768x2048 .f32) := by
  refine (dats m 0 c).arrAt_eq_of_cover 6 (fun i => plain m c (i 0) (i 1) : Vec Ideal S32768x2048 .f32) (fun t _ => ?_) (fun i => ?_)
  · rw [flushed6]
    funext y
    obtain ⟨a, l, rfl⟩ : ∃ (a : Fin 512) (l : Fin 2048), y = (ix2 a l : S512x2048.Idx) :=
      ⟨y 0, y 1, funext fun d => match d with | ⟨0, _⟩ => rfl | ⟨1, _⟩ => rfl⟩
    refine (written6 m c t a l).trans ?_
    show _ = plain m c (((cfg0.win 6).blk t).view.emb (ix2 a l : S512x2048.Idx) 0) (((cfg0.win 6).blk t).view.emb (ix2 a l : S512x2048.Idx) 1)
    rw [emb6]
    rfl
  · obtain ⟨t, a, l, rfl⟩ := tile_of i
    exact ⟨t, flush0_6 t, emb6 t a l ▸ ((cfg0.win 6).blk t).view.emb_mem_set (ix2 a l : S512x2048.Idx)⟩

/-- The second array after the run. -/
theorem final7 : (dats m 0 c).arrAt 7 cfg0.N = (fun i => value m c (i 0) (i 1) : Vec Ideal S32768x2048 .bf16) := by
  refine (dats m 0 c).arrAt_eq_of_cover 7 (fun i => value m c (i 0) (i 1) : Vec Ideal S32768x2048 .bf16) (fun t _ => ?_) (fun i => ?_)
  · rw [flushed7]
    funext y
    obtain ⟨a, l, rfl⟩ : ∃ (a : Fin 512) (l : Fin 2048), y = (ix2 a l : S512x2048.Idx) :=
      ⟨y 0, y 1, funext fun d => match d with | ⟨0, _⟩ => rfl | ⟨1, _⟩ => rfl⟩
    refine (written7 m c t a l).trans ?_
    show _ = value m c (((cfg0.win 7).blk t).view.emb (ix2 a l : S512x2048.Idx) 0) (((cfg0.win 7).blk t).view.emb (ix2 a l : S512x2048.Idx) 1)
    rw [emb7]
    rfl
  · obtain ⟨t, a, l, rfl⟩ := tile_of i
    exact ⟨t, flush0_7 t, emb7 t a l ▸ ((cfg0.win 7).blk t).view.emb_mem_set (ix2 a l : S512x2048.Idx)⟩

end Cert.Mlp.Out
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.RefOut
public import proofs.«01_k».proof.Proof.Whole
public import proofs.«01_k».proof.Proof.Finite
public import proofs.«01_k».proof.Proof.FirstWhole
public import proofs.«01_k».proof.Proof.FirstRef
public import proofs.«01_k».proof.Proof.LastWhole
public import proofs.«01_k».proof.Proof.LastRef
public import proofs.«01_k».proof.Proof.SampleWhole
public import proofs.«01_k».proof.Proof.SampleRef
public import proofs.«01_k».proof.Proof.InTile
public import proofs.«01_k».proof.Proof.OutTile
public import proofs.«01_k».proof.Proof.Gen.FfnIdeal.Value
public import proofs.«01_k».proof.Proof.Gen.LastIdeal.Value
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastReferenceIdeal
public import proofs.«01_k».proof.Proof.Gen.LastReferenceIdeal.Run
public import proofs.«01_k».proof.Proof.Gen.LastReferenceIdeal.Read
public import proofs.«01_k».proof.Proof.Gen.LastSampleIdeal.Value
public import proofs.«01_k».proof.Proof.Gen.LastSample
public import proofs.«01_k».proof.Proof.Gen.LastSample.Frame
public import proofs.«01_k».proof.Proof.Gen.LastSampleIdeal
public import proofs.«01_k».proof.Proof.Gen.LastSampleIdeal.Frame
public import proofs.«01_k».proof.Proof.Gen.LastSampleReferenceIdeal
public import proofs.«01_k».proof.Proof.Gen.LastSampleReferenceIdeal.Run
public import proofs.«01_k».proof.Proof.Gen.LastSampleReferenceIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import Idealize.ShloMosaic.Adequacy
public import Idealize.ShloMosaic.Init

@[expose] public section

set_option maxRecDepth 16384

noncomputable section

/-! The claims of the certificate: every program's frame, the named constant, and the equality of each kernel's result
with its reference's over the extended reals. -/

namespace Cert.Proof

open Idealize.ShloMosaic Idealize.ShloMosaic.TcCoe Idealize.ShloMosaic.StableHlo Idealize.SL.Sem Cert.Attn

/-- The kernel ends with its arguments unchanged and every semaphore at zero. -/
theorem frame_kernel : Cert.quiescent_Kernel := fun m g _ => Cert.Kernel.Gen.frame m g

/-- So does the idealized kernel. -/
theorem frame_ideal : Cert.quiescent_KernelIdeal := fun m g _ => Cert.KernelIdeal.Gen.frame m g

/-- So does the idealized kernel on finite arguments. -/
theorem frame_ideal_finite : Cert.quiescent_KernelIdeal_pre_finite := fun m g _ => Cert.KernelIdeal.Gen.frame m g

/-- So does the idealized reference, which has no semaphore. -/
theorem frame_reference : Cert.quiescent_ReferenceIdeal := fun m g _ =>
  (θ_run _ _ _).mono (fun r h => ⟨fun c => (h c).2, sem_eq_zero_of_no_sems (by decide) r.2⟩) (Cert.ReferenceIdeal.Value.run (F := Ideal) m g)

/-- So does the idealized reference on finite arguments. -/
theorem frame_reference_finite : Cert.quiescent_ReferenceIdeal_pre_finite := fun m g _ => frame_reference m g trivial

/-- The literal `log2e` is the reciprocal of the logarithm of two, rounded. -/
theorem preserves : Cert.preserves_Kernel_KernelIdeal :=
  IdealRules.named_const.statement Cert.KernelIdeal.κ "log2e" .f32 0x3FB8AA3B#32 (((Real.log 2)⁻¹ : ℝ) : EReal) rfl

/-- An index of the result is a batch, a row, and a lane of a head. -/
theorem index_split (i : Cert.ReferenceIdeal.S8x4096x1024.Idx) :
    ∃ (b : Fin 8) (r : Fin 4096) (h : Fin 8) (l : Fin 128), i = ix3 b r ⟨h.val * 128 + l.val, by omega⟩ := by
  have h2 : (i 2).val < 1024 := (i 2).isLt
  refine ⟨i 0, i 1, ⟨(i 2).val / 128, by omega⟩, ⟨(i 2).val % 128, by omega⟩, ?_⟩
  funext a
  apply Fin.ext
  match a with
  | ⟨0, _⟩ => rfl
  | ⟨1, _⟩ => rfl
  | ⟨2, _⟩ => show (i 2).val = (i 2).val / 128 * 128 + (i 2).val % 128; omega

/-- The reference's result is the kernel's, on arguments that are real numbers. -/
theorem reference_eq (x0 : (⟨Cert.ReferenceIdeal.S8x4096x3072, .bf16⟩ : BufTy).Contents (Elt Ideal))
    (x1 : (⟨Cert.ReferenceIdeal.S32x8, .f32⟩ : BufTy).Contents (Elt Ideal))
    (x2 x3 x4 x5 : (⟨Cert.ReferenceIdeal.S64, .f32⟩ : BufTy).Contents (Elt Ideal)) (x6 : (⟨Cert.ReferenceIdeal.S128, .f32⟩ : BufTy).Contents (Elt Ideal))
    (X : Fin 8 → Fin 4096 → Fin 3072 → ℝ) (hX : ∀ b r c, x0 (ix3 b r c) = (X b r c : EReal))
    (B : Fin 32 → Fin 8 → ℝ) (hB : ∀ t h, x1 (ix2 t h) = (B t h : EReal)) (lam : ℝ)
    (hl : mix (fun l => x2 (ix1 l)) (fun l => x3 (ix1 l)) (fun l => x4 (ix1 l)) (fun l => x5 (ix1 l)) = (lam : EReal)) :
    Cert.ReferenceIdeal.Read.val_main_v121 (F := Ideal) x0 x1 x2 x3 x4 x5 x6 = result X B lam (fun l => x6 (ix1 l)) := by
  funext i
  obtain ⟨b, r, h, l, rfl⟩ := index_split i
  exact (v121_at x0 x1 X hX B hB x2 x3 x4 x5 x6 lam hl b r h l).trans (result_apply X B lam (fun l => x6 (ix1 l)) b r h l).symm

/-- On arguments that agree and are finite, the kernel's array is the reference's term. -/
theorem array_eq (m : (ℓ : Loc Cert.KernelIdeal.nD Cert.KernelIdeal.τ Cert.KernelIdeal.sig) → Buf (Elt Ideal) ℓ) (hpre : Cert.Pre_KernelIdeal_finite m)
    (c : Dev Cert.KernelIdeal.nD) :
    Cert.ReferenceIdeal.Read.val_main_v121 (F := Ideal) (m (c, Cert.KernelIdeal.main_arg0)) (m (c, Cert.KernelIdeal.main_arg1))
      (m (c, Cert.KernelIdeal.main_arg2)) (m (c, Cert.KernelIdeal.main_arg3)) (m (c, Cert.KernelIdeal.main_arg4))
      (m (c, Cert.KernelIdeal.main_arg5)) (m (c, Cert.KernelIdeal.main_arg6))
    = (Cert.KernelIdeal.Gen.dats m 0 c).arrAt 10 Cert.KernelIdeal.cfg0.N := by
  obtain ⟨p0, p1, p2, p3, p4, p5⟩ := hpre c
  have hX := fun (b : Fin 8) (r : Fin 4096) (d : Fin 3072) => real0 _ _ _ _ _ _ _ p0 (ix3 b r d)
  have hB := fun (t : Fin 32) (h : Fin 8) => real1 _ _ _ _ _ _ _ p1 (ix2 t h)
  choose X hX using hX
  choose B hB using hB
  obtain ⟨lam, hl⟩ := mix_real _ _ _ _ (fun l : Fin 64 => real2 _ _ _ _ _ _ _ p2 (ix1 l)) (fun l : Fin 64 => real3 _ _ _ _ _ _ _ p3 (ix1 l))
    (fun l : Fin 64 => real4 _ _ _ _ _ _ _ p4 (ix1 l)) (fun l : Fin 64 => real5 _ _ _ _ _ _ _ p5 (ix1 l))
  exact (reference_eq _ _ _ _ _ _ _ X hX B hB lam hl).trans (final_eq m c X hX B hB lam hl).symm

/-- The reference's term reads the same of arguments that are equal. -/
theorem reference_congr (m' : (ℓ : Loc Cert.ReferenceIdeal.nD Cert.ReferenceIdeal.τ Cert.ReferenceIdeal.sig) → Buf (Elt Ideal) ℓ)
    (c : Dev Cert.ReferenceIdeal.nD) (y : (⟨Cert.ReferenceIdeal.S8x4096x1024, .bf16⟩ : BufTy).Contents (Elt Ideal))
    (a0 a1 a2 a3 a4 a5 a6) (e0 : m' (c, Cert.ReferenceIdeal.main_arg0) = a0) (e1 : m' (c, Cert.ReferenceIdeal.main_arg1) = a1)
    (e2 : m' (c, Cert.ReferenceIdeal.main_arg2) = a2) (e3 : m' (c, Cert.ReferenceIdeal.main_arg3) = a3)
    (e4 : m' (c, Cert.ReferenceIdeal.main_arg4) = a4) (e5 : m' (c, Cert.ReferenceIdeal.main_arg5) = a5)
    (e6 : m' (c, Cert.ReferenceIdeal.main_arg6) = a6)
    (h : Cert.ReferenceIdeal.Read.val_main_v121 (F := Ideal) a0 a1 a2 a3 a4 a5 a6 = y) :
    Cert.ReferenceIdeal.Read.val_main_v121 (F := Ideal) (m' (c, Cert.ReferenceIdeal.main_arg0)) (m' (c, Cert.ReferenceIdeal.main_arg1))
      (m' (c, Cert.ReferenceIdeal.main_arg2)) (m' (c, Cert.ReferenceIdeal.main_arg3)) (m' (c, Cert.ReferenceIdeal.main_arg4))
      (m' (c, Cert.ReferenceIdeal.main_arg5)) (m' (c, Cert.ReferenceIdeal.main_arg6)) = y := by
  rw [e0, e1, e2, e3, e4, e5, e6]
  exact h

/-- On finite arguments the idealized kernel and the idealized reference end with equal results. -/
theorem algebraic : Cert.algebraic_KernelIdeal_ReferenceIdeal_pre_finite := by
  intro m g m' g' hpre heq
  refine ⟨fun c => (Cert.KernelIdeal.Gen.dats m 0 c).arrAt 10 Cert.KernelIdeal.cfg0.N, Cert.KernelIdeal.Value.run_blocks m g, ?_⟩
  refine (θ_run _ _ _).mono (fun r h c => ⟨(h c).1.trans ((Cert.ReferenceIdeal.Read.val_main_v121_eq (F := Ideal) (launchContents m' c)).trans ?_), (h c).2⟩)
    (Cert.ReferenceIdeal.Value.run (F := Ideal) m' g')
  obtain ⟨e0, e1, e2, e3, e4, e5, e6⟩ := heq c
  exact reference_congr m' c _ _ _ _ _ _ _ _ e0 e1 e2 e3 e4 e5 e6 (array_eq m hpre c)

/-! The first feed-forward. -/

theorem frame_first : Cert.quiescent_Ffn := fun m g _ => Cert.Ffn.Gen.frame m g

theorem frame_first_ideal : Cert.quiescent_FfnIdeal := fun m g _ => Cert.FfnIdeal.Gen.frame m g

theorem frame_first_reference : Cert.quiescent_FfnReferenceIdeal := fun m g _ =>
  (θ_run _ _ _).mono (fun r h => ⟨fun c => (h c).2, sem_eq_zero_of_no_sems (by decide) r.2⟩) (Cert.FfnReferenceIdeal.Value.run (F := Ideal) m g)

theorem preserves_first : Cert.preserves_Ffn_FfnIdeal := trivial

/-- On arguments that agree, the kernel's array is the reference's term. -/
theorem first_array_eq (m : (ℓ : Loc Cert.FfnIdeal.nD Cert.FfnIdeal.τ Cert.FfnIdeal.sig) → Buf (Elt Ideal) ℓ) (c : Dev Cert.FfnIdeal.nD) :
    Cert.FfnReferenceIdeal.Read.val_main_v21 (F := Ideal) (m (c, Cert.FfnIdeal.main_arg0)) (m (c, Cert.FfnIdeal.main_arg1)) (m (c, Cert.FfnIdeal.main_arg2)) (m (c, Cert.FfnIdeal.main_arg3))
    = (Cert.FfnIdeal.Gen.dats m 0 c).arrAt 5 Cert.FfnIdeal.cfg0.N := by
  refine Eq.trans ?_ (Cert.Mlp.First.final_eq m c).symm
  funext i
  obtain ⟨r, l, rfl⟩ : ∃ (r : Fin 32768) (l : Fin 2048), i = ix2 r l := ⟨i 0, i 1, funext fun d => match d with | ⟨0, _⟩ => rfl | ⟨1, _⟩ => rfl⟩
  exact Cert.Mlp.FirstRef.v21_at _ _ _ _ r l

/-- The reference's term reads the same of arguments that are equal. -/
theorem first_reference_congr (m' : (ℓ : Loc Cert.FfnReferenceIdeal.nD Cert.FfnReferenceIdeal.τ Cert.FfnReferenceIdeal.sig) → Buf (Elt Ideal) ℓ)
    (c : Dev Cert.FfnReferenceIdeal.nD) (y : (⟨Cert.FfnReferenceIdeal.S32768x2048, .f32⟩ : BufTy).Contents (Elt Ideal))
    (a0 a1 a2 a3) (e0 : m' (c, Cert.FfnReferenceIdeal.main_arg0) = a0) (e1 : m' (c, Cert.FfnReferenceIdeal.main_arg1) = a1) (e2 : m' (c, Cert.FfnReferenceIdeal.main_arg2) = a2) (e3 : m' (c, Cert.FfnReferenceIdeal.main_arg3) = a3)
    (h : Cert.FfnReferenceIdeal.Read.val_main_v21 (F := Ideal) a0 a1 a2 a3 = y) :
    Cert.FfnReferenceIdeal.Read.val_main_v21 (F := Ideal) (m' (c, Cert.FfnReferenceIdeal.main_arg0)) (m' (c, Cert.FfnReferenceIdeal.main_arg1)) (m' (c, Cert.FfnReferenceIdeal.main_arg2)) (m' (c, Cert.FfnReferenceIdeal.main_arg3)) = y := by
  rw [e0, e1, e2, e3]
  exact h

/-- The idealized kernel and the idealized reference end with equal results. -/
theorem first_algebraic : Cert.algebraic_FfnIdeal_FfnReferenceIdeal := by
  intro m g m' g' _ heq
  refine ⟨fun c => (Cert.FfnIdeal.Gen.dats m 0 c).arrAt 5 Cert.FfnIdeal.cfg0.N, Cert.FfnIdeal.Value.run_blocks m g, ?_⟩
  refine (θ_run _ _ _).mono (fun r h c => ⟨(h c).1.trans ((Cert.FfnReferenceIdeal.Read.val_main_v21_eq (F := Ideal) _ _ _ _).trans ?_), (h c).2⟩)
    (Cert.FfnReferenceIdeal.Value.run (F := Ideal) m' g')
  obtain ⟨e0, e1, e2, e3⟩ := heq c
  exact first_reference_congr m' c _ _ _ _ _ e0 e1 e2 e3 (first_array_eq m c)

/-! The last feed-forward. -/

theorem frame_last : Cert.quiescent_Last := fun m g _ => Cert.Last.Gen.frame m g

theorem frame_last_ideal : Cert.quiescent_LastIdeal := fun m g _ => Cert.LastIdeal.Gen.frame m g

theorem frame_last_reference : Cert.quiescent_LastReferenceIdeal := fun m g _ =>
  (θ_run _ _ _).mono (fun r h => ⟨fun c => (h c).2, sem_eq_zero_of_no_sems (by decide) r.2⟩) (Cert.LastReferenceIdeal.Value.run (F := Ideal) m g)

theorem preserves_last : Cert.preserves_Last_LastIdeal := trivial

/-- On arguments that agree, the kernel's array is the reference's term. -/
theorem last_array_eq (m : (ℓ : Loc Cert.LastIdeal.nD Cert.LastIdeal.τ Cert.LastIdeal.sig) → Buf (Elt Ideal) ℓ) (c : Dev Cert.LastIdeal.nD) :
    Cert.LastReferenceIdeal.Read.val_main_v22 (F := Ideal) (m (c, Cert.LastIdeal.main_arg0)) (m (c, Cert.LastIdeal.main_arg1)) (m (c, Cert.LastIdeal.main_arg2)) (m (c, Cert.LastIdeal.main_arg3)) (m (c, Cert.LastIdeal.main_arg4))
    = (Cert.LastIdeal.Gen.dats m 0 c).arrAt 6 Cert.LastIdeal.cfg0.N := by
  refine Eq.trans ?_ (Cert.Mlp.Last.final_eq m c).symm
  funext i
  obtain ⟨r, l, rfl⟩ : ∃ (r : Fin 32768) (l : Fin 2048), i = ix2 r l := ⟨i 0, i 1, funext fun d => match d with | ⟨0, _⟩ => rfl | ⟨1, _⟩ => rfl⟩
  exact Cert.Mlp.LastRef.v22_at _ _ _ _ _ r l

/-- The reference's term reads the same of arguments that are equal. -/
theorem last_reference_congr (m' : (ℓ : Loc Cert.LastReferenceIdeal.nD Cert.LastReferenceIdeal.τ Cert.LastReferenceIdeal.sig) → Buf (Elt Ideal) ℓ)
    (c : Dev Cert.LastReferenceIdeal.nD) (y : (⟨Cert.LastReferenceIdeal.S32768x2048, .f32⟩ : BufTy).Contents (Elt Ideal))
    (a0 a1 a2 a3 a4) (e0 : m' (c, Cert.LastReferenceIdeal.main_arg0) = a0) (e1 : m' (c, Cert.LastReferenceIdeal.main_arg1) = a1) (e2 : m' (c, Cert.LastReferenceIdeal.main_arg2) = a2) (e3 : m' (c, Cert.LastReferenceIdeal.main_arg3) = a3) (e4 : m' (c, Cert.LastReferenceIdeal.main_arg4) = a4)
    (h : Cert.LastReferenceIdeal.Read.val_main_v22 (F := Ideal) a0 a1 a2 a3 a4 = y) :
    Cert.LastReferenceIdeal.Read.val_main_v22 (F := Ideal) (m' (c, Cert.LastReferenceIdeal.main_arg0)) (m' (c, Cert.LastReferenceIdeal.main_arg1)) (m' (c, Cert.LastReferenceIdeal.main_arg2)) (m' (c, Cert.LastReferenceIdeal.main_arg3)) (m' (c, Cert.LastReferenceIdeal.main_arg4)) = y := by
  rw [e0, e1, e2, e3, e4]
  exact h

/-- The idealized kernel and the idealized reference end with equal results. -/
theorem last_algebraic : Cert.algebraic_LastIdeal_LastReferenceIdeal := by
  intro m g m' g' _ heq
  refine ⟨fun c => (Cert.LastIdeal.Gen.dats m 0 c).arrAt 6 Cert.LastIdeal.cfg0.N, Cert.LastIdeal.Value.run_blocks m g, ?_⟩
  refine (θ_run _ _ _).mono (fun r h c => ⟨(h c).1.trans ((Cert.LastReferenceIdeal.Read.val_main_v22_eq (F := Ideal) _ _).trans ?_), (h c).2⟩)
    (Cert.LastReferenceIdeal.Value.run (F := Ideal) m' g')
  obtain ⟨e0, e1, e2, e3, e4⟩ := heq c
  exact last_reference_congr m' c _ _ _ _ _ _ e0 e1 e2 e3 e4 (last_array_eq m c)

/-! The input projection. -/

theorem frame_input : Cert.quiescent_InProj := fun m g _ => Cert.InProj.Gen.frame m g

theorem frame_input_ideal : Cert.quiescent_InProjIdeal := fun m g _ => Cert.InProjIdeal.Gen.frame m g

theorem frame_input_reference : Cert.quiescent_InProjReferenceIdeal := fun m g _ =>
  (θ_run _ _ _).mono (fun r h => ⟨fun c => (h c).2.2, sem_eq_zero_of_no_sems (by decide) r.2⟩) (Cert.InProjReferenceIdeal.Value.run (F := Ideal) m g)

/-- On arguments that agree, the kernel's first array is the reference's term. -/
theorem input_first_array_eq (m : (ℓ : Loc Cert.InProjIdeal.nD Cert.InProjIdeal.τ Cert.InProjIdeal.sig) → Buf (Elt Ideal) ℓ) (c : Dev Cert.InProjIdeal.nD) :
    Cert.InProjReferenceIdeal.Read.val_main_v25 (F := Ideal) (m (c, Cert.InProjIdeal.main_arg0)) (m (c, Cert.InProjIdeal.main_arg1)) (m (c, Cert.InProjIdeal.main_arg2))
    = (Cert.InProjIdeal.Gen.dats m 0 c).arrAt 5 Cert.InProjIdeal.cfg0.N := by
  refine Eq.trans ?_ (Cert.Mlp.In.final5 m c).symm
  funext i
  obtain ⟨r, l, rfl⟩ : ∃ (r : Fin 32768) (l : Fin 1024), i = ix2 r l := ⟨i 0, i 1, funext fun d => match d with | ⟨0, _⟩ => rfl | ⟨1, _⟩ => rfl⟩
  exact Cert.Mlp.InRef.v25_at _ _ _ r l

/-- The reference's first term reads the same of arguments that are equal. -/
theorem input_first_reference_congr (m' : (ℓ : Loc Cert.InProjReferenceIdeal.nD Cert.InProjReferenceIdeal.τ Cert.InProjReferenceIdeal.sig) → Buf (Elt Ideal) ℓ)
    (c : Dev Cert.InProjReferenceIdeal.nD) (y : (⟨Cert.InProjReferenceIdeal.S32768x1024, .f32⟩ : BufTy).Contents (Elt Ideal))
    (a0 a1 a2) (e0 : m' (c, Cert.InProjReferenceIdeal.main_arg0) = a0) (e1 : m' (c, Cert.InProjReferenceIdeal.main_arg1) = a1) (e2 : m' (c, Cert.InProjReferenceIdeal.main_arg2) = a2)
    (h : Cert.InProjReferenceIdeal.Read.val_main_v25 (F := Ideal) a0 a1 a2 = y) :
    Cert.InProjReferenceIdeal.Read.val_main_v25 (F := Ideal) (m' (c, Cert.InProjReferenceIdeal.main_arg0)) (m' (c, Cert.InProjReferenceIdeal.main_arg1)) (m' (c, Cert.InProjReferenceIdeal.main_arg2)) = y := by
  rw [e0, e1, e2]
  exact h

/-- On arguments that agree, the kernel's second array is the reference's term. -/
theorem input_second_array_eq (m : (ℓ : Loc Cert.InProjIdeal.nD Cert.InProjIdeal.τ Cert.InProjIdeal.sig) → Buf (Elt Ideal) ℓ) (c : Dev Cert.InProjIdeal.nD) :
    Cert.InProjReferenceIdeal.Read.val_main_v33 (F := Ideal) (m (c, Cert.InProjIdeal.main_arg0)) (m (c, Cert.InProjIdeal.main_arg1)) (m (c, Cert.InProjIdeal.main_arg2))
    = (Cert.InProjIdeal.Gen.dats m 0 c).arrAt 6 Cert.InProjIdeal.cfg0.N := by
  refine Eq.trans ?_ (Cert.Mlp.In.final6 m c).symm
  funext i
  obtain ⟨r, l, rfl⟩ : ∃ (r : Fin 32768) (l : Fin 3072), i = ix2 r l := ⟨i 0, i 1, funext fun d => match d with | ⟨0, _⟩ => rfl | ⟨1, _⟩ => rfl⟩
  exact Cert.Mlp.InRef.v33_at _ _ _ r l

/-- The reference's second term reads the same of arguments that are equal. -/
theorem input_second_reference_congr (m' : (ℓ : Loc Cert.InProjReferenceIdeal.nD Cert.InProjReferenceIdeal.τ Cert.InProjReferenceIdeal.sig) → Buf (Elt Ideal) ℓ)
    (c : Dev Cert.InProjReferenceIdeal.nD) (y : (⟨Cert.InProjReferenceIdeal.S32768x3072, .bf16⟩ : BufTy).Contents (Elt Ideal))
    (a0 a1 a2) (e0 : m' (c, Cert.InProjReferenceIdeal.main_arg0) = a0) (e1 : m' (c, Cert.InProjReferenceIdeal.main_arg1) = a1) (e2 : m' (c, Cert.InProjReferenceIdeal.main_arg2) = a2)
    (h : Cert.InProjReferenceIdeal.Read.val_main_v33 (F := Ideal) a0 a1 a2 = y) :
    Cert.InProjReferenceIdeal.Read.val_main_v33 (F := Ideal) (m' (c, Cert.InProjReferenceIdeal.main_arg0)) (m' (c, Cert.InProjReferenceIdeal.main_arg1)) (m' (c, Cert.InProjReferenceIdeal.main_arg2)) = y := by
  rw [e0, e1, e2]
  exact h

/-- The idealized kernel and the idealized reference end with equal results. -/
theorem input_algebraic : Cert.algebraic_InProjIdeal_InProjReferenceIdeal := by
  intro m g m' g' _ heq
  refine ⟨fun c => (Cert.InProjIdeal.Gen.dats m 0 c).arrAt 5 Cert.InProjIdeal.cfg0.N, fun c => (Cert.InProjIdeal.Gen.dats m 0 c).arrAt 6 Cert.InProjIdeal.cfg0.N,
    Cert.InProjIdeal.Value.run_blocks m g, ?_⟩
  refine (θ_run _ _ _).mono (fun r h c => ⟨(h c).1.trans ((Cert.InProjReferenceIdeal.Read.val_main_v25_eq (F := Ideal) _ _ _).trans ?_),
    (h c).2.1.trans ((Cert.InProjReferenceIdeal.Read.val_main_v33_eq (F := Ideal) _ _ _).trans ?_), (h c).2.2⟩)
    (Cert.InProjReferenceIdeal.Value.run (F := Ideal) m' g')
  · obtain ⟨e0, e1, e2⟩ := heq c
    exact input_first_reference_congr m' c _ _ _ _ e0 e1 e2 (input_first_array_eq m c)
  · obtain ⟨e0, e1, e2⟩ := heq c
    exact input_second_reference_congr m' c _ _ _ _ e0 e1 e2 (input_second_array_eq m c)

theorem preserves_input : Cert.preserves_InProj_InProjIdeal :=
  IdealRules.named_const.statement Cert.InProjIdeal.κ "q_scale" .f32 0x3E38AA3B#32 (((8 * (Real.log 2))⁻¹ : ℝ) : EReal) rfl

/-! The output projection. -/

theorem frame_output : Cert.quiescent_OutProj := fun m g _ => Cert.OutProj.Gen.frame m g

theorem frame_output_ideal : Cert.quiescent_OutProjIdeal := fun m g _ => Cert.OutProjIdeal.Gen.frame m g

theorem frame_output_reference : Cert.quiescent_OutProjReferenceIdeal := fun m g _ =>
  (θ_run _ _ _).mono (fun r h => ⟨fun c => (h c).2.2, sem_eq_zero_of_no_sems (by decide) r.2⟩) (Cert.OutProjReferenceIdeal.Value.run (F := Ideal) m g)

/-- On arguments that agree, the kernel's first array is the reference's term. -/
theorem output_first_array_eq (m : (ℓ : Loc Cert.OutProjIdeal.nD Cert.OutProjIdeal.τ Cert.OutProjIdeal.sig) → Buf (Elt Ideal) ℓ) (c : Dev Cert.OutProjIdeal.nD) :
    Cert.OutProjReferenceIdeal.Read.val_main_v3 (F := Ideal) (m (c, Cert.OutProjIdeal.main_arg0)) (m (c, Cert.OutProjIdeal.main_arg1)) (m (c, Cert.OutProjIdeal.main_arg2)) (m (c, Cert.OutProjIdeal.main_arg3))
    = (Cert.OutProjIdeal.Gen.dats m 0 c).arrAt 6 Cert.OutProjIdeal.cfg0.N := by
  refine Eq.trans ?_ (Cert.Mlp.Out.final6 m c).symm
  funext i
  obtain ⟨r, l, rfl⟩ : ∃ (r : Fin 32768) (l : Fin 2048), i = ix2 r l := ⟨i 0, i 1, funext fun d => match d with | ⟨0, _⟩ => rfl | ⟨1, _⟩ => rfl⟩
  exact Cert.Mlp.OutRef.v3_at _ _ _ _ r l

/-- The reference's first term reads the same of arguments that are equal. -/
theorem output_first_reference_congr (m' : (ℓ : Loc Cert.OutProjReferenceIdeal.nD Cert.OutProjReferenceIdeal.τ Cert.OutProjReferenceIdeal.sig) → Buf (Elt Ideal) ℓ)
    (c : Dev Cert.OutProjReferenceIdeal.nD) (y : (⟨Cert.OutProjReferenceIdeal.S32768x2048, .f32⟩ : BufTy).Contents (Elt Ideal))
    (a0 a1 a2 a3) (e0 : m' (c, Cert.OutProjReferenceIdeal.main_arg0) = a0) (e1 : m' (c, Cert.OutProjReferenceIdeal.main_arg1) = a1) (e2 : m' (c, Cert.OutProjReferenceIdeal.main_arg2) = a2) (e3 : m' (c, Cert.OutProjReferenceIdeal.main_arg3) = a3)
    (h : Cert.OutProjReferenceIdeal.Read.val_main_v3 (F := Ideal) a0 a1 a2 a3 = y) :
    Cert.OutProjReferenceIdeal.Read.val_main_v3 (F := Ideal) (m' (c, Cert.OutProjReferenceIdeal.main_arg0)) (m' (c, Cert.OutProjReferenceIdeal.main_arg1)) (m' (c, Cert.OutProjReferenceIdeal.main_arg2)) (m' (c, Cert.OutProjReferenceIdeal.main_arg3)) = y := by
  rw [e0, e1, e2, e3]
  exact h

/-- On arguments that agree, the kernel's second array is the reference's term. -/
theorem output_second_array_eq (m : (ℓ : Loc Cert.OutProjIdeal.nD Cert.OutProjIdeal.τ Cert.OutProjIdeal.sig) → Buf (Elt Ideal) ℓ) (c : Dev Cert.OutProjIdeal.nD) :
    Cert.OutProjReferenceIdeal.Read.val_main_v17 (F := Ideal) (m (c, Cert.OutProjIdeal.main_arg0)) (m (c, Cert.OutProjIdeal.main_arg1)) (m (c, Cert.OutProjIdeal.main_arg2)) (m (c, Cert.OutProjIdeal.main_arg3)) (m (c, Cert.OutProjIdeal.main_arg4))
    = (Cert.OutProjIdeal.Gen.dats m 0 c).arrAt 7 Cert.OutProjIdeal.cfg0.N := by
  refine Eq.trans ?_ (Cert.Mlp.Out.final7 m c).symm
  funext i
  obtain ⟨r, l, rfl⟩ : ∃ (r : Fin 32768) (l : Fin 2048), i = ix2 r l := ⟨i 0, i 1, funext fun d => match d with | ⟨0, _⟩ => rfl | ⟨1, _⟩ => rfl⟩
  exact Cert.Mlp.OutRef.v17_at _ _ _ _ _ r l

/-- The reference's second term reads the same of arguments that are equal. -/
theorem output_second_reference_congr (m' : (ℓ : Loc Cert.OutProjReferenceIdeal.nD Cert.OutProjReferenceIdeal.τ Cert.OutProjReferenceIdeal.sig) → Buf (Elt Ideal) ℓ)
    (c : Dev Cert.OutProjReferenceIdeal.nD) (y : (⟨Cert.OutProjReferenceIdeal.S32768x2048, .bf16⟩ : BufTy).Contents (Elt Ideal))
    (a0 a1 a2 a3 a4) (e0 : m' (c, Cert.OutProjReferenceIdeal.main_arg0) = a0) (e1 : m' (c, Cert.OutProjReferenceIdeal.main_arg1) = a1) (e2 : m' (c, Cert.OutProjReferenceIdeal.main_arg2) = a2) (e3 : m' (c, Cert.OutProjReferenceIdeal.main_arg3) = a3) (e4 : m' (c, Cert.OutProjReferenceIdeal.main_arg4) = a4)
    (h : Cert.OutProjReferenceIdeal.Read.val_main_v17 (F := Ideal) a0 a1 a2 a3 a4 = y) :
    Cert.OutProjReferenceIdeal.Read.val_main_v17 (F := Ideal) (m' (c, Cert.OutProjReferenceIdeal.main_arg0)) (m' (c, Cert.OutProjReferenceIdeal.main_arg1)) (m' (c, Cert.OutProjReferenceIdeal.main_arg2)) (m' (c, Cert.OutProjReferenceIdeal.main_arg3)) (m' (c, Cert.OutProjReferenceIdeal.main_arg4)) = y := by
  rw [e0, e1, e2, e3, e4]
  exact h

/-- The idealized kernel and the idealized reference end with equal results. -/
theorem output_algebraic : Cert.algebraic_OutProjIdeal_OutProjReferenceIdeal := by
  intro m g m' g' _ heq
  refine ⟨fun c => (Cert.OutProjIdeal.Gen.dats m 0 c).arrAt 6 Cert.OutProjIdeal.cfg0.N, fun c => (Cert.OutProjIdeal.Gen.dats m 0 c).arrAt 7 Cert.OutProjIdeal.cfg0.N,
    Cert.OutProjIdeal.Value.run_blocks m g, ?_⟩
  refine (θ_run _ _ _).mono (fun r h c => ⟨(h c).1.trans ((Cert.OutProjReferenceIdeal.Read.val_main_v3_eq (F := Ideal) _ _ _ _).trans ?_),
    (h c).2.1.trans ((Cert.OutProjReferenceIdeal.Read.val_main_v17_eq (F := Ideal) _ _ _ _ _).trans ?_), (h c).2.2⟩)
    (Cert.OutProjReferenceIdeal.Value.run (F := Ideal) m' g')
  · obtain ⟨e0, e1, e2, e3, e4⟩ := heq c
    exact output_first_reference_congr m' c _ _ _ _ _ e0 e1 e2 e3 (output_first_array_eq m c)
  · obtain ⟨e0, e1, e2, e3, e4⟩ := heq c
    exact output_second_reference_congr m' c _ _ _ _ _ _ e0 e1 e2 e3 e4 (output_second_array_eq m c)

theorem preserves_output : Cert.preserves_OutProj_OutProjIdeal := trivial

/-! The second feed-forward with the final norm, at the sample's shape. -/

theorem frame_sample : Cert.quiescent_LastSample := fun m g _ => Cert.LastSample.Gen.frame m g

theorem frame_sample_ideal : Cert.quiescent_LastSampleIdeal := fun m g _ => Cert.LastSampleIdeal.Gen.frame m g

theorem frame_sample_reference : Cert.quiescent_LastSampleReferenceIdeal := fun m g _ =>
  (θ_run _ _ _).mono (fun r h => ⟨fun c => (h c).2, sem_eq_zero_of_no_sems (by decide) r.2⟩) (Cert.LastSampleReferenceIdeal.Value.run (F := Ideal) m g)

theorem preserves_sample : Cert.preserves_LastSample_LastSampleIdeal := trivial

/-- On arguments that agree, the kernel's array is the reference's term. -/
theorem sample_array_eq (m : (ℓ : Loc Cert.LastSampleIdeal.nD Cert.LastSampleIdeal.τ Cert.LastSampleIdeal.sig) → Buf (Elt Ideal) ℓ) (c : Dev Cert.LastSampleIdeal.nD) :
    Cert.LastSampleReferenceIdeal.Read.val_main_v22 (F := Ideal) (m (c, Cert.LastSampleIdeal.main_arg0)) (m (c, Cert.LastSampleIdeal.main_arg1)) (m (c, Cert.LastSampleIdeal.main_arg2)) (m (c, Cert.LastSampleIdeal.main_arg3)) (m (c, Cert.LastSampleIdeal.main_arg4))
    = (Cert.LastSampleIdeal.Gen.dats m 0 c).arrAt 6 Cert.LastSampleIdeal.cfg0.N := by
  refine Eq.trans ?_ (Cert.Mlp.Sample.final_eq m c).symm
  funext i
  obtain ⟨r, l, rfl⟩ : ∃ (r : Fin 16384) (l : Fin 2048), i = ix2 r l := ⟨i 0, i 1, funext fun d => match d with | ⟨0, _⟩ => rfl | ⟨1, _⟩ => rfl⟩
  exact Cert.Mlp.SampleRef.v22_at _ _ _ _ _ r l

/-- The reference's term reads the same of arguments that are equal. -/
theorem sample_reference_congr (m' : (ℓ : Loc Cert.LastSampleReferenceIdeal.nD Cert.LastSampleReferenceIdeal.τ Cert.LastSampleReferenceIdeal.sig) → Buf (Elt Ideal) ℓ)
    (c : Dev Cert.LastSampleReferenceIdeal.nD) (y : (⟨Cert.LastSampleReferenceIdeal.S16384x2048, .f32⟩ : BufTy).Contents (Elt Ideal))
    (a0 a1 a2 a3 a4) (e0 : m' (c, Cert.LastSampleReferenceIdeal.main_arg0) = a0) (e1 : m' (c, Cert.LastSampleReferenceIdeal.main_arg1) = a1) (e2 : m' (c, Cert.LastSampleReferenceIdeal.main_arg2) = a2) (e3 : m' (c, Cert.LastSampleReferenceIdeal.main_arg3) = a3) (e4 : m' (c, Cert.LastSampleReferenceIdeal.main_arg4) = a4)
    (h : Cert.LastSampleReferenceIdeal.Read.val_main_v22 (F := Ideal) a0 a1 a2 a3 a4 = y) :
    Cert.LastSampleReferenceIdeal.Read.val_main_v22 (F := Ideal) (m' (c, Cert.LastSampleReferenceIdeal.main_arg0)) (m' (c, Cert.LastSampleReferenceIdeal.main_arg1)) (m' (c, Cert.LastSampleReferenceIdeal.main_arg2)) (m' (c, Cert.LastSampleReferenceIdeal.main_arg3)) (m' (c, Cert.LastSampleReferenceIdeal.main_arg4)) = y := by
  rw [e0, e1, e2, e3, e4]
  exact h

/-- The idealized kernel and the idealized reference end with equal results. -/
theorem sample_algebraic : Cert.algebraic_LastSampleIdeal_LastSampleReferenceIdeal := by
  intro m g m' g' _ heq
  refine ⟨fun c => (Cert.LastSampleIdeal.Gen.dats m 0 c).arrAt 6 Cert.LastSampleIdeal.cfg0.N, Cert.LastSampleIdeal.Value.run_blocks m g, ?_⟩
  refine (θ_run _ _ _).mono (fun r h c => ⟨(h c).1.trans ((Cert.LastSampleReferenceIdeal.Read.val_main_v22_eq (F := Ideal) _ _).trans ?_), (h c).2⟩)
    (Cert.LastSampleReferenceIdeal.Value.run (F := Ideal) m' g')
  obtain ⟨e0, e1, e2, e3, e4⟩ := heq c
  exact sample_reference_congr m' c _ _ _ _ _ _ e0 e1 e2 e3 e4 (sample_array_eq m c)

/-- The certificate. -/
theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Last.Gen.facts, Cert.LastIdeal.Gen.facts, Cert.LastReferenceIdeal.Gen.facts,
    Cert.InProj.Gen.facts, Cert.InProjIdeal.Gen.facts, Cert.InProjReferenceIdeal.Gen.facts, Cert.OutProj.Gen.facts, Cert.OutProjIdeal.Gen.facts,
    Cert.OutProjReferenceIdeal.Gen.facts, Cert.LastSample.Gen.facts, Cert.LastSampleIdeal.Gen.facts, Cert.LastSampleReferenceIdeal.Gen.facts, finite_facts,
    frame_kernel, frame_ideal, frame_ideal_finite, frame_reference, frame_reference_finite, frame_first, frame_first_ideal, frame_first_reference,
    frame_last, frame_last_ideal, frame_last_reference, frame_input, frame_input_ideal, frame_input_reference, frame_output, frame_output_ideal,
    frame_output_reference, frame_sample, frame_sample_ideal, frame_sample_reference, preserves, algebraic, preserves_first, first_algebraic, preserves_last, last_algebraic,
    preserves_input, input_algebraic, preserves_output, output_algebraic,
    preserves_sample, sample_algebraic⟩

end Cert.Proof

end
